-- ==== Defs.lean ====
def Pre_Mixers (m : (ℓ : Loc Cert.Mixers.nD Cert.Mixers.τ Cert.Mixers.sig) → Buf (Elt Bits) ℓ) : Prop :=
  True

def Pre_InGla (m : (ℓ : Loc Cert.InGla.nD Cert.InGla.τ Cert.InGla.sig) → Buf (Elt Bits) ℓ) : Prop :=
  True

def Pre_InGlaIdeal (m : (ℓ : Loc Cert.InGlaIdeal.nD Cert.InGlaIdeal.τ Cert.InGlaIdeal.sig) → Buf (Elt Ideal) ℓ) : Prop :=
  True

def Pre_RefInGlaIdeal (m : (ℓ : Loc Cert.RefInGlaIdeal.nD Cert.RefInGlaIdeal.τ Cert.RefInGlaIdeal.sig) → Buf (Elt Ideal) ℓ) : Prop :=
  True

def Pre_InSsd (m : (ℓ : Loc Cert.InSsd.nD Cert.InSsd.τ Cert.InSsd.sig) → Buf (Elt Bits) ℓ) : Prop :=
  True

def Pre_InSsdIdeal (m : (ℓ : Loc Cert.InSsdIdeal.nD Cert.InSsdIdeal.τ Cert.InSsdIdeal.sig) → Buf (Elt Ideal) ℓ) : Prop :=
  True

def Pre_RefInSsdIdeal (m : (ℓ : Loc Cert.RefInSsdIdeal.nD Cert.RefInSsdIdeal.τ Cert.RefInSsdIdeal.sig) → Buf (Elt Ideal) ℓ) : Prop :=
  True

def Pre_InMlstm (m : (ℓ : Loc Cert.InMlstm.nD Cert.InMlstm.τ Cert.InMlstm.sig) → Buf (Elt Bits) ℓ) : Prop :=
  True

def Pre_InMlstmIdeal (m : (ℓ : Loc Cert.InMlstmIdeal.nD Cert.InMlstmIdeal.τ Cert.InMlstmIdeal.sig) → Buf (Elt Ideal) ℓ) : Prop :=
  True

def Pre_RefInMlstmIdeal (m : (ℓ : Loc Cert.RefInMlstmIdeal.nD Cert.RefInMlstmIdeal.τ Cert.RefInMlstmIdeal.sig) → Buf (Elt Ideal) ℓ) : Prop :=
  True

def Pre_InRwkvA (m : (ℓ : Loc Cert.InRwkvA.nD Cert.InRwkvA.τ Cert.InRwkvA.sig) → Buf (Elt Bits) ℓ) : Prop :=
  True

def Pre_InRwkvAIdeal (m : (ℓ : Loc Cert.InRwkvAIdeal.nD Cert.InRwkvAIdeal.τ Cert.InRwkvAIdeal.sig) → Buf (Elt Ideal) ℓ) : Prop :=
  True

def Pre_RefInRwkvAIdeal (m : (ℓ : Loc Cert.RefInRwkvAIdeal.nD Cert.RefInRwkvAIdeal.τ Cert.RefInRwkvAIdeal.sig) → Buf (Elt Ideal) ℓ) : Prop :=
  True

def Pre_InRwkvB (m : (ℓ : Loc Cert.InRwkvB.nD Cert.InRwkvB.τ Cert.InRwkvB.sig) → Buf (Elt Bits) ℓ) : Prop :=
  True

def Pre_InRwkvBIdeal (m : (ℓ : Loc Cert.InRwkvBIdeal.nD Cert.InRwkvBIdeal.τ Cert.InRwkvBIdeal.sig) → Buf (Elt Ideal) ℓ) : Prop :=
  True

def Pre_RefInRwkvBIdeal (m : (ℓ : Loc Cert.RefInRwkvBIdeal.nD Cert.RefInRwkvBIdeal.τ Cert.RefInRwkvBIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_RefOutAIdeal (m : (ℓ : Loc Cert.RefOutAIdeal.nD Cert.RefOutAIdeal.τ Cert.RefOutAIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_RefOutBIdeal (m : (ℓ : Loc Cert.RefOutBIdeal.nD Cert.RefOutBIdeal.τ Cert.RefOutBIdeal.sig) → Buf (Elt Ideal) ℓ) : Prop :=
  True

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8)
      ∧ r.2.mem ((c.tc : Thread Cert.Mixers.nD Cert.Mixers.τ).loc Cert.Mixers.main_arg9) = m ((c.tc : Thread Cert.Mixers.nD Cert.Mixers.τ).loc Cert.Mixers.main_arg9)
      ∧ r.2.mem ((c.tc : Thread Cert.Mixers.nD Cert.Mixers.τ).loc Cert.Mixers.main_arg10) = m ((c.tc : Thread Cert.Mixers.nD Cert.Mixers.τ).loc Cert.Mixers.main_arg10)
      ∧ r.2.mem ((c.tc : Thread Cert.Mixers.nD Cert.Mixers.τ).loc Cert.Mixers.main_arg11) = m ((c.tc : Thread Cert.Mixers.nD Cert.Mixers.τ).loc Cert.Mixers.main_arg11)
      ∧ r.2.mem ((c.tc : Thread Cert.Mixers.nD Cert.Mixers.τ).loc Cert.Mixers.main_arg12) = m ((c.tc : Thread Cert.Mixers.nD Cert.Mixers.τ).loc Cert.Mixers.main_arg12)
      ∧ r.2.mem ((c.tc : Thread Cert.Mixers.nD Cert.Mixers.τ).loc Cert.Mixers.main_arg13) = m ((c.tc : Thread Cert.Mixers.nD Cert.Mixers.τ).loc Cert.Mixers.main_arg13)
      ∧ r.2.mem ((c.tc : Thread Cert.Mixers.nD Cert.Mixers.τ).loc Cert.Mixers.main_arg14) = m ((c.tc : Thread Cert.Mixers.nD Cert.Mixers.τ).loc Cert.Mixers.main_arg14)
      ∧ r.2.mem ((c.tc : Thread Cert.Mixers.nD Cert.Mixers.τ).loc Cert.Mixers.main_arg15) = m ((c.tc : Thread Cert.Mixers.nD Cert.Mixers.τ).loc Cert.Mixers.main_arg15)
      ∧ r.2.mem ((c.tc : Thread Cert.Mixers.nD Cert.Mixers.τ).loc Cert.Mixers.main_arg16) = m ((c.tc : Thread Cert.Mixers.nD Cert.Mixers.τ).loc Cert.Mixers.main_arg16)
      ∧ r.2.mem ((c.tc : Thread Cert.Mixers.nD Cert.Mixers.τ).loc Cert.Mixers.main_arg17) = m ((c.tc : Thread Cert.Mixers.nD Cert.Mixers.τ).loc Cert.Mixers.main_arg17)
      ∧ r.2.mem ((c.tc : Thread Cert.Mixers.nD Cert.Mixers.τ).loc Cert.Mixers.main_arg18) = m ((c.tc : Thread Cert.Mixers.nD Cert.Mixers.τ).loc Cert.Mixers.main_arg18)
      ∧ r.2.mem ((c.tc : Thread Cert.Mixers.nD Cert.Mixers.τ).loc Cert.Mixers.main_arg19) = m ((c.tc : Thread Cert.Mixers.nD Cert.Mixers.τ).loc Cert.Mixers.main_arg19)
      ∧ r.2.mem ((c.tc : Thread Cert.Mixers.nD Cert.Mixers.τ).loc Cert.Mixers.main_arg20) = m ((c.tc : Thread Cert.Mixers.nD Cert.Mixers.τ).loc Cert.Mixers.main_arg20)
      ∧ r.2.mem ((c.tc : Thread Cert.Mixers.nD Cert.Mixers.τ).loc Cert.Mixers.main_arg21) = m ((c.tc : Thread Cert.Mixers.nD Cert.Mixers.τ).loc Cert.Mixers.main_arg21)
      ∧ r.2.mem ((c.tc : Thread Cert.Mixers.nD Cert.Mixers.τ).loc Cert.Mixers.main_arg22) = m ((c.tc : Thread Cert.Mixers.nD Cert.Mixers.τ).loc Cert.Mixers.main_arg22)
      ∧ r.2.mem ((c.tc : Thread Cert.Mixers.nD Cert.Mixers.τ).loc Cert.Mixers.main_arg23) = m ((c.tc : Thread Cert.Mixers.nD Cert.Mixers.τ).loc Cert.Mixers.main_arg23)
      ∧ r.2.mem ((c.tc : Thread Cert.Mixers.nD Cert.Mixers.τ).loc Cert.Mixers.main_arg24) = m ((c.tc : Thread Cert.Mixers.nD Cert.Mixers.τ).loc Cert.Mixers.main_arg24)
      ∧ r.2.mem ((c.tc : Thread Cert.Mixers.nD Cert.Mixers.τ).loc Cert.Mixers.main_arg25) = m ((c.tc : Thread Cert.Mixers.nD Cert.Mixers.τ).loc Cert.Mixers.main_arg25)
      ∧ r.2.mem ((c.tc : Thread Cert.Mixers.nD Cert.Mixers.τ).loc Cert.Mixers.main_arg26) = m ((c.tc : Thread Cert.Mixers.nD Cert.Mixers.τ).loc Cert.Mixers.main_arg26)
      ∧ r.2.mem ((c.tc : Thread Cert.Mixers.nD Cert.Mixers.τ).loc Cert.Mixers.main_arg27) = m ((c.tc : Thread Cert.Mixers.nD Cert.Mixers.τ).loc Cert.Mixers.main_arg27)
      ∧ r.2.mem ((c.tc : Thread Cert.Mixers.nD Cert.Mixers.τ).loc Cert.Mixers.main_arg28) = m ((c.tc : Thread Cert.Mixers.nD Cert.Mixers.τ).loc Cert.Mixers.main_arg28)
      ∧ r.2.mem ((c.tc : Thread Cert.Mixers.nD Cert.Mixers.τ).loc Cert.Mixers.main_arg29) = m ((c.tc : Thread Cert.Mixers.nD Cert.Mixers.τ).loc Cert.Mixers.main_arg29)
      ∧ r.2.mem ((c.tc : Thread Cert.Mixers.nD Cert.Mixers.τ).loc Cert.Mixers.main_arg30) = m ((c.tc : Thread Cert.Mixers.nD Cert.Mixers.τ).loc Cert.Mixers.main_arg30)
      ∧ r.2.mem ((c.tc : Thread Cert.Mixers.nD Cert.Mixers.τ).loc Cert.Mixers.main_arg31) = m ((c.tc : Thread Cert.Mixers.nD Cert.Mixers.τ).loc Cert.Mixers.main_arg31)
      ∧ r.2.mem ((c.tc : Thread Cert.Mixers.nD Cert.Mixers.τ).loc Cert.Mixers.main_arg32) = m ((c.tc : Thread Cert.Mixers.nD Cert.Mixers.τ).loc Cert.Mixers.main_arg32)
      ∧ r.2.mem ((c.tc : Thread Cert.Mixers.nD Cert.Mixers.τ).loc Cert.Mixers.main_arg33) = m ((c.tc : Thread Cert.Mixers.nD Cert.Mixers.τ).loc Cert.Mixers.main_arg33)
      ∧ r.2.mem ((c.tc : Thread Cert.Mixers.nD Cert.Mixers.τ).loc Cert.Mixers.main_arg34) = m ((c.tc : Thread Cert.Mixers.nD Cert.Mixers.τ).loc Cert.Mixers.main_arg34)
      ∧ r.2.mem ((c.tc : Thread Cert.Mixers.nD Cert.Mixers.τ).loc Cert.Mixers.main_arg35) = m ((c.tc : Thread Cert.Mixers.nD Cert.Mixers.τ).loc Cert.Mixers.main_arg35)
      ∧ r.2.mem ((c.tc : Thread Cert.Mixers.nD Cert.Mixers.τ).loc Cert.Mixers.main_arg36) = m ((c.tc : Thread Cert.Mixers.nD Cert.Mixers.τ).loc Cert.Mixers.main_arg36)
      ∧ r.2.mem ((c.tc : Thread Cert.Mixers.nD Cert.Mixers.τ).loc Cert.Mixers.main_arg37) = m ((c.tc : Thread Cert.Mixers.nD Cert.Mixers.τ).loc Cert.Mixers.main_arg37)
      ∧ r.2.mem ((c.tc : Thread Cert.Mixers.nD Cert.Mixers.τ).loc Cert.Mixers.main_arg38) = m ((c.tc : Thread Cert.Mixers.nD Cert.Mixers.τ).loc Cert.Mixers.main_arg38)
      ∧ r.2.mem ((c.tc : Thread Cert.Mixers.nD Cert.Mixers.τ).loc Cert.Mixers.main_arg39) = m ((c.tc : Thread Cert.Mixers.nD Cert.Mixers.τ).loc Cert.Mixers.main_arg39)
      ∧ r.2.mem ((c.tc : Thread Cert.Mixers.nD Cert.Mixers.τ).loc Cert.Mixers.main_arg40) = m ((c.tc : Thread Cert.Mixers.nD Cert.Mixers.τ).loc Cert.Mixers.main_arg40)
      ∧ r.2.mem ((c.tc : Thread Cert.Mixers.nD Cert.Mixers.τ).loc Cert.Mixers.main_arg41) = m ((c.tc : Thread Cert.Mixers.nD Cert.Mixers.τ).loc Cert.Mixers.main_arg41))
      ∧ r.2.sem = fun _ => 0)

def quiescent_InGla [hInGla : Cert.InGla.Facts] : Prop :=
  ∀ (m : (ℓ : Loc Cert.InGla.nD Cert.InGla.τ Cert.InGla.sig) → Buf (Elt Bits) ℓ) (g : Dev Cert.InGla.nD → PrngReg), Pre_InGla m →
    θ_run (Cert.InGla.defs (F := Bits)) (onTc (τ := Cert.InGla.τ) (Cert.InGla.main (F := Bits))) ⟨m, fun _ => 0, g⟩ (fun r => (∀ c : Dev Cert.InGla.nD,
      r.2.mem ((c.tc : Thread Cert.InGla.nD Cert.InGla.τ).loc Cert.InGla.main_arg0) = m ((c.tc : Thread Cert.InGla.nD Cert.InGla.τ).loc Cert.InGla.main_arg0)
      ∧ r.2.mem ((c.tc : Thread Cert.InGla.nD Cert.InGla.τ).loc Cert.InGla.main_arg1) = m ((c.tc : Thread Cert.InGla.nD Cert.InGla.τ).loc Cert.InGla.main_arg1)
      ∧ r.2.mem ((c.tc : Thread Cert.InGla.nD Cert.InGla.τ).loc Cert.InGla.main_arg2) = m ((c.tc : Thread Cert.InGla.nD Cert.InGla.τ).loc Cert.InGla.main_arg2))
      ∧ r.2.sem = fun _ => 0)

def quiescent_InGlaIdeal [hInGlaIdeal : Cert.InGlaIdeal.Facts] : Prop :=
  ∀ (m : (ℓ : Loc Cert.InGlaIdeal.nD Cert.InGlaIdeal.τ Cert.InGlaIdeal.sig) → Buf (Elt Ideal) ℓ) (g : Dev Cert.InGlaIdeal.nD → PrngReg), Pre_InGlaIdeal m →
    θ_run (Cert.InGlaIdeal.defs (F := Ideal)) (onTc (τ := Cert.InGlaIdeal.τ) (Cert.InGlaIdeal.main (F := Ideal))) ⟨m, fun _ => 0, g⟩ (fun r => (∀ c : Dev Cert.InGlaIdeal.nD,
      r.2.mem ((c.tc : Thread Cert.InGlaIdeal.nD Cert.InGlaIdeal.τ).loc Cert.InGlaIdeal.main_arg0) = m ((c.tc : Thread Cert.InGlaIdeal.nD Cert.InGlaIdeal.τ).loc Cert.InGlaIdeal.main_arg0)
      ∧ r.2.mem ((c.tc : Thread Cert.InGlaIdeal.nD Cert.InGlaIdeal.τ).loc Cert.InGlaIdeal.main_arg1) = m ((c.tc : Thread Cert.InGlaIdeal.nD Cert.InGlaIdeal.τ).loc Cert.InGlaIdeal.main_arg1)
      ∧ r.2.mem ((c.tc : Thread Cert.InGlaIdeal.nD Cert.InGlaIdeal.τ).loc Cert.InGlaIdeal.main_arg2) = m ((c.tc : Thread Cert.InGlaIdeal.nD Cert.InGlaIdeal.τ).loc Cert.InGlaIdeal.main_arg2))
      ∧ r.2.sem = fun _ => 0)

def quiescent_RefInGlaIdeal [hRefInGlaIdeal : Cert.RefInGlaIdeal.Facts] : Prop :=
  ∀ (m : (ℓ : Loc Cert.RefInGlaIdeal.nD Cert.RefInGlaIdeal.τ Cert.RefInGlaIdeal.sig) → Buf (Elt Ideal) ℓ) (g : Dev Cert.RefInGlaIdeal.nD → PrngReg), Pre_RefInGlaIdeal m →
    θ_run (Cert.RefInGlaIdeal.defs (F := Ideal)) (onTc (τ := Cert.RefInGlaIdeal.τ) (Cert.RefInGlaIdeal.main (F := Ideal))) ⟨m, fun _ => 0, g⟩ (fun r => (∀ c : Dev Cert.RefInGlaIdeal.nD,
      r.2.mem ((c.tc : Thread Cert.RefInGlaIdeal.nD Cert.RefInGlaIdeal.τ).loc Cert.RefInGlaIdeal.main_arg0) = m ((c.tc : Thread Cert.RefInGlaIdeal.nD Cert.RefInGlaIdeal.τ).loc Cert.RefInGlaIdeal.main_arg0)
      ∧ r.2.mem ((c.tc : Thread Cert.RefInGlaIdeal.nD Cert.RefInGlaIdeal.τ).loc Cert.RefInGlaIdeal.main_arg1) = m ((c.tc : Thread Cert.RefInGlaIdeal.nD Cert.RefInGlaIdeal.τ).loc Cert.RefInGlaIdeal.main_arg1)
      ∧ r.2.mem ((c.tc : Thread Cert.RefInGlaIdeal.nD Cert.RefInGlaIdeal.τ).loc Cert.RefInGlaIdeal.main_arg2) = m ((c.tc : Thread Cert.RefInGlaIdeal.nD Cert.RefInGlaIdeal.τ).loc Cert.RefInGlaIdeal.main_arg2))
      ∧ r.2.sem = fun _ => 0)

def quiescent_InSsd [hInSsd : Cert.InSsd.Facts] : Prop :=
  ∀ (m : (ℓ : Loc Cert.InSsd.nD Cert.InSsd.τ Cert.InSsd.sig) → Buf (Elt Bits) ℓ) (g : Dev Cert.InSsd.nD → PrngReg), Pre_InSsd m →
    θ_run (Cert.InSsd.defs (F := Bits)) (onTc (τ := Cert.InSsd.τ) (Cert.InSsd.main (F := Bits))) ⟨m, fun _ => 0, g⟩ (fun r => (∀ c : Dev Cert.InSsd.nD,
      r.2.mem ((c.tc : Thread Cert.InSsd.nD Cert.InSsd.τ).loc Cert.InSsd.main_arg0) = m ((c.tc : Thread Cert.InSsd.nD Cert.InSsd.τ).loc Cert.InSsd.main_arg0)
      ∧ r.2.mem ((c.tc : Thread Cert.InSsd.nD Cert.InSsd.τ).loc Cert.InSsd.main_arg1) = m ((c.tc : Thread Cert.InSsd.nD Cert.InSsd.τ).loc Cert.InSsd.main_arg1)
      ∧ r.2.mem ((c.tc : Thread Cert.InSsd.nD Cert.InSsd.τ).loc Cert.InSsd.main_arg2) = m ((c.tc : Thread Cert.InSsd.nD Cert.InSsd.τ).loc Cert.InSsd.main_arg2))
      ∧ r.2.sem = fun _ => 0)

def quiescent_InSsdIdeal [hInSsdIdeal : Cert.InSsdIdeal.Facts] : Prop :=
  ∀ (m : (ℓ : Loc Cert.InSsdIdeal.nD Cert.InSsdIdeal.τ Cert.InSsdIdeal.sig) → Buf (Elt Ideal) ℓ) (g : Dev Cert.InSsdIdeal.nD → PrngReg), Pre_InSsdIdeal m →
    θ_run (Cert.InSsdIdeal.defs (F := Ideal)) (onTc (τ := Cert.InSsdIdeal.τ) (Cert.InSsdIdeal.main (F := Ideal))) ⟨m, fun _ => 0, g⟩ (fun r => (∀ c : Dev Cert.InSsdIdeal.nD,
      r.2.mem ((c.tc : Thread Cert.InSsdIdeal.nD Cert.InSsdIdeal.τ).loc Cert.InSsdIdeal.main_arg0) = m ((c.tc : Thread Cert.InSsdIdeal.nD Cert.InSsdIdeal.τ).loc Cert.InSsdIdeal.main_arg0)
      ∧ r.2.mem ((c.tc : Thread Cert.InSsdIdeal.nD Cert.InSsdIdeal.τ).loc Cert.InSsdIdeal.main_arg1) = m ((c.tc : Thread Cert.InSsdIdeal.nD Cert.InSsdIdeal.τ).loc Cert.InSsdIdeal.main_arg1)
      ∧ r.2.mem ((c.tc : Thread Cert.InSsdIdeal.nD Cert.InSsdIdeal.τ).loc Cert.InSsdIdeal.main_arg2) = m ((c.tc : Thread Cert.InSsdIdeal.nD Cert.InSsdIdeal.τ).loc Cert.InSsdIdeal.main_arg2))
      ∧ r.2.sem = fun _ => 0)

def quiescent_RefInSsdIdeal [hRefInSsdIdeal : Cert.RefInSsdIdeal.Facts] : Prop :=
  ∀ (m : (ℓ : Loc Cert.RefInSsdIdeal.nD Cert.RefInSsdIdeal.τ Cert.RefInSsdIdeal.sig) → Buf (Elt Ideal) ℓ) (g : Dev Cert.RefInSsdIdeal.nD → PrngReg), Pre_RefInSsdIdeal m →
    θ_run (Cert.RefInSsdIdeal.defs (F := Ideal)) (onTc (τ := Cert.RefInSsdIdeal.τ) (Cert.RefInSsdIdeal.main (F := Ideal))) ⟨m, fun _ => 0, g⟩ (fun r => (∀ c : Dev Cert.RefInSsdIdeal.nD,
      r.2.mem ((c.tc : Thread Cert.RefInSsdIdeal.nD Cert.RefInSsdIdeal.τ).loc Cert.RefInSsdIdeal.main_arg0) = m ((c.tc : Thread Cert.RefInSsdIdeal.nD Cert.RefInSsdIdeal.τ).loc Cert.RefInSsdIdeal.main_arg0)
      ∧ r.2.mem ((c.tc : Thread Cert.RefInSsdIdeal.nD Cert.RefInSsdIdeal.τ).loc Cert.RefInSsdIdeal.main_arg1) = m ((c.tc : Thread Cert.RefInSsdIdeal.nD Cert.RefInSsdIdeal.τ).loc Cert.RefInSsdIdeal.main_arg1)
      ∧ r.2.mem ((c.tc : Thread Cert.RefInSsdIdeal.nD Cert.RefInSsdIdeal.τ).loc Cert.RefInSsdIdeal.main_arg2) = m ((c.tc : Thread Cert.RefInSsdIdeal.nD Cert.RefInSsdIdeal.τ).loc Cert.RefInSsdIdeal.main_arg2))
      ∧ r.2.sem = fun _ => 0)

def quiescent_InMlstm [hInMlstm : Cert.InMlstm.Facts] : Prop :=
  ∀ (m : (ℓ : Loc Cert.InMlstm.nD Cert.InMlstm.τ Cert.InMlstm.sig) → Buf (Elt Bits) ℓ) (g : Dev Cert.InMlstm.nD → PrngReg), Pre_InMlstm m →
    θ_run (Cert.InMlstm.defs (F := Bits)) (onTc (τ := Cert.InMlstm.τ) (Cert.InMlstm.main (F := Bits))) ⟨m, fun _ => 0, g⟩ (fun r => (∀ c : Dev Cert.InMlstm.nD,
      r.2.mem ((c.tc : Thread Cert.InMlstm.nD Cert.InMlstm.τ).loc Cert.InMlstm.main_arg0) = m ((c.tc : Thread Cert.InMlstm.nD Cert.InMlstm.τ).loc Cert.InMlstm.main_arg0)
      ∧ r.2.mem ((c.tc : Thread Cert.InMlstm.nD Cert.InMlstm.τ).loc Cert.InMlstm.main_arg1) = m ((c.tc : Thread Cert.InMlstm.nD Cert.InMlstm.τ).loc Cert.InMlstm.main_arg1)
      ∧ r.2.mem ((c.tc : Thread Cert.InMlstm.nD Cert.InMlstm.τ).loc Cert.InMlstm.main_arg2) = m ((c.tc : Thread Cert.InMlstm.nD Cert.InMlstm.τ).loc Cert.InMlstm.main_arg2))
      ∧ r.2.sem = fun _ => 0)

def quiescent_InMlstmIdeal [hInMlstmIdeal : Cert.InMlstmIdeal.Facts] : Prop :=
  ∀ (m : (ℓ : Loc Cert.InMlstmIdeal.nD Cert.InMlstmIdeal.τ Cert.InMlstmIdeal.sig) → Buf (Elt Ideal) ℓ) (g : Dev Cert.InMlstmIdeal.nD → PrngReg), Pre_InMlstmIdeal m →
    θ_run (Cert.InMlstmIdeal.defs (F := Ideal)) (onTc (τ := Cert.InMlstmIdeal.τ) (Cert.InMlstmIdeal.main (F := Ideal))) ⟨m, fun _ => 0, g⟩ (fun r => (∀ c : Dev Cert.InMlstmIdeal.nD,
      r.2.mem ((c.tc : Thread Cert.InMlstmIdeal.nD Cert.InMlstmIdeal.τ).loc Cert.InMlstmIdeal.main_arg0) = m ((c.tc : Thread Cert.InMlstmIdeal.nD Cert.InMlstmIdeal.τ).loc Cert.InMlstmIdeal.main_arg0)
      ∧ r.2.mem ((c.tc : Thread Cert.InMlstmIdeal.nD Cert.InMlstmIdeal.τ).loc Cert.InMlstmIdeal.main_arg1) = m ((c.tc : Thread Cert.InMlstmIdeal.nD Cert.InMlstmIdeal.τ).loc Cert.InMlstmIdeal.main_arg1)
      ∧ r.2.mem ((c.tc : Thread Cert.InMlstmIdeal.nD Cert.InMlstmIdeal.τ).loc Cert.InMlstmIdeal.main_arg2) = m ((c.tc : Thread Cert.InMlstmIdeal.nD Cert.InMlstmIdeal.τ).loc Cert.InMlstmIdeal.main_arg2))
      ∧ r.2.sem = fun _ => 0)

def quiescent_RefInMlstmIdeal [hRefInMlstmIdeal : Cert.RefInMlstmIdeal.Facts] : Prop :=
  ∀ (m : (ℓ : Loc Cert.RefInMlstmIdeal.nD Cert.RefInMlstmIdeal.τ Cert.RefInMlstmIdeal.sig) → Buf (Elt Ideal) ℓ) (g : Dev Cert.RefInMlstmIdeal.nD → PrngReg), Pre_RefInMlstmIdeal m →
    θ_run (Cert.RefInMlstmIdeal.defs (F := Ideal)) (onTc (τ := Cert.RefInMlstmIdeal.τ) (Cert.RefInMlstmIdeal.main (F := Ideal))) ⟨m, fun _ => 0, g⟩ (fun r => (∀ c : Dev Cert.RefInMlstmIdeal.nD,
      r.2.mem ((c.tc : Thread Cert.RefInMlstmIdeal.nD Cert.RefInMlstmIdeal.τ).loc Cert.RefInMlstmIdeal.main_arg0) = m ((c.tc : Thread Cert.RefInMlstmIdeal.nD Cert.RefInMlstmIdeal.τ).loc Cert.RefInMlstmIdeal.main_arg0)
      ∧ r.2.mem ((c.tc : Thread Cert.RefInMlstmIdeal.nD Cert.RefInMlstmIdeal.τ).loc Cert.RefInMlstmIdeal.main_arg1) = m ((c.tc : Thread Cert.RefInMlstmIdeal.nD Cert.RefInMlstmIdeal.τ).loc Cert.RefInMlstmIdeal.main_arg1)
      ∧ r.2.mem ((c.tc : Thread Cert.RefInMlstmIdeal.nD Cert.RefInMlstmIdeal.τ).loc Cert.RefInMlstmIdeal.main_arg2) = m ((c.tc : Thread Cert.RefInMlstmIdeal.nD Cert.RefInMlstmIdeal.τ).loc Cert.RefInMlstmIdeal.main_arg2))
      ∧ r.2.sem = fun _ => 0)

def quiescent_InRwkvA [hInRwkvA : Cert.InRwkvA.Facts] : Prop :=
  ∀ (m : (ℓ : Loc Cert.InRwkvA.nD Cert.InRwkvA.τ Cert.InRwkvA.sig) → Buf (Elt Bits) ℓ) (g : Dev Cert.InRwkvA.nD → PrngReg), Pre_InRwkvA m →
    θ_run (Cert.InRwkvA.defs (F := Bits)) (onTc (τ := Cert.InRwkvA.τ) (Cert.InRwkvA.main (F := Bits))) ⟨m, fun _ => 0, g⟩ (fun r => (∀ c : Dev Cert.InRwkvA.nD,
      r.2.mem ((c.tc : Thread Cert.InRwkvA.nD Cert.InRwkvA.τ).loc Cert.InRwkvA.main_arg0) = m ((c.tc : Thread Cert.InRwkvA.nD Cert.InRwkvA.τ).loc Cert.InRwkvA.main_arg0)
      ∧ r.2.mem ((c.tc : Thread Cert.InRwkvA.nD Cert.InRwkvA.τ).loc Cert.InRwkvA.main_arg1) = m ((c.tc : Thread Cert.InRwkvA.nD Cert.InRwkvA.τ).loc Cert.InRwkvA.main_arg1)
      ∧ r.2.mem ((c.tc : Thread Cert.InRwkvA.nD Cert.InRwkvA.τ).loc Cert.InRwkvA.main_arg2) = m ((c.tc : Thread Cert.InRwkvA.nD Cert.InRwkvA.τ).loc Cert.InRwkvA.main_arg2))
      ∧ r.2.sem = fun _ => 0)

def quiescent_InRwkvAIdeal [hInRwkvAIdeal : Cert.InRwkvAIdeal.Facts] : Prop :=
  ∀ (m : (ℓ : Loc Cert.InRwkvAIdeal.nD Cert.InRwkvAIdeal.τ Cert.InRwkvAIdeal.sig) → Buf (Elt Ideal) ℓ) (g : Dev Cert.InRwkvAIdeal.nD → PrngReg), Pre_InRwkvAIdeal m →
    θ_run (Cert.InRwkvAIdeal.defs (F := Ideal)) (onTc (τ := Cert.InRwkvAIdeal.τ) (Cert.InRwkvAIdeal.main (F := Ideal))) ⟨m, fun _ => 0, g⟩ (fun r => (∀ c : Dev Cert.InRwkvAIdeal.nD,
      r.2.mem ((c.tc : Thread Cert.InRwkvAIdeal.nD Cert.InRwkvAIdeal.τ).loc Cert.InRwkvAIdeal.main_arg0) = m ((c.tc : Thread Cert.InRwkvAIdeal.nD Cert.InRwkvAIdeal.τ).loc Cert.InRwkvAIdeal.main_arg0)
      ∧ r.2.mem ((c.tc : Thread Cert.InRwkvAIdeal.nD Cert.InRwkvAIdeal.τ).loc Cert.InRwkvAIdeal.main_arg1) = m ((c.tc : Thread Cert.InRwkvAIdeal.nD Cert.InRwkvAIdeal.τ).loc Cert.InRwkvAIdeal.main_arg1)
      ∧ r.2.mem ((c.tc : Thread Cert.InRwkvAIdeal.nD Cert.InRwkvAIdeal.τ).loc Cert.InRwkvAIdeal.main_arg2) = m ((c.tc : Thread Cert.InRwkvAIdeal.nD Cert.InRwkvAIdeal.τ).loc Cert.InRwkvAIdeal.main_arg2))
      ∧ r.2.sem = fun _ => 0)

def quiescent_RefInRwkvAIdeal [hRefInRwkvAIdeal : Cert.RefInRwkvAIdeal.Facts] : Prop :=
  ∀ (m : (ℓ : Loc Cert.RefInRwkvAIdeal.nD Cert.RefInRwkvAIdeal.τ Cert.RefInRwkvAIdeal.sig) → Buf (Elt Ideal) ℓ) (g : Dev Cert.RefInRwkvAIdeal.nD → PrngReg), Pre_RefInRwkvAIdeal m →
    θ_run (Cert.RefInRwkvAIdeal.defs (F := Ideal)) (onTc (τ := Cert.RefInRwkvAIdeal.τ) (Cert.RefInRwkvAIdeal.main (F := Ideal))) ⟨m, fun _ => 0, g⟩ (fun r => (∀ c : Dev Cert.RefInRwkvAIdeal.nD,
      r.2.mem ((c.tc : Thread Cert.RefInRwkvAIdeal.nD Cert.RefInRwkvAIdeal.τ).loc Cert.RefInRwkvAIdeal.main_arg0) = m ((c.tc : Thread Cert.RefInRwkvAIdeal.nD Cert.RefInRwkvAIdeal.τ).loc Cert.RefInRwkvAIdeal.main_arg0)
      ∧ r.2.mem ((c.tc : Thread Cert.RefInRwkvAIdeal.nD Cert.RefInRwkvAIdeal.τ).loc Cert.RefInRwkvAIdeal.main_arg1) = m ((c.tc : Thread Cert.RefInRwkvAIdeal.nD Cert.RefInRwkvAIdeal.τ).loc Cert.RefInRwkvAIdeal.main_arg1)
      ∧ r.2.mem ((c.tc : Thread Cert.RefInRwkvAIdeal.nD Cert.RefInRwkvAIdeal.τ).loc Cert.RefInRwkvAIdeal.main_arg2) = m ((c.tc : Thread Cert.RefInRwkvAIdeal.nD Cert.RefInRwkvAIdeal.τ).loc Cert.RefInRwkvAIdeal.main_arg2))
      ∧ r.2.sem = fun _ => 0)

def quiescent_InRwkvB [hInRwkvB : Cert.InRwkvB.Facts] : Prop :=
  ∀ (m : (ℓ : Loc Cert.InRwkvB.nD Cert.InRwkvB.τ Cert.InRwkvB.sig) → Buf (Elt Bits) ℓ) (g : Dev Cert.InRwkvB.nD → PrngReg), Pre_InRwkvB m →
    θ_run (Cert.InRwkvB.defs (F := Bits)) (onTc (τ := Cert.InRwkvB.τ) (Cert.InRwkvB.main (F := Bits))) ⟨m, fun _ => 0, g⟩ (fun r => (∀ c : Dev Cert.InRwkvB.nD,
      r.2.mem ((c.tc : Thread Cert.InRwkvB.nD Cert.InRwkvB.τ).loc Cert.InRwkvB.main_arg0) = m ((c.tc : Thread Cert.InRwkvB.nD Cert.InRwkvB.τ).loc Cert.InRwkvB.main_arg0)
      ∧ r.2.mem ((c.tc : Thread Cert.InRwkvB.nD Cert.InRwkvB.τ).loc Cert.InRwkvB.main_arg1) = m ((c.tc : Thread Cert.InRwkvB.nD Cert.InRwkvB.τ).loc Cert.InRwkvB.main_arg1)
      ∧ r.2.mem ((c.tc : Thread Cert.InRwkvB.nD Cert.InRwkvB.τ).loc Cert.InRwkvB.main_arg2) = m ((c.tc : Thread Cert.InRwkvB.nD Cert.InRwkvB.τ).loc Cert.InRwkvB.main_arg2))
      ∧ r.2.sem = fun _ => 0)

def quiescent_InRwkvBIdeal [hInRwkvBIdeal : Cert.InRwkvBIdeal.Facts] : Prop :=
  ∀ (m : (ℓ : Loc Cert.InRwkvBIdeal.nD Cert.InRwkvBIdeal.τ Cert.InRwkvBIdeal.sig) → Buf (Elt Ideal) ℓ) (g : Dev Cert.InRwkvBIdeal.nD → PrngReg), Pre_InRwkvBIdeal m →
    θ_run (Cert.InRwkvBIdeal.defs (F := Ideal)) (onTc (τ := Cert.InRwkvBIdeal.τ) (Cert.InRwkvBIdeal.main (F := Ideal))) ⟨m, fun _ => 0, g⟩ (fun r => (∀ c : Dev Cert.InRwkvBIdeal.nD,
      r.2.mem ((c.tc : Thread Cert.InRwkvBIdeal.nD Cert.InRwkvBIdeal.τ).loc Cert.InRwkvBIdeal.main_arg0) = m ((c.tc : Thread Cert.InRwkvBIdeal.nD Cert.InRwkvBIdeal.τ).loc Cert.InRwkvBIdeal.main_arg0)
      ∧ r.2.mem ((c.tc : Thread Cert.InRwkvBIdeal.nD Cert.InRwkvBIdeal.τ).loc Cert.InRwkvBIdeal.main_arg1) = m ((c.tc : Thread Cert.InRwkvBIdeal.nD Cert.InRwkvBIdeal.τ).loc Cert.InRwkvBIdeal.main_arg1)
      ∧ r.2.mem ((c.tc : Thread Cert.InRwkvBIdeal.nD Cert.InRwkvBIdeal.τ).loc Cert.InRwkvBIdeal.main_arg2) = m ((c.tc : Thread Cert.InRwkvBIdeal.nD Cert.InRwkvBIdeal.τ).loc Cert.InRwkvBIdeal.main_arg2))
      ∧ r.2.sem = fun _ => 0)

def quiescent_RefInRwkvBIdeal [hRefInRwkvBIdeal : Cert.RefInRwkvBIdeal.Facts] : Prop :=
  ∀ (m : (ℓ : Loc Cert.RefInRwkvBIdeal.nD Cert.RefInRwkvBIdeal.τ Cert.RefInRwkvBIdeal.sig) → Buf (Elt Ideal) ℓ) (g : Dev Cert.RefInRwkvBIdeal.nD → PrngReg), Pre_RefInRwkvBIdeal m →
    θ_run (Cert.RefInRwkvBIdeal.defs (F := Ideal)) (onTc (τ := Cert.RefInRwkvBIdeal.τ) (Cert.RefInRwkvBIdeal.main (F := Ideal))) ⟨m, fun _ => 0, g⟩ (fun r => (∀ c : Dev Cert.RefInRwkvBIdeal.nD,
      r.2.mem ((c.tc : Thread Cert.RefInRwkvBIdeal.nD Cert.RefInRwkvBIdeal.τ).loc Cert.RefInRwkvBIdeal.main_arg0) = m ((c.tc : Thread Cert.RefInRwkvBIdeal.nD Cert.RefInRwkvBIdeal.τ).loc Cert.RefInRwkvBIdeal.main_arg0)
      ∧ r.2.mem ((c.tc : Thread Cert.RefInRwkvBIdeal.nD Cert.RefInRwkvBIdeal.τ).loc Cert.RefInRwkvBIdeal.main_arg1) = m ((c.tc : Thread Cert.RefInRwkvBIdeal.nD Cert.RefInRwkvBIdeal.τ).loc Cert.RefInRwkvBIdeal.main_arg1)
      ∧ r.2.mem ((c.tc : Thread Cert.RefInRwkvBIdeal.nD Cert.RefInRwkvBIdeal.τ).loc Cert.RefInRwkvBIdeal.main_arg2) = m ((c.tc : Thread Cert.RefInRwkvBIdeal.nD Cert.RefInRwkvBIdeal.τ).loc Cert.RefInRwkvBIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ r.2.sem = fun _ => 0)

def quiescent_RefOutAIdeal [hRefOutAIdeal : Cert.RefOutAIdeal.Facts] : Prop :=
  ∀ (m : (ℓ : Loc Cert.RefOutAIdeal.nD Cert.RefOutAIdeal.τ Cert.RefOutAIdeal.sig) → Buf (Elt Ideal) ℓ) (g : Dev Cert.RefOutAIdeal.nD → PrngReg), Pre_RefOutAIdeal m →
    θ_run (Cert.RefOutAIdeal.defs (F := Ideal)) (onTc (τ := Cert.RefOutAIdeal.τ) (Cert.RefOutAIdeal.main (F := Ideal))) ⟨m, fun _ => 0, g⟩ (fun r => (∀ c : Dev Cert.RefOutAIdeal.nD,
      r.2.mem ((c.tc : Thread Cert.RefOutAIdeal.nD Cert.RefOutAIdeal.τ).loc Cert.RefOutAIdeal.main_arg0) = m ((c.tc : Thread Cert.RefOutAIdeal.nD Cert.RefOutAIdeal.τ).loc Cert.RefOutAIdeal.main_arg0)
      ∧ r.2.mem ((c.tc : Thread Cert.RefOutAIdeal.nD Cert.RefOutAIdeal.τ).loc Cert.RefOutAIdeal.main_arg1) = m ((c.tc : Thread Cert.RefOutAIdeal.nD Cert.RefOutAIdeal.τ).loc Cert.RefOutAIdeal.main_arg1)
      ∧ r.2.mem ((c.tc : Thread Cert.RefOutAIdeal.nD Cert.RefOutAIdeal.τ).loc Cert.RefOutAIdeal.main_arg2) = m ((c.tc : Thread Cert.RefOutAIdeal.nD Cert.RefOutAIdeal.τ).loc Cert.RefOutAIdeal.main_arg2)
      ∧ r.2.mem ((c.tc : Thread Cert.RefOutAIdeal.nD Cert.RefOutAIdeal.τ).loc Cert.RefOutAIdeal.main_arg3) = m ((c.tc : Thread Cert.RefOutAIdeal.nD Cert.RefOutAIdeal.τ).loc Cert.RefOutAIdeal.main_arg3)
      ∧ r.2.mem ((c.tc : Thread Cert.RefOutAIdeal.nD Cert.RefOutAIdeal.τ).loc Cert.RefOutAIdeal.main_arg4) = m ((c.tc : Thread Cert.RefOutAIdeal.nD Cert.RefOutAIdeal.τ).loc Cert.RefOutAIdeal.main_arg4)
      ∧ r.2.mem ((c.tc : Thread Cert.RefOutAIdeal.nD Cert.RefOutAIdeal.τ).loc Cert.RefOutAIdeal.main_arg5) = m ((c.tc : Thread Cert.RefOutAIdeal.nD Cert.RefOutAIdeal.τ).loc Cert.RefOutAIdeal.main_arg5))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3)
      ∧ r.2.mem ((c.tc : Thread Cert.OutB.nD Cert.OutB.τ).loc Cert.OutB.main_arg4) = m ((c.tc : Thread Cert.OutB.nD Cert.OutB.τ).loc Cert.OutB.main_arg4)
      ∧ r.2.mem ((c.tc : Thread Cert.OutB.nD Cert.OutB.τ).loc Cert.OutB.main_arg5) = m ((c.tc : Thread Cert.OutB.nD Cert.OutB.τ).loc Cert.OutB.main_arg5)
      ∧ r.2.mem ((c.tc : Thread Cert.OutB.nD Cert.OutB.τ).loc Cert.OutB.main_arg6) = m ((c.tc : Thread Cert.OutB.nD Cert.OutB.τ).loc Cert.OutB.main_arg6))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
      ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4)
      ∧ r.2.mem ((c.tc : Thread Cert.OutBIdeal.nD Cert.OutBIdeal.τ).loc Cert.OutBIdeal.main_arg5) = m ((c.tc : Thread Cert.OutBIdeal.nD Cert.OutBIdeal.τ).loc Cert.OutBIdeal.main_arg5)
      ∧ r.2.mem ((c.tc : Thread Cert.OutBIdeal.nD Cert.OutBIdeal.τ).loc Cert.OutBIdeal.main_arg6) = m ((c.tc : Thread Cert.OutBIdeal.nD Cert.OutBIdeal.τ).loc Cert.OutBIdeal.main_arg6))
      ∧ r.2.sem = fun _ => 0)

def quiescent_RefOutBIdeal [hRefOutBIdeal : Cert.RefOutBIdeal.Facts] : Prop :=
  ∀ (m : (ℓ : Loc Cert.RefOutBIdeal.nD Cert.RefOutBIdeal.τ Cert.RefOutBIdeal.sig) → Buf (Elt Ideal) ℓ) (g : Dev Cert.RefOutBIdeal.nD → PrngReg), Pre_RefOutBIdeal m →
    θ_run (Cert.RefOutBIdeal.defs (F := Ideal)) (onTc (τ := Cert.RefOutBIdeal.τ) (Cert.RefOutBIdeal.main (F := Ideal))) ⟨m, fun _ => 0, g⟩ (fun r => (∀ c : Dev Cert.RefOutBIdeal.nD,
      r.2.mem ((c.tc : Thread Cert.RefOutBIdeal.nD Cert.RefOutBIdeal.τ).loc Cert.RefOutBIdeal.main_arg0) = m ((c.tc : Thread Cert.RefOutBIdeal.nD Cert.RefOutBIdeal.τ).loc Cert.RefOutBIdeal.main_arg0)
      ∧ r.2.mem ((c.tc : Thread Cert.RefOutBIdeal.nD Cert.RefOutBIdeal.τ).loc Cert.RefOutBIdeal.main_arg1) = m ((c.tc : Thread Cert.RefOutBIdeal.nD Cert.RefOutBIdeal.τ).loc Cert.RefOutBIdeal.main_arg1)
      ∧ r.2.mem ((c.tc : Thread Cert.RefOutBIdeal.nD Cert.RefOutBIdeal.τ).loc Cert.RefOutBIdeal.main_arg2) = m ((c.tc : Thread Cert.RefOutBIdeal.nD Cert.RefOutBIdeal.τ).loc Cert.RefOutBIdeal.main_arg2)
      ∧ r.2.mem ((c.tc : Thread Cert.RefOutBIdeal.nD Cert.RefOutBIdeal.τ).loc Cert.RefOutBIdeal.main_arg3) = m ((c.tc : Thread Cert.RefOutBIdeal.nD Cert.RefOutBIdeal.τ).loc Cert.RefOutBIdeal.main_arg3)
      ∧ r.2.mem ((c.tc : Thread Cert.RefOutBIdeal.nD Cert.RefOutBIdeal.τ).loc Cert.RefOutBIdeal.main_arg4) = m ((c.tc : Thread Cert.RefOutBIdeal.nD Cert.RefOutBIdeal.τ).loc Cert.RefOutBIdeal.main_arg4)
      ∧ r.2.mem ((c.tc : Thread Cert.RefOutBIdeal.nD Cert.RefOutBIdeal.τ).loc Cert.RefOutBIdeal.main_arg5) = m ((c.tc : Thread Cert.RefOutBIdeal.nD Cert.RefOutBIdeal.τ).loc Cert.RefOutBIdeal.main_arg5)
      ∧ r.2.mem ((c.tc : Thread Cert.RefOutBIdeal.nD Cert.RefOutBIdeal.τ).loc Cert.RefOutBIdeal.main_arg6) = m ((c.tc : Thread Cert.RefOutBIdeal.nD Cert.RefOutBIdeal.τ).loc Cert.RefOutBIdeal.main_arg6))
      ∧ r.2.sem = fun _ => 0)

def preserves_InGla_InGlaIdeal : Prop :=
  True

def algebraic_InGlaIdeal_RefInGlaIdeal [hInGlaIdeal : Cert.InGlaIdeal.Facts] [hRefInGlaIdeal : Cert.RefInGlaIdeal.Facts] : Prop :=
  ∀ (m : (ℓ : Loc Cert.InGlaIdeal.nD Cert.InGlaIdeal.τ Cert.InGlaIdeal.sig) → Buf (Elt Ideal) ℓ) (g : Dev Cert.InGlaIdeal.nD → PrngReg)
    (m' : (ℓ : Loc Cert.RefInGlaIdeal.nD Cert.RefInGlaIdeal.τ Cert.RefInGlaIdeal.sig) → Buf (Elt Ideal) ℓ) (g' : Dev Cert.RefInGlaIdeal.nD → PrngReg), Pre_InGlaIdeal m →
    (∀ c : Dev Cert.InGlaIdeal.nD,
      m' ((c.tc : Thread Cert.RefInGlaIdeal.nD Cert.RefInGlaIdeal.τ).loc Cert.RefInGlaIdeal.main_arg0) = m ((c.tc : Thread Cert.InGlaIdeal.nD Cert.InGlaIdeal.τ).loc Cert.InGlaIdeal.main_arg0)
      ∧ m' ((c.tc : Thread Cert.RefInGlaIdeal.nD Cert.RefInGlaIdeal.τ).loc Cert.RefInGlaIdeal.main_arg1) = m ((c.tc : Thread Cert.InGlaIdeal.nD Cert.InGlaIdeal.τ).loc Cert.InGlaIdeal.main_arg1)
      ∧ m' ((c.tc : Thread Cert.RefInGlaIdeal.nD Cert.RefInGlaIdeal.τ).loc Cert.RefInGlaIdeal.main_arg2) = m ((c.tc : Thread Cert.InGlaIdeal.nD Cert.InGlaIdeal.τ).loc Cert.InGlaIdeal.main_arg2)) →
    ∃ (v0 : (c : Dev Cert.InGlaIdeal.nD) → Buf (Elt Ideal) ((c.tc : Thread Cert.InGlaIdeal.nD Cert.InGlaIdeal.τ).loc Cert.InGlaIdeal.main_v3)),
      θ_run (Cert.InGlaIdeal.defs (F := Ideal)) (onTc (τ := Cert.InGlaIdeal.τ) (Cert.InGlaIdeal.main (F := Ideal))) ⟨m, fun _ => 0, g⟩ (fun r => ∀ c : Dev Cert.InGlaIdeal.nD,
          r.2.mem ((c.tc : Thread Cert.InGlaIdeal.nD Cert.InGlaIdeal.τ).loc Cert.InGlaIdeal.main_v3) = v0 c
          ∧ r.2.mem ((c.tc : Thread Cert.InGlaIdeal.nD Cert.InGlaIdeal.τ).loc Cert.InGlaIdeal.main_arg0) = m ((c.tc : Thread Cert.InGlaIdeal.nD Cert.InGlaIdeal.τ).loc Cert.InGlaIdeal.main_arg0)
          ∧ r.2.mem ((c.tc : Thread Cert.InGlaIdeal.nD Cert.InGlaIdeal.τ).loc Cert.InGlaIdeal.main_arg1) = m ((c.tc : Thread Cert.InGlaIdeal.nD Cert.InGlaIdeal.τ).loc Cert.InGlaIdeal.main_arg1)
          ∧ r.2.mem ((c.tc : Thread Cert.InGlaIdeal.nD Cert.InGlaIdeal.τ).loc Cert.InGlaIdeal.main_arg2) = m ((c.tc : Thread Cert.InGlaIdeal.nD Cert.InGlaIdeal.τ).loc Cert.InGlaIdeal.main_arg2))
      ∧ θ_run (Cert.RefInGlaIdeal.defs (F := Ideal)) (onTc (τ := Cert.RefInGlaIdeal.τ) (Cert.RefInGlaIdeal.main (F := Ideal))) ⟨m', fun _ => 0, g'⟩ (fun r => ∀ c : Dev Cert.RefInGlaIdeal.nD,
          r.2.mem ((c.tc : Thread Cert.RefInGlaIdeal.nD Cert.RefInGlaIdeal.τ).loc Cert.RefInGlaIdeal.main_v31) = v0 c
          ∧ r.2.mem ((c.tc : Thread Cert.RefInGlaIdeal.nD Cert.RefInGlaIdeal.τ).loc Cert.RefInGlaIdeal.main_arg0) = m' ((c.tc : Thread Cert.RefInGlaIdeal.nD Cert.RefInGlaIdeal.τ).loc Cert.RefInGlaIdeal.main_arg0)
          ∧ r.2.mem ((c.tc : Thread Cert.RefInGlaIdeal.nD Cert.RefInGlaIdeal.τ).loc Cert.RefInGlaIdeal.main_arg1) = m' ((c.tc : Thread Cert.RefInGlaIdeal.nD Cert.RefInGlaIdeal.τ).loc Cert.RefInGlaIdeal.main_arg1)
          ∧ r.2.mem ((c.tc : Thread Cert.RefInGlaIdeal.nD Cert.RefInGlaIdeal.τ).loc Cert.RefInGlaIdeal.main_arg2) = m' ((c.tc : Thread Cert.RefInGlaIdeal.nD Cert.RefInGlaIdeal.τ).loc Cert.RefInGlaIdeal.main_arg2))

def preserves_InSsd_InSsdIdeal : Prop :=
  True

def algebraic_InSsdIdeal_RefInSsdIdeal [hInSsdIdeal : Cert.InSsdIdeal.Facts] [hRefInSsdIdeal : Cert.RefInSsdIdeal.Facts] : Prop :=
  ∀ (m : (ℓ : Loc Cert.InSsdIdeal.nD Cert.InSsdIdeal.τ Cert.InSsdIdeal.sig) → Buf (Elt Ideal) ℓ) (g : Dev Cert.InSsdIdeal.nD → PrngReg)
    (m' : (ℓ : Loc Cert.RefInSsdIdeal.nD Cert.RefInSsdIdeal.τ Cert.RefInSsdIdeal.sig) → Buf (Elt Ideal) ℓ) (g' : Dev Cert.RefInSsdIdeal.nD → PrngReg), Pre_InSsdIdeal m →
    (∀ c : Dev Cert.InSsdIdeal.nD,
      m' ((c.tc : Thread Cert.RefInSsdIdeal.nD Cert.RefInSsdIdeal.τ).loc Cert.RefInSsdIdeal.main_arg0) = m ((c.tc : Thread Cert.InSsdIdeal.nD Cert.InSsdIdeal.τ).loc Cert.InSsdIdeal.main_arg0)
      ∧ m' ((c.tc : Thread Cert.RefInSsdIdeal.nD Cert.RefInSsdIdeal.τ).loc Cert.RefInSsdIdeal.main_arg1) = m ((c.tc : Thread Cert.InSsdIdeal.nD Cert.InSsdIdeal.τ).loc Cert.InSsdIdeal.main_arg1)
      ∧ m' ((c.tc : Thread Cert.RefInSsdIdeal.nD Cert.RefInSsdIdeal.τ).loc Cert.RefInSsdIdeal.main_arg2) = m ((c.tc : Thread Cert.InSsdIdeal.nD Cert.InSsdIdeal.τ).loc Cert.InSsdIdeal.main_arg2)) →
    ∃ (v0 : (c : Dev Cert.InSsdIdeal.nD) → Buf (Elt Ideal) ((c.tc : Thread Cert.InSsdIdeal.nD Cert.InSsdIdeal.τ).loc Cert.InSsdIdeal.main_v3)),
      θ_run (Cert.InSsdIdeal.defs (F := Ideal)) (onTc (τ := Cert.InSsdIdeal.τ) (Cert.InSsdIdeal.main (F := Ideal))) ⟨m, fun _ => 0, g⟩ (fun r => ∀ c : Dev Cert.InSsdIdeal.nD,
          r.2.mem ((c.tc : Thread Cert.InSsdIdeal.nD Cert.InSsdIdeal.τ).loc Cert.InSsdIdeal.main_v3) = v0 c
          ∧ r.2.mem ((c.tc : Thread Cert.InSsdIdeal.nD Cert.InSsdIdeal.τ).loc Cert.InSsdIdeal.main_arg0) = m ((c.tc : Thread Cert.InSsdIdeal.nD Cert.InSsdIdeal.τ).loc Cert.InSsdIdeal.main_arg0)
          ∧ r.2.mem ((c.tc : Thread Cert.InSsdIdeal.nD Cert.InSsdIdeal.τ).loc Cert.InSsdIdeal.main_arg1) = m ((c.tc : Thread Cert.InSsdIdeal.nD Cert.InSsdIdeal.τ).loc Cert.InSsdIdeal.main_arg1)
          ∧ r.2.mem ((c.tc : Thread Cert.InSsdIdeal.nD Cert.InSsdIdeal.τ).loc Cert.InSsdIdeal.main_arg2) = m ((c.tc : Thread Cert.InSsdIdeal.nD Cert.InSsdIdeal.τ).loc Cert.InSsdIdeal.main_arg2))
      ∧ θ_run (Cert.RefInSsdIdeal.defs (F := Ideal)) (onTc (τ := Cert.RefInSsdIdeal.τ) (Cert.RefInSsdIdeal.main (F := Ideal))) ⟨m', fun _ => 0, g'⟩ (fun r => ∀ c : Dev Cert.RefInSsdIdeal.nD,
          r.2.mem ((c.tc : Thread Cert.RefInSsdIdeal.nD Cert.RefInSsdIdeal.τ).loc Cert.RefInSsdIdeal.main_v31) = v0 c
          ∧ r.2.mem ((c.tc : Thread Cert.RefInSsdIdeal.nD Cert.RefInSsdIdeal.τ).loc Cert.RefInSsdIdeal.main_arg0) = m' ((c.tc : Thread Cert.RefInSsdIdeal.nD Cert.RefInSsdIdeal.τ).loc Cert.RefInSsdIdeal.main_arg0)
          ∧ r.2.mem ((c.tc : Thread Cert.RefInSsdIdeal.nD Cert.RefInSsdIdeal.τ).loc Cert.RefInSsdIdeal.main_arg1) = m' ((c.tc : Thread Cert.RefInSsdIdeal.nD Cert.RefInSsdIdeal.τ).loc Cert.RefInSsdIdeal.main_arg1)
          ∧ r.2.mem ((c.tc : Thread Cert.RefInSsdIdeal.nD Cert.RefInSsdIdeal.τ).loc Cert.RefInSsdIdeal.main_arg2) = m' ((c.tc : Thread Cert.RefInSsdIdeal.nD Cert.RefInSsdIdeal.τ).loc Cert.RefInSsdIdeal.main_arg2))

def preserves_InMlstm_InMlstmIdeal : Prop :=
  True

def algebraic_InMlstmIdeal_RefInMlstmIdeal [hInMlstmIdeal : Cert.InMlstmIdeal.Facts] [hRefInMlstmIdeal : Cert.RefInMlstmIdeal.Facts] : Prop :=
  ∀ (m : (ℓ : Loc Cert.InMlstmIdeal.nD Cert.InMlstmIdeal.τ Cert.InMlstmIdeal.sig) → Buf (Elt Ideal) ℓ) (g : Dev Cert.InMlstmIdeal.nD → PrngReg)
    (m' : (ℓ : Loc Cert.RefInMlstmIdeal.nD Cert.RefInMlstmIdeal.τ Cert.RefInMlstmIdeal.sig) → Buf (Elt Ideal) ℓ) (g' : Dev Cert.RefInMlstmIdeal.nD → PrngReg), Pre_InMlstmIdeal m →
    (∀ c : Dev Cert.InMlstmIdeal.nD,
      m' ((c.tc : Thread Cert.RefInMlstmIdeal.nD Cert.RefInMlstmIdeal.τ).loc Cert.RefInMlstmIdeal.main_arg0) = m ((c.tc : Thread Cert.InMlstmIdeal.nD Cert.InMlstmIdeal.τ).loc Cert.InMlstmIdeal.main_arg0)
      ∧ m' ((c.tc : Thread Cert.RefInMlstmIdeal.nD Cert.RefInMlstmIdeal.τ).loc Cert.RefInMlstmIdeal.main_arg1) = m ((c.tc : Thread Cert.InMlstmIdeal.nD Cert.InMlstmIdeal.τ).loc Cert.InMlstmIdeal.main_arg1)
      ∧ m' ((c.tc : Thread Cert.RefInMlstmIdeal.nD Cert.RefInMlstmIdeal.τ).loc Cert.RefInMlstmIdeal.main_arg2) = m ((c.tc : Thread Cert.InMlstmIdeal.nD Cert.InMlstmIdeal.τ).loc Cert.InMlstmIdeal.main_arg2)) →
    ∃ (v0 : (c : Dev Cert.InMlstmIdeal.nD) → Buf (Elt Ideal) ((c.tc : Thread Cert.InMlstmIdeal.nD Cert.InMlstmIdeal.τ).loc Cert.InMlstmIdeal.main_v3)),
      θ_run (Cert.InMlstmIdeal.defs (F := Ideal)) (onTc (τ := Cert.InMlstmIdeal.τ) (Cert.InMlstmIdeal.main (F := Ideal))) ⟨m, fun _ => 0, g⟩ (fun r => ∀ c : Dev Cert.InMlstmIdeal.nD,
          r.2.mem ((c.tc : Thread Cert.InMlstmIdeal.nD Cert.InMlstmIdeal.τ).loc Cert.InMlstmIdeal.main_v3) = v0 c
          ∧ r.2.mem ((c.tc : Thread Cert.InMlstmIdeal.nD Cert.InMlstmIdeal.τ).loc Cert.InMlstmIdeal.main_arg0) = m ((c.tc : Thread Cert.InMlstmIdeal.nD Cert.InMlstmIdeal.τ).loc Cert.InMlstmIdeal.main_arg0)
          ∧ r.2.mem ((c.tc : Thread Cert.InMlstmIdeal.nD Cert.InMlstmIdeal.τ).loc Cert.InMlstmIdeal.main_arg1) = m ((c.tc : Thread Cert.InMlstmIdeal.nD Cert.InMlstmIdeal.τ).loc Cert.InMlstmIdeal.main_arg1)
          ∧ r.2.mem ((c.tc : Thread Cert.InMlstmIdeal.nD Cert.InMlstmIdeal.τ).loc Cert.InMlstmIdeal.main_arg2) = m ((c.tc : Thread Cert.InMlstmIdeal.nD Cert.InMlstmIdeal.τ).loc Cert.InMlstmIdeal.main_arg2))
      ∧ θ_run (Cert.RefInMlstmIdeal.defs (F := Ideal)) (onTc (τ := Cert.RefInMlstmIdeal.τ) (Cert.RefInMlstmIdeal.main (F := Ideal))) ⟨m', fun _ => 0, g'⟩ (fun r => ∀ c : Dev Cert.RefInMlstmIdeal.nD,
          r.2.mem ((c.tc : Thread Cert.RefInMlstmIdeal.nD Cert.RefInMlstmIdeal.τ).loc Cert.RefInMlstmIdeal.main_v31) = v0 c
          ∧ r.2.mem ((c.tc : Thread Cert.RefInMlstmIdeal.nD Cert.RefInMlstmIdeal.τ).loc Cert.RefInMlstmIdeal.main_arg0) = m' ((c.tc : Thread Cert.RefInMlstmIdeal.nD Cert.RefInMlstmIdeal.τ).loc Cert.RefInMlstmIdeal.main_arg0)
          ∧ r.2.mem ((c.tc : Thread Cert.RefInMlstmIdeal.nD Cert.RefInMlstmIdeal.τ).loc Cert.RefInMlstmIdeal.main_arg1) = m' ((c.tc : Thread Cert.RefInMlstmIdeal.nD Cert.RefInMlstmIdeal.τ).loc Cert.RefInMlstmIdeal.main_arg1)
          ∧ r.2.mem ((c.tc : Thread Cert.RefInMlstmIdeal.nD Cert.RefInMlstmIdeal.τ).loc Cert.RefInMlstmIdeal.main_arg2) = m' ((c.tc : Thread Cert.RefInMlstmIdeal.nD Cert.RefInMlstmIdeal.τ).loc Cert.RefInMlstmIdeal.main_arg2))

def preserves_InRwkvA_InRwkvAIdeal : Prop :=
  True

def algebraic_InRwkvAIdeal_RefInRwkvAIdeal [hInRwkvAIdeal : Cert.InRwkvAIdeal.Facts] [hRefInRwkvAIdeal : Cert.RefInRwkvAIdeal.Facts] : Prop :=
  ∀ (m : (ℓ : Loc Cert.InRwkvAIdeal.nD Cert.InRwkvAIdeal.τ Cert.InRwkvAIdeal.sig) → Buf (Elt Ideal) ℓ) (g : Dev Cert.InRwkvAIdeal.nD → PrngReg)
    (m' : (ℓ : Loc Cert.RefInRwkvAIdeal.nD Cert.RefInRwkvAIdeal.τ Cert.RefInRwkvAIdeal.sig) → Buf (Elt Ideal) ℓ) (g' : Dev Cert.RefInRwkvAIdeal.nD → PrngReg), Pre_InRwkvAIdeal m →
    (∀ c : Dev Cert.InRwkvAIdeal.nD,
      m' ((c.tc : Thread Cert.RefInRwkvAIdeal.nD Cert.RefInRwkvAIdeal.τ).loc Cert.RefInRwkvAIdeal.main_arg0) = m ((c.tc : Thread Cert.InRwkvAIdeal.nD Cert.InRwkvAIdeal.τ).loc Cert.InRwkvAIdeal.main_arg0)
      ∧ m' ((c.tc : Thread Cert.RefInRwkvAIdeal.nD Cert.RefInRwkvAIdeal.τ).loc Cert.RefInRwkvAIdeal.main_arg1) = m ((c.tc : Thread Cert.InRwkvAIdeal.nD Cert.InRwkvAIdeal.τ).loc Cert.InRwkvAIdeal.main_arg1)
      ∧ m' ((c.tc : Thread Cert.RefInRwkvAIdeal.nD Cert.RefInRwkvAIdeal.τ).loc Cert.RefInRwkvAIdeal.main_arg2) = m ((c.tc : Thread Cert.InRwkvAIdeal.nD Cert.InRwkvAIdeal.τ).loc Cert.InRwkvAIdeal.main_arg2)) →
    ∃ (v0 : (c : Dev Cert.InRwkvAIdeal.nD) → Buf (Elt Ideal) ((c.tc : Thread Cert.InRwkvAIdeal.nD Cert.InRwkvAIdeal.τ).loc Cert.InRwkvAIdeal.main_v16_0)) (v1 : (c : Dev Cert.InRwkvAIdeal.nD) → Buf (Elt Ideal) ((c.tc : Thread Cert.InRwkvAIdeal.nD Cert.InRwkvAIdeal.τ).loc Cert.InRwkvAIdeal.main_v16_1)) (v2 : (c : Dev Cert.InRwkvAIdeal.nD) → Buf (Elt Ideal) ((c.tc : Thread Cert.InRwkvAIdeal.nD Cert.InRwkvAIdeal.τ).loc Cert.InRwkvAIdeal.main_v16_2)),
      θ_run (Cert.InRwkvAIdeal.defs (F := Ideal)) (onTc (τ := Cert.InRwkvAIdeal.τ) (Cert.InRwkvAIdeal.main (F := Ideal))) ⟨m, fun _ => 0, g⟩ (fun r => ∀ c : Dev Cert.InRwkvAIdeal.nD,
          r.2.mem ((c.tc : Thread Cert.InRwkvAIdeal.nD Cert.InRwkvAIdeal.τ).loc Cert.InRwkvAIdeal.main_v16_0) = v0 c
          ∧ r.2.mem ((c.tc : Thread Cert.InRwkvAIdeal.nD Cert.InRwkvAIdeal.τ).loc Cert.InRwkvAIdeal.main_v16_1) = v1 c
          ∧ r.2.mem ((c.tc : Thread Cert.InRwkvAIdeal.nD Cert.InRwkvAIdeal.τ).loc Cert.InRwkvAIdeal.main_v16_2) = v2 c
          ∧ r.2.mem ((c.tc : Thread Cert.InRwkvAIdeal.nD Cert.InRwkvAIdeal.τ).loc Cert.InRwkvAIdeal.main_arg0) = m ((c.tc : Thread Cert.InRwkvAIdeal.nD Cert.InRwkvAIdeal.τ).loc Cert.InRwkvAIdeal.main_arg0)
          ∧ r.2.mem ((c.tc : Thread Cert.InRwkvAIdeal.nD Cert.InRwkvAIdeal.τ).loc Cert.InRwkvAIdeal.main_arg1) = m ((c.tc : Thread Cert.InRwkvAIdeal.nD Cert.InRwkvAIdeal.τ).loc Cert.InRwkvAIdeal.main_arg1)
          ∧ r.2.mem ((c.tc : Thread Cert.InRwkvAIdeal.nD Cert.InRwkvAIdeal.τ).loc Cert.InRwkvAIdeal.main_arg2) = m ((c.tc : Thread Cert.InRwkvAIdeal.nD Cert.InRwkvAIdeal.τ).loc Cert.InRwkvAIdeal.main_arg2))
      ∧ θ_run (Cert.RefInRwkvAIdeal.defs (F := Ideal)) (onTc (τ := Cert.RefInRwkvAIdeal.τ) (Cert.RefInRwkvAIdeal.main (F := Ideal))) ⟨m', fun _ => 0, g'⟩ (fun r => ∀ c : Dev Cert.RefInRwkvAIdeal.nD,
          r.2.mem ((c.tc : Thread Cert.RefInRwkvAIdeal.nD Cert.RefInRwkvAIdeal.τ).loc Cert.RefInRwkvAIdeal.main_v31) = v0 c
          ∧ r.2.mem ((c.tc : Thread Cert.RefInRwkvAIdeal.nD Cert.RefInRwkvAIdeal.τ).loc Cert.RefInRwkvAIdeal.main_v34) = v1 c
          ∧ r.2.mem ((c.tc : Thread Cert.RefInRwkvAIdeal.nD Cert.RefInRwkvAIdeal.τ).loc Cert.RefInRwkvAIdeal.main_v39) = v2 c
          ∧ r.2.mem ((c.tc : Thread Cert.RefInRwkvAIdeal.nD Cert.RefInRwkvAIdeal.τ).loc Cert.RefInRwkvAIdeal.main_arg0) = m' ((c.tc : Thread Cert.RefInRwkvAIdeal.nD Cert.RefInRwkvAIdeal.τ).loc Cert.RefInRwkvAIdeal.main_arg0)
          ∧ r.2.mem ((c.tc : Thread Cert.RefInRwkvAIdeal.nD Cert.RefInRwkvAIdeal.τ).loc Cert.RefInRwkvAIdeal.main_arg1) = m' ((c.tc : Thread Cert.RefInRwkvAIdeal.nD Cert.RefInRwkvAIdeal.τ).loc Cert.RefInRwkvAIdeal.main_arg1)
          ∧ r.2.mem ((c.tc : Thread Cert.RefInRwkvAIdeal.nD Cert.RefInRwkvAIdeal.τ).loc Cert.RefInRwkvAIdeal.main_arg2) = m' ((c.tc : Thread Cert.RefInRwkvAIdeal.nD Cert.RefInRwkvAIdeal.τ).loc Cert.RefInRwkvAIdeal.main_arg2))

def preserves_InRwkvB_InRwkvBIdeal : Prop :=
  True

def algebraic_InRwkvBIdeal_RefInRwkvBIdeal [hInRwkvBIdeal : Cert.InRwkvBIdeal.Facts] [hRefInRwkvBIdeal : Cert.RefInRwkvBIdeal.Facts] : Prop :=
  ∀ (m : (ℓ : Loc Cert.InRwkvBIdeal.nD Cert.InRwkvBIdeal.τ Cert.InRwkvBIdeal.sig) → Buf (Elt Ideal) ℓ) (g : Dev Cert.InRwkvBIdeal.nD → PrngReg)
    (m' : (ℓ : Loc Cert.RefInRwkvBIdeal.nD Cert.RefInRwkvBIdeal.τ Cert.RefInRwkvBIdeal.sig) → Buf (Elt Ideal) ℓ) (g' : Dev Cert.RefInRwkvBIdeal.nD → PrngReg), Pre_InRwkvBIdeal m →
    (∀ c : Dev Cert.InRwkvBIdeal.nD,
      m' ((c.tc : Thread Cert.RefInRwkvBIdeal.nD Cert.RefInRwkvBIdeal.τ).loc Cert.RefInRwkvBIdeal.main_arg0) = m ((c.tc : Thread Cert.InRwkvBIdeal.nD Cert.InRwkvBIdeal.τ).loc Cert.InRwkvBIdeal.main_arg0)
      ∧ m' ((c.tc : Thread Cert.RefInRwkvBIdeal.nD Cert.RefInRwkvBIdeal.τ).loc Cert.RefInRwkvBIdeal.main_arg1) = m ((c.tc : Thread Cert.InRwkvBIdeal.nD Cert.InRwkvBIdeal.τ).loc Cert.InRwkvBIdeal.main_arg1)
      ∧ m' ((c.tc : Thread Cert.RefInRwkvBIdeal.nD Cert.RefInRwkvBIdeal.τ).loc Cert.RefInRwkvBIdeal.main_arg2) = m ((c.tc : Thread Cert.InRwkvBIdeal.nD Cert.InRwkvBIdeal.τ).loc Cert.InRwkvBIdeal.main_arg2)) →
    ∃ (v0 : (c : Dev Cert.InRwkvBIdeal.nD) → Buf (Elt Ideal) ((c.tc : Thread Cert.InRwkvBIdeal.nD Cert.InRwkvBIdeal.τ).loc Cert.InRwkvBIdeal.main_v16_0)) (v1 : (c : Dev Cert.InRwkvBIdeal.nD) → Buf (Elt Ideal) ((c.tc : Thread Cert.InRwkvBIdeal.nD Cert.InRwkvBIdeal.τ).loc Cert.InRwkvBIdeal.main_v16_1)) (v2 : (c : Dev Cert.InRwkvBIdeal.nD) → Buf (Elt Ideal) ((c.tc : Thread Cert.InRwkvBIdeal.nD Cert.InRwkvBIdeal.τ).loc Cert.InRwkvBIdeal.main_v16_2)),
      θ_run (Cert.InRwkvBIdeal.defs (F := Ideal)) (onTc (τ := Cert.InRwkvBIdeal.τ) (Cert.InRwkvBIdeal.main (F := Ideal))) ⟨m, fun _ => 0, g⟩ (fun r => ∀ c : Dev Cert.InRwkvBIdeal.nD,
          r.2.mem ((c.tc : Thread Cert.InRwkvBIdeal.nD Cert.InRwkvBIdeal.τ).loc Cert.InRwkvBIdeal.main_v16_0) = v0 c
          ∧ r.2.mem ((c.tc : Thread Cert.InRwkvBIdeal.nD Cert.InRwkvBIdeal.τ).loc Cert.InRwkvBIdeal.main_v16_1) = v1 c
          ∧ r.2.mem ((c.tc : Thread Cert.InRwkvBIdeal.nD Cert.InRwkvBIdeal.τ).loc Cert.InRwkvBIdeal.main_v16_2) = v2 c
          ∧ r.2.mem ((c.tc : Thread Cert.InRwkvBIdeal.nD Cert.InRwkvBIdeal.τ).loc Cert.InRwkvBIdeal.main_arg0) = m ((c.tc : Thread Cert.InRwkvBIdeal.nD Cert.InRwkvBIdeal.τ).loc Cert.InRwkvBIdeal.main_arg0)
          ∧ r.2.mem ((c.tc : Thread Cert.InRwkvBIdeal.nD Cert.InRwkvBIdeal.τ).loc Cert.InRwkvBIdeal.main_arg1) = m ((c.tc : Thread Cert.InRwkvBIdeal.nD Cert.InRwkvBIdeal.τ).loc Cert.InRwkvBIdeal.main_arg1)
          ∧ r.2.mem ((c.tc : Thread Cert.InRwkvBIdeal.nD Cert.InRwkvBIdeal.τ).loc Cert.InRwkvBIdeal.main_arg2) = m ((c.tc : Thread Cert.InRwkvBIdeal.nD Cert.InRwkvBIdeal.τ).loc Cert.InRwkvBIdeal.main_arg2))
      ∧ θ_run (Cert.RefInRwkvBIdeal.defs (F := Ideal)) (onTc (τ := Cert.RefInRwkvBIdeal.τ) (Cert.RefInRwkvBIdeal.main (F := Ideal))) ⟨m', fun _ => 0, g'⟩ (fun r => ∀ c : Dev Cert.RefInRwkvBIdeal.nD,
          r.2.mem ((c.tc : Thread Cert.RefInRwkvBIdeal.nD Cert.RefInRwkvBIdeal.τ).loc Cert.RefInRwkvBIdeal.main_v32) = v0 c
          ∧ r.2.mem ((c.tc : Thread Cert.RefInRwkvBIdeal.nD Cert.RefInRwkvBIdeal.τ).loc Cert.RefInRwkvBIdeal.main_v35) = v1 c
          ∧ r.2.mem ((c.tc : Thread Cert.RefInRwkvBIdeal.nD Cert.RefInRwkvBIdeal.τ).loc Cert.RefInRwkvBIdeal.main_v40) = v2 c
          ∧ r.2.mem ((c.tc : Thread Cert.RefInRwkvBIdeal.nD Cert.RefInRwkvBIdeal.τ).loc Cert.RefInRwkvBIdeal.main_arg0) = m' ((c.tc : Thread Cert.RefInRwkvBIdeal.nD Cert.RefInRwkvBIdeal.τ).loc Cert.RefInRwkvBIdeal.main_arg0)
          ∧ r.2.mem ((c.tc : Thread Cert.RefInRwkvBIdeal.nD Cert.RefInRwkvBIdeal.τ).loc Cert.RefInRwkvBIdeal.main_arg1) = m' ((c.tc : Thread Cert.RefInRwkvBIdeal.nD Cert.RefInRwkvBIdeal.τ).loc Cert.RefInRwkvBIdeal.main_arg1)
          ∧ r.2.mem ((c.tc : Thread Cert.RefInRwkvBIdeal.nD Cert.RefInRwkvBIdeal.τ).loc Cert.RefInRwkvBIdeal.main_arg2) = m' ((c.tc : Thread Cert.RefInRwkvBIdeal.nD Cert.RefInRwkvBIdeal.τ).loc Cert.RefInRwkvBIdeal.main_arg2))

def preserves_OutA_OutAIdeal : Prop :=
  True

def algebraic_OutAIdeal_RefOutAIdeal [hOutAIdeal : Cert.OutAIdeal.Facts] [hRefOutAIdeal : Cert.RefOutAIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.RefOutAIdeal.nD Cert.RefOutAIdeal.τ Cert.RefOutAIdeal.sig) → Buf (Elt Ideal) ℓ) (g' : Dev Cert.RefOutAIdeal.nD → PrngReg), Pre_OutAIdeal m →
    (∀ c : Dev Cert.OutAIdeal.nD,
      m' ((c.tc : Thread Cert.RefOutAIdeal.nD Cert.RefOutAIdeal.τ).loc Cert.RefOutAIdeal.main_arg0) = m ((c.tc : Thread Cert.OutAIdeal.nD Cert.OutAIdeal.τ).loc Cert.OutAIdeal.main_arg0)
      ∧ m' ((c.tc : Thread Cert.RefOutAIdeal.nD Cert.RefOutAIdeal.τ).loc Cert.RefOutAIdeal.main_arg1) = m ((c.tc : Thread Cert.OutAIdeal.nD Cert.OutAIdeal.τ).loc Cert.OutAIdeal.main_arg1)
      ∧ m' ((c.tc : Thread Cert.RefOutAIdeal.nD Cert.RefOutAIdeal.τ).loc Cert.RefOutAIdeal.main_arg2) = m ((c.tc : Thread Cert.OutAIdeal.nD Cert.OutAIdeal.τ).loc Cert.OutAIdeal.main_arg2)
      ∧ m' ((c.tc : Thread Cert.RefOutAIdeal.nD Cert.RefOutAIdeal.τ).loc Cert.RefOutAIdeal.main_arg3) = m ((c.tc : Thread Cert.OutAIdeal.nD Cert.OutAIdeal.τ).loc Cert.OutAIdeal.main_arg3)
      ∧ m' ((c.tc : Thread Cert.RefOutAIdeal.nD Cert.RefOutAIdeal.τ).loc Cert.RefOutAIdeal.main_arg4) = m ((c.tc : Thread Cert.OutAIdeal.nD Cert.OutAIdeal.τ).loc Cert.OutAIdeal.main_arg4)
      ∧ m' ((c.tc : Thread Cert.RefOutAIdeal.nD Cert.RefOutAIdeal.τ).loc Cert.RefOutAIdeal.main_arg5) = m ((c.tc : Thread Cert.OutAIdeal.nD Cert.OutAIdeal.τ).loc Cert.OutAIdeal.main_arg5)) →
    ∃ (v0 : (c : Dev Cert.OutAIdeal.nD) → Buf (Elt Ideal) ((c.tc : Thread Cert.OutAIdeal.nD Cert.OutAIdeal.τ).loc Cert.OutAIdeal.main_v5)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v5) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ θ_run (Cert.RefOutAIdeal.defs (F := Ideal)) (onTc (τ := Cert.RefOutAIdeal.τ) (Cert.RefOutAIdeal.main (F := Ideal))) ⟨m', fun _ => 0, g'⟩ (fun r => ∀ c : Dev Cert.RefOutAIdeal.nD,
          r.2.mem ((c.tc : Thread Cert.RefOutAIdeal.nD Cert.RefOutAIdeal.τ).loc Cert.RefOutAIdeal.main_v3) = v0 c
          ∧ r.2.mem ((c.tc : Thread Cert.RefOutAIdeal.nD Cert.RefOutAIdeal.τ).loc Cert.RefOutAIdeal.main_arg0) = m' ((c.tc : Thread Cert.RefOutAIdeal.nD Cert.RefOutAIdeal.τ).loc Cert.RefOutAIdeal.main_arg0)
          ∧ r.2.mem ((c.tc : Thread Cert.RefOutAIdeal.nD Cert.RefOutAIdeal.τ).loc Cert.RefOutAIdeal.main_arg1) = m' ((c.tc : Thread Cert.RefOutAIdeal.nD Cert.RefOutAIdeal.τ).loc Cert.RefOutAIdeal.main_arg1)
          ∧ r.2.mem ((c.tc : Thread Cert.RefOutAIdeal.nD Cert.RefOutAIdeal.τ).loc Cert.RefOutAIdeal.main_arg2) = m' ((c.tc : Thread Cert.RefOutAIdeal.nD Cert.RefOutAIdeal.τ).loc Cert.RefOutAIdeal.main_arg2)
          ∧ r.2.mem ((c.tc : Thread Cert.RefOutAIdeal.nD Cert.RefOutAIdeal.τ).loc Cert.RefOutAIdeal.main_arg3) = m' ((c.tc : Thread Cert.RefOutAIdeal.nD Cert.RefOutAIdeal.τ).loc Cert.RefOutAIdeal.main_arg3)
          ∧ r.2.mem ((c.tc : Thread Cert.RefOutAIdeal.nD Cert.RefOutAIdeal.τ).loc Cert.RefOutAIdeal.main_arg4) = m' ((c.tc : Thread Cert.RefOutAIdeal.nD Cert.RefOutAIdeal.τ).loc Cert.RefOutAIdeal.main_arg4)
          ∧ r.2.mem ((c.tc : Thread Cert.RefOutAIdeal.nD Cert.RefOutAIdeal.τ).loc Cert.RefOutAIdeal.main_arg5) = m' ((c.tc : Thread Cert.RefOutAIdeal.nD Cert.RefOutAIdeal.τ).loc Cert.RefOutAIdeal.main_arg5))

def preserves_OutB_OutBIdeal : Prop :=
  True

def algebraic_OutBIdeal_RefOutBIdeal [hOutBIdeal : Cert.OutBIdeal.Facts] [hRefOutBIdeal : Cert.RefOutBIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.RefOutBIdeal.nD Cert.RefOutBIdeal.τ Cert.RefOutBIdeal.sig) → Buf (Elt Ideal) ℓ) (g' : Dev Cert.RefOutBIdeal.nD → PrngReg), Pre_OutBIdeal m →
    (∀ c : Dev Cert.OutBIdeal.nD,
      m' ((c.tc : Thread Cert.RefOutBIdeal.nD Cert.RefOutBIdeal.τ).loc Cert.RefOutBIdeal.main_arg0) = m ((c.tc : Thread Cert.OutBIdeal.nD Cert.OutBIdeal.τ).loc Cert.OutBIdeal.main_arg0)
      ∧ m' ((c.tc : Thread Cert.RefOutBIdeal.nD Cert.RefOutBIdeal.τ).loc Cert.RefOutBIdeal.main_arg1) = m ((c.tc : Thread Cert.OutBIdeal.nD Cert.OutBIdeal.τ).loc Cert.OutBIdeal.main_arg1)
      ∧ m' ((c.tc : Thread Cert.RefOutBIdeal.nD Cert.RefOutBIdeal.τ).loc Cert.RefOutBIdeal.main_arg2) = m ((c.tc : Thread Cert.OutBIdeal.nD Cert.OutBIdeal.τ).loc Cert.OutBIdeal.main_arg2)
      ∧ m' ((c.tc : Thread Cert.RefOutBIdeal.nD Cert.RefOutBIdeal.τ).loc Cert.RefOutBIdeal.main_arg3) = m ((c.tc : Thread Cert.OutBIdeal.nD Cert.OutBIdeal.τ).loc Cert.OutBIdeal.main_arg3)
      ∧ m' ((c.tc : Thread Cert.RefOutBIdeal.nD Cert.RefOutBIdeal.τ).loc Cert.RefOutBIdeal.main_arg4) = m ((c.tc : Thread Cert.OutBIdeal.nD Cert.OutBIdeal.τ).loc Cert.OutBIdeal.main_arg4)
      ∧ m' ((c.tc : Thread Cert.RefOutBIdeal.nD Cert.RefOutBIdeal.τ).loc Cert.RefOutBIdeal.main_arg5) = m ((c.tc : Thread Cert.OutBIdeal.nD Cert.OutBIdeal.τ).loc Cert.OutBIdeal.main_arg5)
      ∧ m' ((c.tc : Thread Cert.RefOutBIdeal.nD Cert.RefOutBIdeal.τ).loc Cert.RefOutBIdeal.main_arg6) = m ((c.tc : Thread Cert.OutBIdeal.nD Cert.OutBIdeal.τ).loc Cert.OutBIdeal.main_arg6)) →
    ∃ (v0 : (c : Dev Cert.OutBIdeal.nD) → Buf (Elt Ideal) ((c.tc : Thread Cert.OutBIdeal.nD Cert.OutBIdeal.τ).loc Cert.OutBIdeal.main_v6)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v6) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
          ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4)
          ∧ r.2.mem ((c.tc : Thread Cert.OutBIdeal.nD Cert.OutBIdeal.τ).loc Cert.OutBIdeal.main_arg5) = m ((c.tc : Thread Cert.OutBIdeal.nD Cert.OutBIdeal.τ).loc Cert.OutBIdeal.main_arg5)
          ∧ r.2.mem ((c.tc : Thread Cert.OutBIdeal.nD Cert.OutBIdeal.τ).loc Cert.OutBIdeal.main_arg6) = m ((c.tc : Thread Cert.OutBIdeal.nD Cert.OutBIdeal.τ).loc Cert.OutBIdeal.main_arg6))
      ∧ θ_run (Cert.RefOutBIdeal.defs (F := Ideal)) (onTc (τ := Cert.RefOutBIdeal.τ) (Cert.RefOutBIdeal.main (F := Ideal))) ⟨m', fun _ => 0, g'⟩ (fun r => ∀ c : Dev Cert.RefOutBIdeal.nD,
          r.2.mem ((c.tc : Thread Cert.RefOutBIdeal.nD Cert.RefOutBIdeal.τ).loc Cert.RefOutBIdeal.main_v16) = v0 c
          ∧ r.2.mem ((c.tc : Thread Cert.RefOutBIdeal.nD Cert.RefOutBIdeal.τ).loc Cert.RefOutBIdeal.main_arg0) = m' ((c.tc : Thread Cert.RefOutBIdeal.nD Cert.RefOutBIdeal.τ).loc Cert.RefOutBIdeal.main_arg0)
          ∧ r.2.mem ((c.tc : Thread Cert.RefOutBIdeal.nD Cert.RefOutBIdeal.τ).loc Cert.RefOutBIdeal.main_arg1) = m' ((c.tc : Thread Cert.RefOutBIdeal.nD Cert.RefOutBIdeal.τ).loc Cert.RefOutBIdeal.main_arg1)
          ∧ r.2.mem ((c.tc : Thread Cert.RefOutBIdeal.nD Cert.RefOutBIdeal.τ).loc Cert.RefOutBIdeal.main_arg2) = m' ((c.tc : Thread Cert.RefOutBIdeal.nD Cert.RefOutBIdeal.τ).loc Cert.RefOutBIdeal.main_arg2)
          ∧ r.2.mem ((c.tc : Thread Cert.RefOutBIdeal.nD Cert.RefOutBIdeal.τ).loc Cert.RefOutBIdeal.main_arg3) = m' ((c.tc : Thread Cert.RefOutBIdeal.nD Cert.RefOutBIdeal.τ).loc Cert.RefOutBIdeal.main_arg3)
          ∧ r.2.mem ((c.tc : Thread Cert.RefOutBIdeal.nD Cert.RefOutBIdeal.τ).loc Cert.RefOutBIdeal.main_arg4) = m' ((c.tc : Thread Cert.RefOutBIdeal.nD Cert.RefOutBIdeal.τ).loc Cert.RefOutBIdeal.main_arg4)
          ∧ r.2.mem ((c.tc : Thread Cert.RefOutBIdeal.nD Cert.RefOutBIdeal.τ).loc Cert.RefOutBIdeal.main_arg5) = m' ((c.tc : Thread Cert.RefOutBIdeal.nD Cert.RefOutBIdeal.τ).loc Cert.RefOutBIdeal.main_arg5)
          ∧ r.2.mem ((c.tc : Thread Cert.RefOutBIdeal.nD Cert.RefOutBIdeal.τ).loc Cert.RefOutBIdeal.main_arg6) = m' ((c.tc : Thread Cert.RefOutBIdeal.nD Cert.RefOutBIdeal.τ).loc Cert.RefOutBIdeal.main_arg6))

def Claim : Prop :=
  ∃ (hMixers : Cert.Mixers.Facts) (hInGla : Cert.InGla.Facts) (hInGlaIdeal : Cert.InGlaIdeal.Facts) (hRefInGlaIdeal : Cert.RefInGlaIdeal.Facts) (hInSsd : Cert.InSsd.Facts) (hInSsdIdeal : Cert.InSsdIdeal.Facts) (hRefInSsdIdeal : Cert.RefInSsdIdeal.Facts) (hInMlstm : Cert.InMlstm.Facts) (hInMlstmIdeal : Cert.InMlstmIdeal.Facts) (hRefInMlstmIdeal : Cert.RefInMlstmIdeal.Facts) (hInRwkvA : Cert.InRwkvA.Facts) (hInRwkvAIdeal : Cert.InRwkvAIdeal.Facts) (hRefInRwkvAIdeal : Cert.RefInRwkvAIdeal.Facts) (hInRwkvB : Cert.InRwkvB.Facts) (hInRwkvBIdeal : Cert.InRwkvBIdeal.Facts) (hRefInRwkvBIdeal : Cert.RefInRwkvBIdeal.Facts) (hOutA : Cert.OutA.Facts) (hOutAIdeal : Cert.OutAIdeal.Facts) (hRefOutAIdeal : Cert.RefOutAIdeal.Facts) (hOutB : Cert.OutB.Facts) (hOutBIdeal : Cert.OutBIdeal.Facts) (hRefOutBIdeal : Cert.RefOutBIdeal.Facts),
    quiescent_Mixers (hMixers := hMixers)
    ∧ quiescent_InGla (hInGla := hInGla)
    ∧ quiescent_InGlaIdeal (hInGlaIdeal := hInGlaIdeal)
    ∧ quiescent_RefInGlaIdeal (hRefInGlaIdeal := hRefInGlaIdeal)
    ∧ quiescent_InSsd (hInSsd := hInSsd)
    ∧ quiescent_InSsdIdeal (hInSsdIdeal := hInSsdIdeal)
    ∧ quiescent_RefInSsdIdeal (hRefInSsdIdeal := hRefInSsdIdeal)
    ∧ quiescent_InMlstm (hInMlstm := hInMlstm)
    ∧ quiescent_InMlstmIdeal (hInMlstmIdeal := hInMlstmIdeal)
    ∧ quiescent_RefInMlstmIdeal (hRefInMlstmIdeal := hRefInMlstmIdeal)
    ∧ quiescent_InRwkvA (hInRwkvA := hInRwkvA)
    ∧ quiescent_InRwkvAIdeal (hInRwkvAIdeal := hInRwkvAIdeal)
    ∧ quiescent_RefInRwkvAIdeal (hRefInRwkvAIdeal := hRefInRwkvAIdeal)
    ∧ quiescent_InRwkvB (hInRwkvB := hInRwkvB)
    ∧ quiescent_InRwkvBIdeal (hInRwkvBIdeal := hInRwkvBIdeal)
    ∧ quiescent_RefInRwkvBIdeal (hRefInRwkvBIdeal := hRefInRwkvBIdeal)
    ∧ quiescent_OutA (hOutA := hOutA)
    ∧ quiescent_OutAIdeal (hOutAIdeal := hOutAIdeal)
    ∧ quiescent_RefOutAIdeal (hRefOutAIdeal := hRefOutAIdeal)
    ∧ quiescent_OutB (hOutB := hOutB)
    ∧ quiescent_OutBIdeal (hOutBIdeal := hOutBIdeal)
    ∧ quiescent_RefOutBIdeal (hRefOutBIdeal := hRefOutBIdeal)
    ∧ preserves_InGla_InGlaIdeal
    ∧ algebraic_InGlaIdeal_RefInGlaIdeal (hInGlaIdeal := hInGlaIdeal) (hRefInGlaIdeal := hRefInGlaIdeal)
    ∧ preserves_InSsd_InSsdIdeal
    ∧ algebraic_InSsdIdeal_RefInSsdIdeal (hInSsdIdeal := hInSsdIdeal) (hRefInSsdIdeal := hRefInSsdIdeal)
    ∧ preserves_InMlstm_InMlstmIdeal
    ∧ algebraic_InMlstmIdeal_RefInMlstmIdeal (hInMlstmIdeal := hInMlstmIdeal) (hRefInMlstmIdeal := hRefInMlstmIdeal)
    ∧ preserves_InRwkvA_InRwkvAIdeal
    ∧ algebraic_InRwkvAIdeal_RefInRwkvAIdeal (hInRwkvAIdeal := hInRwkvAIdeal) (hRefInRwkvAIdeal := hRefInRwkvAIdeal)
    ∧ preserves_InRwkvB_InRwkvBIdeal
    ∧ algebraic_InRwkvBIdeal_RefInRwkvBIdeal (hInRwkvBIdeal := hInRwkvBIdeal) (hRefInRwkvBIdeal := hRefInRwkvBIdeal)
    ∧ preserves_OutA_OutAIdeal
    ∧ algebraic_OutAIdeal_RefOutAIdeal (hOutAIdeal := hOutAIdeal) (hRefOutAIdeal := hRefOutAIdeal)
    ∧ preserves_OutB_OutBIdeal
    ∧ algebraic_OutBIdeal_RefOutBIdeal (hOutBIdeal := hOutBIdeal) (hRefOutBIdeal := hRefOutBIdeal)
-- ==== Mixers.lean ====
abbrev S4x2048x2176 : Shape := ⟨3, ![4, 2048, 2176]⟩
abbrev S1x1664 : Shape := ⟨2, ![1, 1664]⟩
abbrev S1x512 : Shape := ⟨2, ![1, 512]⟩
abbrev S128x1024 : Shape := ⟨2, ![128, 1024]⟩
abbrev S64x64 : Shape := ⟨2, ![64, 64]⟩
abbrev S128x128 : Shape := ⟨2, ![128, 128]⟩
abbrev S6x128x128 : Shape := ⟨3, ![6, 128, 128]⟩
abbrev S4x2048x2560 : Shape := ⟨3, ![4, 2048, 2560]⟩
abbrev S4x2048x128 : Shape := ⟨3, ![4, 2048, 128]⟩
abbrev S4x32x16x64 : Shape := ⟨4, ![4, 32, 16, 64]⟩
abbrev S4x1024 : Shape := ⟨2, ![4, 1024]⟩
abbrev S1x1024 : Shape := ⟨2, ![1, 1024]⟩
abbrev S1x128 : Shape := ⟨2, ![1, 128]⟩
abbrev S8x1 : Shape := ⟨2, ![8, 1]⟩
abbrev S128x512 : Shape := ⟨2, ![128, 512]⟩
abbrev S4x2048x1536 : Shape := ⟨3, ![4, 2048, 1536]⟩
abbrev S2x64x128 : Shape := ⟨3, ![2, 64, 128]⟩
abbrev S128x256 : Shape := ⟨2, ![128, 256]⟩
abbrev S1x256 : Shape := ⟨2, ![1, 256]⟩
abbrev S4x2048x512 : Shape := ⟨3, ![4, 2048, 512]⟩
abbrev S4x64x2176 : Shape := ⟨3, ![4, 64, 2176]⟩
abbrev S4x64x2560 : Shape := ⟨3, ![4, 64, 2560]⟩
abbrev S4x64x128 : Shape := ⟨3, ![4, 64, 128]⟩
abbrev S4x1x16x64 : Shape := ⟨4, ![4, 1, 16, 64]⟩
abbrev S4x64x1536 : Shape := ⟨3, ![4, 64, 1536]⟩
abbrev S4x64x512 : Shape := ⟨3, ![4, 64, 512]⟩
abbrev S4x72x1664 : Shape := ⟨3, ![4, 72, 1664]⟩
abbrev S4x4x128x128 : Shape := ⟨4, ![4, 4, 128, 128]⟩
abbrev S4x72x1024 : Shape := ⟨3, ![4, 72, 1024]⟩
abbrev S4x4x8x128 : Shape := ⟨4, ![4, 4, 8, 128]⟩
abbrev S8x1664 : Shape := ⟨2, ![8, 1664]⟩
abbrev S1x8x1664 : Shape := ⟨3, ![1, 8, 1664]⟩
abbrev S8x1024 : Shape := ⟨2, ![8, 1024]⟩
abbrev S1x8x1024 : Shape := ⟨3, ![1, 8, 1024]⟩
abbrev S64x128 : Shape := ⟨2, ![64, 128]⟩
abbrev S1x64x1664 : Shape := ⟨3, ![1, 64, 1664]⟩
abbrev S64x1664 : Shape := ⟨2, ![64, 1664]⟩
abbrev S1x72x1664 : Shape := ⟨3, ![1, 72, 1664]⟩
abbrev S72x1664 : Shape := ⟨2, ![72, 1664]⟩
abbrev S56x1664 : Shape := ⟨2, ![56, 1664]⟩
abbrev S64x512 : Shape := ⟨2, ![64, 512]⟩
abbrev S64x1024 : Shape := ⟨2, ![64, 1024]⟩
abbrev S1x64x512 : Shape := ⟨3, ![1, 64, 512]⟩
abbrev S256x128 : Shape := ⟨2, ![256, 128]⟩
abbrev S256x256 : Shape := ⟨2, ![256, 256]⟩
abbrev S1x128x128 : Shape := ⟨3, ![1, 128, 128]⟩
abbrev S1x64x1024 : Shape := ⟨3, ![1, 64, 1024]⟩
abbrev S1x72x1024 : Shape := ⟨3, ![1, 72, 1024]⟩
abbrev S72x1024 : Shape := ⟨2, ![72, 1024]⟩
abbrev S56x1024 : Shape := ⟨2, ![56, 1024]⟩
abbrev S1x64x128 : Shape := ⟨3, ![1, 64, 128]⟩
abbrev S1x1x8x64 : Shape := ⟨4, ![1, 1, 8, 64]⟩
abbrev S8x64 : Shape := ⟨2, ![8, 64]⟩
abbrev S4x64 : Shape := ⟨2, ![4, 64]⟩
abbrev S4x128 : Shape := ⟨2, ![4, 128]⟩
abbrev S1x64 : Shape := ⟨2, ![1, 64]⟩
abbrev S1x1x128x128 : Shape := ⟨4, ![1, 1, 128, 128]⟩
abbrev S1x1x1x128 : Shape := ⟨4, ![1, 1, 1, 128]⟩
abbrev S128 : Shape := ⟨1, ![128]⟩
abbrev S64 : Shape := ⟨1, ![64]⟩
abbrev S64x1 : Shape := ⟨2, ![64, 1]⟩
abbrev S1x64x256 : Shape := ⟨3, ![1, 64, 256]⟩
abbrev S64x256 : Shape := ⟨2, ![64, 256]⟩
abbrev S512x128 : Shape := ⟨2, ![512, 128]⟩

abbrev nBuf : Space → Nat
  | .hbm => 47
  | .vmem => 75
  | .smem => 0
  | _ => 0

abbrev bufTy : (tb : Table) → Fin (tcTables nBuf tb) → BufTy
  | .hbm, ⟨0, _⟩ => ⟨S4x2048x2176, .f32⟩
  | .hbm, ⟨1, _⟩ => ⟨S1x1664, .f32⟩
  | .hbm, ⟨2, _⟩ => ⟨S1x512, .f32⟩
  | .hbm, ⟨3, _⟩ => ⟨S1x512, .f32⟩
  | .hbm, ⟨4, _⟩ => ⟨S128x1024, .bf16⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S64x64, .bf16⟩
  | .hbm, ⟨11, _⟩ => ⟨S128x128, .bf16⟩
  | .hbm, ⟨12, _⟩ => ⟨S128x128, .f32⟩
  | .hbm, ⟨13, _⟩ => ⟨S128x128, .f32⟩
  | .hbm, ⟨14, _⟩ => ⟨S6x128x128, .bf16⟩
  | .hbm, ⟨15, _⟩ => ⟨S4x2048x2560, .f32⟩
  | .hbm, ⟨16, _⟩ => ⟨S4x2048x128, .f32⟩
  | .hbm, ⟨17, _⟩ => ⟨S4x32x16x64, .f32⟩
  | .hbm, ⟨18, _⟩ => ⟨S4x1024, .f32⟩
  | .hbm, ⟨19, _⟩ => ⟨S1x1024, .f32⟩
  | .hbm, ⟨20, _⟩ => ⟨S1x128, .f32⟩
  | .hbm, ⟨21, _⟩ => ⟨S1x128, .f32⟩
  | .hbm, ⟨22, _⟩ => ⟨S8x1, .f32⟩
  | .hbm, ⟨23, _⟩ => ⟨S1x512, .f32⟩
  | .hbm, ⟨24, _⟩ => ⟨S64x64, .bf16⟩
  | .hbm, ⟨25, _⟩ => ⟨S128x512, .bf16⟩
  | .hbm, ⟨26, _⟩ => ⟨S128x512, .bf16⟩
  | .hbm, ⟨27, _⟩ => ⟨S4x2048x1536, .f32⟩
  | .hbm, ⟨28, _⟩ => ⟨S4x1024, .f32⟩
  | .hbm, ⟨29, _⟩ => ⟨S1x1024, .f32⟩
  | .hbm, ⟨30, _⟩ => ⟨S1x128, .f32⟩
  | .hbm, ⟨31, _⟩ => ⟨S1x128, .f32⟩
  | .hbm, ⟨32, _⟩ => ⟨S8x1, .f32⟩
  | .hbm, ⟨33, _⟩ => ⟨S8x1, .f32⟩
  | .hbm, ⟨34, _⟩ => ⟨S1x512, .f32⟩
  | .hbm, ⟨35, _⟩ => ⟨S1x512, .f32⟩
  | .hbm, ⟨36, _⟩ => ⟨S2x64x128, .bf16⟩
  | .hbm, ⟨37, _⟩ => ⟨S128x512, .bf16⟩
  | .hbm, ⟨38, _⟩ => ⟨S4x2048x1536, .f32⟩
  | .hbm, ⟨39, _⟩ => ⟨S128x256, .bf16⟩
  | .hbm, ⟨40, _⟩ => ⟨S1x256, .f32⟩
  | .hbm, ⟨41, _⟩ => ⟨S1x512, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .local _ .vmem, ⟨0, _⟩ => ⟨S4x64x2176, .f32⟩
  | .local _ .vmem, ⟨1, _⟩ => ⟨S4x64x2176, .f32⟩
  | .local _ .vmem, ⟨2, _⟩ => ⟨S1x1664, .f32⟩
  | .local _ .vmem, ⟨3, _⟩ => ⟨S1x512, .f32⟩
  | .local _ .vmem, ⟨4, _⟩ => ⟨S1x512, .f32⟩
  | .local _ .vmem, ⟨5, _⟩ => ⟨S128x1024, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S64x64, .bf16⟩
  | .local _ .vmem, ⟨12, _⟩ => ⟨S128x128, .bf16⟩
  | .local _ .vmem, ⟨13, _⟩ => ⟨S128x128, .f32⟩
  | .local _ .vmem, ⟨14, _⟩ => ⟨S128x128, .f32⟩
  | .local _ .vmem, ⟨15, _⟩ => ⟨S6x128x128, .bf16⟩
  | .local _ .vmem, ⟨16, _⟩ => ⟨S4x64x2560, .f32⟩
  | .local _ .vmem, ⟨17, _⟩ => ⟨S4x64x2560, .f32⟩
  | .local _ .vmem, ⟨18, _⟩ => ⟨S4x64x128, .f32⟩
  | .local _ .vmem, ⟨19, _⟩ => ⟨S4x64x128, .f32⟩
  | .local _ .vmem, ⟨20, _⟩ => ⟨S4x1x16x64, .f32⟩
  | .local _ .vmem, ⟨21, _⟩ => ⟨S4x1x16x64, .f32⟩
  | .local _ .vmem, ⟨22, _⟩ => ⟨S4x1024, .f32⟩
  | .local _ .vmem, ⟨23, _⟩ => ⟨S1x1024, .f32⟩
  | .local _ .vmem, ⟨24, _⟩ => ⟨S1x128, .f32⟩
  | .local _ .vmem, ⟨25, _⟩ => ⟨S1x128, .f32⟩
  | .local _ .vmem, ⟨26, _⟩ => ⟨S8x1, .f32⟩
  | .local _ .vmem, ⟨27, _⟩ => ⟨S1x512, .f32⟩
  | .local _ .vmem, ⟨28, _⟩ => ⟨S64x64, .bf16⟩
  | .local _ .vmem, ⟨29, _⟩ => ⟨S64x64, .bf16⟩
  | .local _ .vmem, ⟨30, _⟩ => ⟨S128x512, .bf16⟩
  | .local _ .vmem, ⟨31, _⟩ => ⟨S128x512, .bf16⟩
  | .local _ .vmem, ⟨32, _⟩ => ⟨S4x64x1536, .f32⟩
  | .local _ .vmem, ⟨33, _⟩ => ⟨S4x64x1536, .f32⟩
  | .local _ .vmem, ⟨34, _⟩ => ⟨S4x64x128, .f32⟩
  | .local _ .vmem, ⟨35, _⟩ => ⟨S4x64x128, .f32⟩
  | .local _ .vmem, ⟨36, _⟩ => ⟨S4x1x16x64, .f32⟩
  | .local _ .vmem, ⟨37, _⟩ => ⟨S4x1x16x64, .f32⟩
  | .local _ .vmem, ⟨38, _⟩ => ⟨S4x1024, .f32⟩
  | .local _ .vmem, ⟨39, _⟩ => ⟨S1x1024, .f32⟩
  | .local _ .vmem, ⟨40, _⟩ => ⟨S1x128, .f32⟩
  | .local _ .vmem, ⟨41, _⟩ => ⟨S1x128, .f32⟩
  | .local _ .vmem, ⟨42, _⟩ => ⟨S8x1, .f32⟩
  | .local _ .vmem, ⟨43, _⟩ => ⟨S8x1, .f32⟩
  | .local _ .vmem, ⟨44, _⟩ => ⟨S1x512, .f32⟩
  | .local _ .vmem, ⟨45, _⟩ => ⟨S1x512, .f32⟩
  | .local _ .vmem, ⟨46, _⟩ => ⟨S64x64, .bf16⟩
  | .local _ .vmem, ⟨47, _⟩ => ⟨S2x64x128, .bf16⟩
  | .local _ .vmem, ⟨48, _⟩ => ⟨S128x512, .bf16⟩
  | .local _ .vmem, ⟨49, _⟩ => ⟨S4x64x1536, .f32⟩
  | .local _ .vmem, ⟨50, _⟩ => ⟨S4x64x1536, .f32⟩
  | .local _ .vmem, ⟨51, _⟩ => ⟨S4x64x128, .f32⟩
  | .local _ .vmem, ⟨52, _⟩ => ⟨S4x64x128, .f32⟩
  | .local _ .vmem, ⟨53, _⟩ => ⟨S128x256, .bf16⟩
  | .local _ .vmem, ⟨54, _⟩ => ⟨S1x256, .f32⟩
  | .local _ .vmem, ⟨55, _⟩ => ⟨S1x512, .f32⟩
  | .local _ .vmem, ⟨56, _⟩ => ⟨S64x64, .bf16⟩
  | .local _ .vmem, ⟨57, _⟩ => ⟨S4x64x512, .f32⟩
  | .local _ .vmem, ⟨58, _⟩ => ⟨S4x64x512, .f32⟩
  | .local _ .vmem, ⟨59, _⟩ => ⟨S4x64x512, .f32⟩
  | .local _ .vmem, ⟨60, _⟩ => ⟨S4x64x512, .f32⟩
  | .local _ .vmem, ⟨61, _⟩ => ⟨S4x64x512, .f32⟩
  | .local _ .vmem, ⟨62, _⟩ => ⟨S4x64x512, .f32⟩
  | .local _ .vmem, ⟨63, _⟩ => ⟨S4x64x512, .f32⟩
  | .local _ .vmem, ⟨64, _⟩ => ⟨S4x64x512, .f32⟩
  | .local _ .vmem, ⟨65, _⟩ => ⟨S4x64x512, .f32⟩
  | .local _ .vmem, ⟨66, _⟩ => ⟨S4x64x512, .f32⟩
  | .local _ .vmem, ⟨67, _⟩ => ⟨S4x72x1664, .f32⟩
  | .local _ .vmem, ⟨68, _⟩ => ⟨S4x4x128x128, .f32⟩
  | .local _ .vmem, ⟨69, _⟩ => ⟨S4x72x1024, .f32⟩
  | .local _ .vmem, ⟨70, _⟩ => ⟨S4x4x128x128, .f32⟩
  | .local _ .vmem, ⟨71, _⟩ => ⟨S4x4x8x128, .f32⟩
  | .local _ .vmem, ⟨72, _⟩ => ⟨S4x72x1024, .f32⟩
  | .local _ .vmem, ⟨73, _⟩ => ⟨S4x4x128x128, .f32⟩
  | .local _ .vmem, ⟨74, _⟩ => ⟨S4x4x128x128, .f32⟩
  | _, _ => ⟨S4x2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0_0 : Ref sig .tc := ⟨.hbm, 42, rfl⟩
abbrev main_v0_1 : Ref sig .tc := ⟨.hbm, 43, rfl⟩
abbrev main_v0_2 : Ref sig .tc := ⟨.hbm, 44, rfl⟩
abbrev main_v0_3 : Ref sig .tc := ⟨.hbm, 45, rfl⟩
abbrev main_v0_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg28_1 : Ref sig .tc := ⟨.vmem, 33, rfl⟩
abbrev cc0_stg29_0 : Ref sig .tc := ⟨.vmem, 34, rfl⟩
abbrev cc0_stg29_1 : Ref sig .tc := ⟨.vmem, 35, rfl⟩
abbrev cc0_stg30_0 : Ref sig .tc := ⟨.vmem, 36, rfl⟩
abbrev cc0_stg30_1 : Ref sig .tc := ⟨.vmem, 37, rfl⟩
abbrev cc0_stg31_0 : Ref sig .tc := ⟨.vmem, 38, rfl⟩
abbrev cc0_stg32_0 : Ref sig .tc := ⟨.vmem, 39, rfl⟩
abbrev cc0_stg33_0 : Ref sig .tc := ⟨.vmem, 40, rfl⟩
abbrev cc0_stg34_0 : Ref sig .tc := ⟨.vmem, 41, rfl⟩
abbrev cc0_stg35_0 : Ref sig .tc := ⟨.vmem, 42, rfl⟩
abbrev cc0_stg36_0 : Ref sig .tc := ⟨.vmem, 43, rfl⟩
abbrev cc0_stg37_0 : Ref sig .tc := ⟨.vmem, 44, rfl⟩
abbrev cc0_stg38_0 : Ref sig .tc := ⟨.vmem, 45, rfl⟩
abbrev cc0_stg39_0 : Ref sig .tc := ⟨.vmem, 46, rfl⟩
abbrev cc0_stg40_0 : Ref sig .tc := ⟨.vmem, 47, rfl⟩
abbrev cc0_stg41_0 : Ref sig .tc := ⟨.vmem, 48, rfl⟩
abbrev cc0_stg42_0 : Ref sig .tc := ⟨.vmem, 49, rfl⟩
abbrev cc0_stg42_1 : Ref sig .tc := ⟨.vmem, 50, rfl⟩
abbrev cc0_stg43_0 : Ref sig .tc := ⟨.vmem, 51, rfl⟩
abbrev cc0_stg43_1 : Ref sig .tc := ⟨.vmem, 52, rfl⟩
abbrev cc0_stg44_0 : Ref sig .tc := ⟨.vmem, 53, rfl⟩
abbrev cc0_stg45_0 : Ref sig .tc := ⟨.vmem, 54, rfl⟩
abbrev cc0_stg46_0 : Ref sig .tc := ⟨.vmem, 55, rfl⟩
abbrev cc0_stg47_0 : Ref sig .tc := ⟨.vmem, 56, rfl⟩
abbrev cc0_stg48_0 : Ref sig .tc := ⟨.vmem, 57, rfl⟩
abbrev cc0_stg48_1 : Ref sig .tc := ⟨.vmem, 58, rfl⟩
abbrev cc0_stg49_0 : Ref sig .tc := ⟨.vmem, 59, rfl⟩
abbrev cc0_stg49_1 : Ref sig .tc := ⟨.vmem, 60, rfl⟩
abbrev cc0_stg50_0 : Ref sig .tc := ⟨.vmem, 61, rfl⟩
abbrev cc0_stg50_1 : Ref sig .tc := ⟨.vmem, 62, rfl⟩
abbrev cc0_stg51_0 : Ref sig .tc := ⟨.vmem, 63, rfl⟩
abbrev cc0_stg51_1 : Ref sig .tc := ⟨.vmem, 64, rfl⟩
abbrev cc0_stg52_0 : Ref sig .tc := ⟨.vmem, 65, rfl⟩
abbrev cc0_stg52_1 : Ref sig .tc := ⟨.vmem, 66, rfl⟩
abbrev cc0_scratch0 : Ref sig .tc := ⟨.vmem, 67, rfl⟩
abbrev cc0_scratch1 : Ref sig .tc := ⟨.vmem, 68, rfl⟩
abbrev cc0_scratch2 : Ref sig .tc := ⟨.vmem, 69, rfl⟩
abbrev cc0_scratch3 : Ref sig .tc := ⟨.vmem, 70, rfl⟩
abbrev cc0_scratch4 : Ref sig .tc := ⟨.vmem, 71, rfl⟩
abbrev cc0_scratch5 : Ref sig .tc := ⟨.vmem, 72, rfl⟩
abbrev cc0_scratch6 : Ref sig .tc := ⟨.vmem, 73, rfl⟩
abbrev cc0_scratch7 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem28_1 : DmaSem sig := 33
abbrev cc0_sem29_0 : DmaSem sig := 34
abbrev cc0_sem29_1 : DmaSem sig := 35
abbrev cc0_sem30_0 : DmaSem sig := 36
abbrev cc0_sem30_1 : DmaSem sig := 37
abbrev cc0_sem31_0 : DmaSem sig := 38
abbrev cc0_sem32_0 : DmaSem sig := 39
abbrev cc0_sem33_0 : DmaSem sig := 40
abbrev cc0_sem34_0 : DmaSem sig := 41
abbrev cc0_sem35_0 : DmaSem sig := 42
abbrev cc0_sem36_0 : DmaSem sig := 43
abbrev cc0_sem37_0 : DmaSem sig := 44
abbrev cc0_sem38_0 : DmaSem sig := 45
abbrev cc0_sem39_0 : DmaSem sig := 46
abbrev cc0_sem40_0 : DmaSem sig := 47
abbrev cc0_sem41_0 : DmaSem sig := 48
abbrev cc0_sem42_0 : DmaSem sig := 49
abbrev cc0_sem42_1 : DmaSem sig := 50
abbrev cc0_sem43_0 : DmaSem sig := 51
abbrev cc0_sem43_1 : DmaSem sig := 52
abbrev cc0_sem44_0 : DmaSem sig := 53
abbrev cc0_sem45_0 : DmaSem sig := 54
abbrev cc0_sem46_0 : DmaSem sig := 55
abbrev cc0_sem47_0 : DmaSem sig := 56
abbrev cc0_sem48_0 : DmaSem sig := 57
abbrev cc0_sem48_1 : DmaSem sig := 58
abbrev cc0_sem49_0 : DmaSem sig := 59
abbrev cc0_sem49_1 : DmaSem sig := 60
abbrev cc0_sem50_0 : DmaSem sig := 61
abbrev cc0_sem50_1 : DmaSem sig := 62
abbrev cc0_sem51_0 : DmaSem sig := 63
abbrev cc0_sem51_1 : DmaSem sig := 64
abbrev cc0_sem52_0 : DmaSem sig := 65
abbrev cc0_sem52_1 : DmaSem sig := 66

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_41 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_43 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_44 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_49 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_50 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_51 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_52 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S6x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S4x64x2560 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4x1x16x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S8x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S64x64 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S64x64 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S128x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S128x512 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 2 → Memref sig .tc .vmem S4x64x1536 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S4x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S4x1x16x64 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 1 → Memref sig .tc .vmem S4x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]

abbrev stage0_35 : Fin 1 → Memref sig .tc .vmem S8x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false, false]

abbrev stage0_36 : Fin 1 → Memref sig .tc .vmem S8x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false, false]

abbrev stage0_37 : Fin 1 → Memref sig .tc .vmem S1x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false, false]

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false, false]

abbrev stage0_39 : Fin 1 → Memref sig .tc .vmem S64x64 .bf16 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false, false]

abbrev stage0_40 : Fin 1 → Memref sig .tc .vmem S2x64x128 .bf16 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false, false]

abbrev stage0_41 : Fin 1 → Memref sig .tc .vmem S128x512 .bf16 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false, false]

abbrev stage0_42 : Fin 2 → Memref sig .tc .vmem S4x64x1536 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true, true]

abbrev stage0_43 : Fin 2 → Memref sig .tc .vmem S4x64x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true, true]

abbrev stage0_44 : Fin 1 → Memref sig .tc .vmem S128x256 .bf16 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false, false]

abbrev stage0_45 : Fin 1 → Memref sig .tc .vmem S1x256 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false, false]

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false, false]

abbrev stage0_47 : Fin 1 → Memref sig .tc .vmem S64x64 .bf16 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false, false]

abbrev stage0_48 : Fin 2 → Memref sig .tc .vmem S4x64x512 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true, true]

abbrev stage0_49 : Fin 2 → Memref sig .tc .vmem S4x64x512 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true, true]

abbrev stage0_50 : Fin 2 → Memref sig .tc .vmem S4x64x512 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true, true]

abbrev stage0_51 : Fin 2 → Memref sig .tc .vmem S4x64x512 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true, true]

abbrev stage0_52 : Fin 2 → Memref sig .tc .vmem S4x64x512 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true, true]
-- ==== InGla.lean ====
abbrev S4x2048x2048 : Shape := ⟨3, ![4, 2048, 2048]⟩
abbrev S2048 : Shape := ⟨1, ![2048]⟩
abbrev S2048x7840 : Shape := ⟨2, ![2048, 7840]⟩
abbrev S8192x2048 : Shape := ⟨2, ![8192, 2048]⟩
abbrev S1x2048 : Shape := ⟨2, ![1, 2048]⟩
abbrev S7840x2048 : Shape := ⟨2, ![7840, 2048]⟩
abbrev S8192x1536 : Shape := ⟨2, ![8192, 1536]⟩
abbrev S1024x2048 : Shape := ⟨2, ![1024, 2048]⟩
abbrev S512x2048 : Shape := ⟨2, ![512, 2048]⟩
abbrev S1024x1536 : Shape := ⟨2, ![1024, 1536]⟩
abbrev S256x2048 : Shape := ⟨2, ![256, 2048]⟩
abbrev S512 : Shape := ⟨1, ![512]⟩
abbrev S512x1 : Shape := ⟨2, ![512, 1]⟩
abbrev S512x1024 : Shape := ⟨2, ![512, 1024]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S8192x2048, .f32⟩
  | .hbm, ⟨4, _⟩ => ⟨S1x2048, .f32⟩
  | .hbm, ⟨5, _⟩ => ⟨S7840x2048, .f32⟩
  | .hbm, ⟨6, _⟩ => ⟨S8192x1536, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S512x2048, .f32⟩
  | .local _ .vmem, ⟨5, _⟩ => ⟨S1024x1536, .f32⟩
  | .local _ .vmem, ⟨6, _⟩ => ⟨S1024x1536, .f32⟩
  | .local _ .vmem, ⟨7, _⟩ => ⟨S1024x2048, .bf16⟩
  | .local _ .vmem, ⟨8, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1040_i32 : BitVec 32 := 1040#32
  let c0_i32 : BitVec 32 := 0#32
  let c0_i32_0 : BitVec 32 := 0#32
  ![c1040_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefInGlaIdeal.lean ====
abbrev S4x2048x2048 : Shape := ⟨3, ![4, 2048, 2048]⟩
abbrev S2048 : Shape := ⟨1, ![2048]⟩
abbrev S2048x7840 : Shape := ⟨2, ![2048, 7840]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7840 : Shape := ⟨3, ![4, 2048, 7840]⟩
abbrev S4x2048x256 : Shape := ⟨3, ![4, 2048, 256]⟩
abbrev S4x2048x512 : Shape := ⟨3, ![4, 2048, 512]⟩
abbrev S4x2048x16 : Shape := ⟨3, ![4, 2048, 16]⟩
abbrev S4x2048x1664 : Shape := ⟨3, ![4, 2048, 1664]⟩
abbrev S4x2048x1024 : Shape := ⟨3, ![4, 2048, 1024]⟩
abbrev S4x2048x8 : Shape := ⟨3, ![4, 2048, 8]⟩
abbrev S4x2048x4 : Shape := ⟨3, ![4, 2048, 4]⟩
abbrev S4x2048x1536 : Shape := ⟨3, ![4, 2048, 1536]⟩
abbrev S8192x1536 : Shape := ⟨2, ![8192, 1536]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x7840, .f32⟩
  | .hbm, ⟨20, _⟩ => ⟨S4x2048x256, .f32⟩
  | .hbm, ⟨21, _⟩ => ⟨S4x2048x256, .f32⟩
  | .hbm, ⟨22, _⟩ => ⟨S4x2048x512, .f32⟩
  | .hbm, ⟨23, _⟩ => ⟨S4x2048x16, .f32⟩
  | .hbm, ⟨24, _⟩ => ⟨S4x2048x512, .f32⟩
  | .hbm, ⟨25, _⟩ => ⟨S4x2048x1664, .f32⟩
  | .hbm, ⟨26, _⟩ => ⟨S4x2048x512, .f32⟩
  | .hbm, ⟨27, _⟩ => ⟨S4x2048x1024, .f32⟩
  | .hbm, ⟨28, _⟩ => ⟨S4x2048x8, .f32⟩
  | .hbm, ⟨29, _⟩ => ⟨S4x2048x512, .f32⟩
  | .hbm, ⟨30, _⟩ => ⟨S4x2048x1024, .f32⟩
  | .hbm, ⟨31, _⟩ => ⟨S4x2048x512, .f32⟩
  | .hbm, ⟨32, _⟩ => ⟨S4x2048x4, .f32⟩
  | .hbm, ⟨33, _⟩ => ⟨S4x2048x4, .f32⟩
  | .hbm, ⟨34, _⟩ => ⟨S4x2048x512, .f32⟩
  | .hbm, ⟨35, _⟩ => ⟨S4x2048x512, .f32⟩
  | .hbm, ⟨36, _⟩ => ⟨S4x2048x1536, .f32⟩
  | .hbm, ⟨37, _⟩ => ⟨S8192x1536, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== InSsd.lean ====
abbrev S4x2048x2048 : Shape := ⟨3, ![4, 2048, 2048]⟩
abbrev S2048 : Shape := ⟨1, ![2048]⟩
abbrev S2048x7840 : Shape := ⟨2, ![2048, 7840]⟩
abbrev S8192x2048 : Shape := ⟨2, ![8192, 2048]⟩
abbrev S1x2048 : Shape := ⟨2, ![1, 2048]⟩
abbrev S7840x2048 : Shape := ⟨2, ![7840, 2048]⟩
abbrev S8192x1536 : Shape := ⟨2, ![8192, 1536]⟩
abbrev S1024x2048 : Shape := ⟨2, ![1024, 2048]⟩
abbrev S512x2048 : Shape := ⟨2, ![512, 2048]⟩
abbrev S1024x1536 : Shape := ⟨2, ![1024, 1536]⟩
abbrev S256x2048 : Shape := ⟨2, ![256, 2048]⟩
abbrev S512 : Shape := ⟨1, ![512]⟩
abbrev S512x1 : Shape := ⟨2, ![512, 1]⟩
abbrev S512x1024 : Shape := ⟨2, ![512, 1024]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S8192x2048, .f32⟩
  | .hbm, ⟨4, _⟩ => ⟨S1x2048, .f32⟩
  | .hbm, ⟨5, _⟩ => ⟨S7840x2048, .f32⟩
  | .hbm, ⟨6, _⟩ => ⟨S8192x1536, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S512x2048, .f32⟩
  | .local _ .vmem, ⟨5, _⟩ => ⟨S1024x1536, .f32⟩
  | .local _ .vmem, ⟨6, _⟩ => ⟨S1024x1536, .f32⟩
  | .local _ .vmem, ⟨7, _⟩ => ⟨S1024x2048, .bf16⟩
  | .local _ .vmem, ⟨8, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3728_i32 : BitVec 32 := 3728#32
  let c0_i32 : BitVec 32 := 0#32
  let c0_i32_0 : BitVec 32 := 0#32
  ![c3728_i32.toNat, c0_i32.toNat]

def cc0_transform_3 (i : grid0.Coords) : Fin 2 → Nat :=
  let arg0 : BitVec 32 := BitVec.ofNat 32 (i 0).val
  let c4760_i32 : BitVec 32 := 4760#32
  let c0_i32 : BitVec 32 := 0#32
  let c0_i32_0 : BitVec 32 := 0#32
  ![c4760_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefInSsdIdeal.lean ====
abbrev S4x2048x2048 : Shape := ⟨3, ![4, 2048, 2048]⟩
abbrev S2048 : Shape := ⟨1, ![2048]⟩
abbrev S2048x7840 : Shape := ⟨2, ![2048, 7840]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7840 : Shape := ⟨3, ![4, 2048, 7840]⟩
abbrev S4x2048x256 : Shape := ⟨3, ![4, 2048, 256]⟩
abbrev S4x2048x512 : Shape := ⟨3, ![4, 2048, 512]⟩
abbrev S4x2048x16 : Shape := ⟨3, ![4, 2048, 16]⟩
abbrev S4x2048x1664 : Shape := ⟨3, ![4, 2048, 1664]⟩
abbrev S4x2048x1024 : Shape := ⟨3, ![4, 2048, 1024]⟩
abbrev S4x2048x8 : Shape := ⟨3, ![4, 2048, 8]⟩
abbrev S4x2048x4 : Shape := ⟨3, ![4, 2048, 4]⟩
abbrev S4x2048x1536 : Shape := ⟨3, ![4, 2048, 1536]⟩
abbrev S8192x1536 : Shape := ⟨2, ![8192, 1536]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x7840, .f32⟩
  | .hbm, ⟨20, _⟩ => ⟨S4x2048x256, .f32⟩
  | .hbm, ⟨21, _⟩ => ⟨S4x2048x256, .f32⟩
  | .hbm, ⟨22, _⟩ => ⟨S4x2048x512, .f32⟩
  | .hbm, ⟨23, _⟩ => ⟨S4x2048x16, .f32⟩
  | .hbm, ⟨24, _⟩ => ⟨S4x2048x512, .f32⟩
  | .hbm, ⟨25, _⟩ => ⟨S4x2048x1664, .f32⟩
  | .hbm, ⟨26, _⟩ => ⟨S4x2048x512, .f32⟩
  | .hbm, ⟨27, _⟩ => ⟨S4x2048x1024, .f32⟩
  | .hbm, ⟨28, _⟩ => ⟨S4x2048x8, .f32⟩
  | .hbm, ⟨29, _⟩ => ⟨S4x2048x512, .f32⟩
  | .hbm, ⟨30, _⟩ => ⟨S4x2048x1024, .f32⟩
  | .hbm, ⟨31, _⟩ => ⟨S4x2048x512, .f32⟩
  | .hbm, ⟨32, _⟩ => ⟨S4x2048x4, .f32⟩
  | .hbm, ⟨33, _⟩ => ⟨S4x2048x4, .f32⟩
  | .hbm, ⟨34, _⟩ => ⟨S4x2048x512, .f32⟩
  | .hbm, ⟨35, _⟩ => ⟨S4x2048x512, .f32⟩
  | .hbm, ⟨36, _⟩ => ⟨S4x2048x1536, .f32⟩
  | .hbm, ⟨37, _⟩ => ⟨S8192x1536, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== InMlstm.lean ====
abbrev S4x2048x2048 : Shape := ⟨3, ![4, 2048, 2048]⟩
abbrev S2048 : Shape := ⟨1, ![2048]⟩
abbrev S2048x7840 : Shape := ⟨2, ![2048, 7840]⟩
abbrev S8192x2048 : Shape := ⟨2, ![8192, 2048]⟩
abbrev S1x2048 : Shape := ⟨2, ![1, 2048]⟩
abbrev S7840x2048 : Shape := ⟨2, ![7840, 2048]⟩
abbrev S8192x2560 : Shape := ⟨2, ![8192, 2560]⟩
abbrev S512x2048 : Shape := ⟨2, ![512, 2048]⟩
abbrev S1536x2048 : Shape := ⟨2, ![1536, 2048]⟩
abbrev S1024x2048 : Shape := ⟨2, ![1024, 2048]⟩
abbrev S512x2560 : Shape := ⟨2, ![512, 2560]⟩
abbrev S256x2048 : Shape := ⟨2, ![256, 2048]⟩
abbrev S256 : Shape := ⟨1, ![256]⟩
abbrev S256x1 : Shape := ⟨2, ![256, 1]⟩
abbrev S256x1536 : Shape := ⟨2, ![256, 1536]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S8192x2048, .f32⟩
  | .hbm, ⟨4, _⟩ => ⟨S1x2048, .f32⟩
  | .hbm, ⟨5, _⟩ => ⟨S7840x2048, .f32⟩
  | .hbm, ⟨6, _⟩ => ⟨S8192x2560, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1536x2048, .f32⟩
  | .local _ .vmem, ⟨4, _⟩ => ⟨S1024x2048, .f32⟩
  | .local _ .vmem, ⟨5, _⟩ => ⟨S512x2560, .f32⟩
  | .local _ .vmem, ⟨6, _⟩ => ⟨S512x2560, .f32⟩
  | .local _ .vmem, ⟨7, _⟩ => ⟨S1536x2048, .bf16⟩
  | .local _ .vmem, ⟨8, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5272_i32 : BitVec 32 := 5272#32
  let c0_i32 : BitVec 32 := 0#32
  let c0_i32_0 : BitVec 32 := 0#32
  ![c5272_i32.toNat, c0_i32.toNat]

def cc0_transform_3 (i : grid0.Coords) : Fin 2 → Nat :=
  let arg0 : BitVec 32 := BitVec.ofNat 32 (i 0).val
  let c6816_i32 : BitVec 32 := 6816#32
  let c0_i32 : BitVec 32 := 0#32
  let c0_i32_0 : BitVec 32 := 0#32
  ![c6816_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefInMlstmIdeal.lean ====
abbrev S4x2048x2048 : Shape := ⟨3, ![4, 2048, 2048]⟩
abbrev S2048 : Shape := ⟨1, ![2048]⟩
abbrev S2048x7840 : Shape := ⟨2, ![2048, 7840]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7840 : Shape := ⟨3, ![4, 2048, 7840]⟩
abbrev S4x2048x256 : Shape := ⟨3, ![4, 2048, 256]⟩
abbrev S4x2048x512 : Shape := ⟨3, ![4, 2048, 512]⟩
abbrev S4x2048x16 : Shape := ⟨3, ![4, 2048, 16]⟩
abbrev S4x2048x1664 : Shape := ⟨3, ![4, 2048, 1664]⟩
abbrev S4x2048x1024 : Shape := ⟨3, ![4, 2048, 1024]⟩
abbrev S4x2048x8 : Shape := ⟨3, ![4, 2048, 8]⟩
abbrev S4x2048x4 : Shape := ⟨3, ![4, 2048, 4]⟩
abbrev S4x2048x2560 : Shape := ⟨3, ![4, 2048, 2560]⟩
abbrev S8192x2560 : Shape := ⟨2, ![8192, 2560]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x7840, .f32⟩
  | .hbm, ⟨20, _⟩ => ⟨S4x2048x256, .f32⟩
  | .hbm, ⟨21, _⟩ => ⟨S4x2048x256, .f32⟩
  | .hbm, ⟨22, _⟩ => ⟨S4x2048x512, .f32⟩
  | .hbm, ⟨23, _⟩ => ⟨S4x2048x16, .f32⟩
  | .hbm, ⟨24, _⟩ => ⟨S4x2048x512, .f32⟩
  | .hbm, ⟨25, _⟩ => ⟨S4x2048x1664, .f32⟩
  | .hbm, ⟨26, _⟩ => ⟨S4x2048x512, .f32⟩
  | .hbm, ⟨27, _⟩ => ⟨S4x2048x1024, .f32⟩
  | .hbm, ⟨28, _⟩ => ⟨S4x2048x8, .f32⟩
  | .hbm, ⟨29, _⟩ => ⟨S4x2048x512, .f32⟩
  | .hbm, ⟨30, _⟩ => ⟨S4x2048x1024, .f32⟩
  | .hbm, ⟨31, _⟩ => ⟨S4x2048x512, .f32⟩
  | .hbm, ⟨32, _⟩ => ⟨S4x2048x4, .f32⟩
  | .hbm, ⟨33, _⟩ => ⟨S4x2048x4, .f32⟩
  | .hbm, ⟨34, _⟩ => ⟨S4x2048x512, .f32⟩
  | .hbm, ⟨35, _⟩ => ⟨S4x2048x512, .f32⟩
  | .hbm, ⟨36, _⟩ => ⟨S4x2048x2560, .f32⟩
  | .hbm, ⟨37, _⟩ => ⟨S8192x2560, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== InRwkvA.lean ====
abbrev S4x2048x2048 : Shape := ⟨3, ![4, 2048, 2048]⟩
abbrev S2048 : Shape := ⟨1, ![2048]⟩
abbrev S2048x7840 : Shape := ⟨2, ![2048, 7840]⟩
abbrev S8 : Shape := ⟨1, ![8]⟩
abbrev S7840x2048 : Shape := ⟨2, ![7840, 2048]⟩
abbrev S16x2048 : Shape := ⟨2, ![16, 2048]⟩
abbrev S8x2048 : Shape := ⟨2, ![8, 2048]⟩
abbrev S32x2048 : Shape := ⟨2, ![32, 2048]⟩
abbrev S_ : Shape := ⟨0, ![]⟩
abbrev S128x2048 : Shape := ⟨2, ![128, 2048]⟩
abbrev S8x1 : Shape := ⟨2, ![8, 1]⟩
abbrev S8192x2048 : Shape := ⟨2, ![8192, 2048]⟩
abbrev S1x2048 : Shape := ⟨2, ![1, 2048]⟩
abbrev S8192x2176 : Shape := ⟨2, ![8192, 2176]⟩
abbrev S8192x128 : Shape := ⟨2, ![8192, 128]⟩
abbrev S16x8192 : Shape := ⟨2, ![16, 8192]⟩
abbrev S512x2048 : Shape := ⟨2, ![512, 2048]⟩
abbrev S2176x2048 : Shape := ⟨2, ![2176, 2048]⟩
abbrev S512x2176 : Shape := ⟨2, ![512, 2176]⟩
abbrev S512x128 : Shape := ⟨2, ![512, 128]⟩
abbrev S16x512 : Shape := ⟨2, ![16, 512]⟩
abbrev S256x2048 : Shape := ⟨2, ![256, 2048]⟩
abbrev S256 : Shape := ⟨1, ![256]⟩
abbrev S256x1 : Shape := ⟨2, ![256, 1]⟩
abbrev S256x2176 : Shape := ⟨2, ![256, 2176]⟩
abbrev S256x128 : Shape := ⟨2, ![256, 128]⟩
abbrev S16x256 : Shape := ⟨2, ![16, 256]⟩

abbrev nBuf : Space → Nat
  | .hbm => 27
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S8, .i32⟩
  | .hbm, ⟨4, _⟩ => ⟨S8, .i1⟩
  | .hbm, ⟨5, _⟩ => ⟨S7840x2048, .f32⟩
  | .hbm, ⟨6, _⟩ => ⟨S16x2048, .f32⟩
  | .hbm, ⟨7, _⟩ => ⟨S8x2048, .f32⟩
  | .hbm, ⟨8, _⟩ => ⟨S8x2048, .f32⟩
  | .hbm, ⟨9, _⟩ => ⟨S32x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S8x2048, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8x2048, .f32⟩
  | .hbm, ⟨20, _⟩ => ⟨S8x2048, .f32⟩
  | .hbm, ⟨21, _⟩ => ⟨S16x2048, .f32⟩
  | .hbm, ⟨22, _⟩ => ⟨S8192x2048, .f32⟩
  | .hbm, ⟨23, _⟩ => ⟨S1x2048, .f32⟩
  | .hbm, ⟨24, _⟩ => ⟨S8192x2176, .f32⟩
  | .hbm, ⟨25, _⟩ => ⟨S8192x128, .f32⟩
  | .hbm, ⟨26, _⟩ => ⟨S16x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2176x2048, .f32⟩
  | .local _ .vmem, ⟨4, _⟩ => ⟨S128x2048, .f32⟩
  | .local _ .vmem, ⟨5, _⟩ => ⟨S16x2048, .f32⟩
  | .local _ .vmem, ⟨6, _⟩ => ⟨S512x2176, .f32⟩
  | .local _ .vmem, ⟨7, _⟩ => ⟨S512x2176, .f32⟩
  | .local _ .vmem, ⟨8, _⟩ => ⟨S512x128, .f32⟩
  | .local _ .vmem, ⟨9, _⟩ => ⟨S512x128, .f32⟩
  | .local _ .vmem, ⟨10, _⟩ => ⟨S16x512, .f32⟩
  | .local _ .vmem, ⟨11, _⟩ => ⟨S16x512, .f32⟩
  | .local _ .vmem, ⟨12, _⟩ => ⟨S2176x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1552_i32 : BitVec 32 := 1552#32
  let c0_i32 : BitVec 32 := 0#32
  let c0_i32_0 : BitVec 32 := 0#32
  ![c1552_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefInRwkvAIdeal.lean ====
abbrev S4x2048x2048 : Shape := ⟨3, ![4, 2048, 2048]⟩
abbrev S2048 : Shape := ⟨1, ![2048]⟩
abbrev S2048x7840 : Shape := ⟨2, ![2048, 7840]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7840 : Shape := ⟨3, ![4, 2048, 7840]⟩
abbrev S4x2048x256 : Shape := ⟨3, ![4, 2048, 256]⟩
abbrev S4x2048x512 : Shape := ⟨3, ![4, 2048, 512]⟩
abbrev S4x2048x16 : Shape := ⟨3, ![4, 2048, 16]⟩
abbrev S4x2048x1664 : Shape := ⟨3, ![4, 2048, 1664]⟩
abbrev S4x2048x1024 : Shape := ⟨3, ![4, 2048, 1024]⟩
abbrev S4x2048x8 : Shape := ⟨3, ![4, 2048, 8]⟩
abbrev S4x2048x4 : Shape := ⟨3, ![4, 2048, 4]⟩
abbrev S4x2048x2176 : Shape := ⟨3, ![4, 2048, 2176]⟩
abbrev S8192x2176 : Shape := ⟨2, ![8192, 2176]⟩
abbrev S4x2048x96 : Shape := ⟨3, ![4, 2048, 96]⟩
abbrev S4x2048x128 : Shape := ⟨3, ![4, 2048, 128]⟩
abbrev S8192x128 : Shape := ⟨2, ![8192, 128]⟩
abbrev S8192x16 : Shape := ⟨2, ![8192, 16]⟩
abbrev S16x8192 : Shape := ⟨2, ![16, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7840, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x7840, .f32⟩
  | .hbm, ⟨20, _⟩ => ⟨S4x2048x256, .f32⟩
  | .hbm, ⟨21, _⟩ => ⟨S4x2048x256, .f32⟩
  | .hbm, ⟨22, _⟩ => ⟨S4x2048x512, .f32⟩
  | .hbm, ⟨23, _⟩ => ⟨S4x2048x16, .f32⟩
  | .hbm, ⟨24, _⟩ => ⟨S4x2048x512, .f32⟩
  | .hbm, ⟨25, _⟩ => ⟨S4x2048x1664, .f32⟩
  | .hbm, ⟨26, _⟩ => ⟨S4x2048x512, .f32⟩
  | .hbm, ⟨27, _⟩ => ⟨S4x2048x1024, .f32⟩
  | .hbm, ⟨28, _⟩ => ⟨S4x2048x8, .f32⟩
  | .hbm, ⟨29, _⟩ => ⟨S4x2048x512, .f32⟩
  | .hbm, ⟨30, _⟩ => ⟨S4x2048x1024, .f32⟩
  | .hbm, ⟨31, _⟩ => ⟨S4x2048x512, .f32⟩
  | .hbm, ⟨32, _⟩ => ⟨S4x2048x4, .f32⟩
  | .hbm, ⟨33, _⟩ => ⟨S4x2048x4, .f32⟩
  | .hbm, ⟨34, _⟩ => ⟨S4x2048x512, .f32⟩
  | .hbm, ⟨35, _⟩ => ⟨S4x2048x512, .f32⟩
  | .hbm, ⟨36, _⟩ => ⟨S4x2048x2176, .f32⟩
  | .hbm, ⟨37, _⟩ => ⟨S8192x2176, .f32⟩
  | .hbm, ⟨38, _⟩ => ⟨S_, .f32⟩
  | .hbm, ⟨39, _⟩ => ⟨S4x2048x96, .f32⟩
  | .hbm, ⟨40, _⟩ => ⟨S4x2048x128, .f32⟩
  | .hbm, ⟨41, _⟩ => ⟨S8192x128, .f32⟩
  | .hbm, ⟨42, _⟩ => ⟨S4x2048x4, .f32⟩
  | .hbm, ⟨43, _⟩ => ⟨S4x2048x4, .f32⟩
  | .hbm, ⟨44, _⟩ => ⟨S4x2048x16, .f32⟩
  | .hbm, ⟨45, _⟩ => ⟨S8192x16, .f32⟩
  | .hbm, ⟨46, _⟩ => ⟨S16x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== InRwkvB.lean ====
abbrev S4x2048x2048 : Shape := ⟨3, ![4, 2048, 2048]⟩
abbrev S2048 : Shape := ⟨1, ![2048]⟩
abbrev S2048x7872 : Shape := ⟨2, ![2048, 7872]⟩
abbrev S8 : Shape := ⟨1, ![8]⟩
abbrev S7872x2048 : Shape := ⟨2, ![7872, 2048]⟩
abbrev S16x2048 : Shape := ⟨2, ![16, 2048]⟩
abbrev S8x2048 : Shape := ⟨2, ![8, 2048]⟩
abbrev S32x2048 : Shape := ⟨2, ![32, 2048]⟩
abbrev S_ : Shape := ⟨0, ![]⟩
abbrev S128x2048 : Shape := ⟨2, ![128, 2048]⟩
abbrev S8x1 : Shape := ⟨2, ![8, 1]⟩
abbrev S8192x2048 : Shape := ⟨2, ![8192, 2048]⟩
abbrev S1x2048 : Shape := ⟨2, ![1, 2048]⟩
abbrev S8192x2304 : Shape := ⟨2, ![8192, 2304]⟩
abbrev S8192x128 : Shape := ⟨2, ![8192, 128]⟩
abbrev S16x8192 : Shape := ⟨2, ![16, 8192]⟩
abbrev S512x2048 : Shape := ⟨2, ![512, 2048]⟩
abbrev S1696x2048 : Shape := ⟨2, ![1696, 2048]⟩
abbrev S512x2304 : Shape := ⟨2, ![512, 2304]⟩
abbrev S512x128 : Shape := ⟨2, ![512, 128]⟩
abbrev S16x512 : Shape := ⟨2, ![16, 512]⟩
abbrev S256x2048 : Shape := ⟨2, ![256, 2048]⟩
abbrev S160x2048 : Shape := ⟨2, ![160, 2048]⟩
abbrev S256 : Shape := ⟨1, ![256]⟩
abbrev S256x1 : Shape := ⟨2, ![256, 1]⟩
abbrev S256x1696 : Shape := ⟨2, ![256, 1696]⟩
abbrev S256x512 : Shape := ⟨2, ![256, 512]⟩
abbrev S256x128 : Shape := ⟨2, ![256, 128]⟩
abbrev S16x256 : Shape := ⟨2, ![16, 256]⟩

abbrev nBuf : Space → Nat
  | .hbm => 27
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7872, .f32⟩
  | .hbm, ⟨3, _⟩ => ⟨S8, .i32⟩
  | .hbm, ⟨4, _⟩ => ⟨S8, .i1⟩
  | .hbm, ⟨5, _⟩ => ⟨S7872x2048, .f32⟩
  | .hbm, ⟨6, _⟩ => ⟨S16x2048, .f32⟩
  | .hbm, ⟨7, _⟩ => ⟨S8x2048, .f32⟩
  | .hbm, ⟨8, _⟩ => ⟨S8x2048, .f32⟩
  | .hbm, ⟨9, _⟩ => ⟨S32x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S8x2048, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8x2048, .f32⟩
  | .hbm, ⟨20, _⟩ => ⟨S8x2048, .f32⟩
  | .hbm, ⟨21, _⟩ => ⟨S16x2048, .f32⟩
  | .hbm, ⟨22, _⟩ => ⟨S8192x2048, .f32⟩
  | .hbm, ⟨23, _⟩ => ⟨S1x2048, .f32⟩
  | .hbm, ⟨24, _⟩ => ⟨S8192x2304, .f32⟩
  | .hbm, ⟨25, _⟩ => ⟨S8192x128, .f32⟩
  | .hbm, ⟨26, _⟩ => ⟨S16x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1696x2048, .f32⟩
  | .local _ .vmem, ⟨4, _⟩ => ⟨S512x2048, .f32⟩
  | .local _ .vmem, ⟨5, _⟩ => ⟨S128x2048, .f32⟩
  | .local _ .vmem, ⟨6, _⟩ => ⟨S16x2048, .f32⟩
  | .local _ .vmem, ⟨7, _⟩ => ⟨S512x2304, .f32⟩
  | .local _ .vmem, ⟨8, _⟩ => ⟨S512x2304, .f32⟩
  | .local _ .vmem, ⟨9, _⟩ => ⟨S512x128, .f32⟩
  | .local _ .vmem, ⟨10, _⟩ => ⟨S512x128, .f32⟩
  | .local _ .vmem, ⟨11, _⟩ => ⟨S16x512, .f32⟩
  | .local _ .vmem, ⟨12, _⟩ => ⟨S16x512, .f32⟩
  | .local _ .vmem, ⟨13, _⟩ => ⟨S1696x2048, .bf16⟩
  | .local _ .vmem, ⟨14, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1552_i32 : BitVec 32 := 1552#32
  let c0_i32 : BitVec 32 := 0#32
  let c0_i32_0 : BitVec 32 := 0#32
  ![c1552_i32.toNat, c0_i32.toNat]

def cc0_transform_3 (i : grid0.Coords) : Fin 2 → Nat :=
  let arg0 : BitVec 32 := BitVec.ofNat 32 (i 0).val
  let c3248_i32 : BitVec 32 := 3248#32
  let c0_i32 : BitVec 32 := 0#32
  let c0_i32_0 : BitVec 32 := 0#32
  ![c3248_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1696x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefInRwkvBIdeal.lean ====
abbrev S4x2048x2048 : Shape := ⟨3, ![4, 2048, 2048]⟩
abbrev S2048 : Shape := ⟨1, ![2048]⟩
abbrev S2048x7872 : Shape := ⟨2, ![2048, 7872]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7872 : Shape := ⟨3, ![4, 2048, 7872]⟩
abbrev S4x2048x256 : Shape := ⟨3, ![4, 2048, 256]⟩
abbrev S4x2048x512 : Shape := ⟨3, ![4, 2048, 512]⟩
abbrev S4x2048x16 : Shape := ⟨3, ![4, 2048, 16]⟩
abbrev S4x2048x1696 : Shape := ⟨3, ![4, 2048, 1696]⟩
abbrev S4x2048x1024 : Shape := ⟨3, ![4, 2048, 1024]⟩
abbrev S4x2048x8 : Shape := ⟨3, ![4, 2048, 8]⟩
abbrev S4x2048x4 : Shape := ⟨3, ![4, 2048, 4]⟩
abbrev S4x2048x96 : Shape := ⟨3, ![4, 2048, 96]⟩
abbrev S4x2048x2304 : Shape := ⟨3, ![4, 2048, 2304]⟩
abbrev S8192x2304 : Shape := ⟨2, ![8192, 2304]⟩
abbrev S4x2048x128 : Shape := ⟨3, ![4, 2048, 128]⟩
abbrev S8192x128 : Shape := ⟨2, ![8192, 128]⟩
abbrev S8192x16 : Shape := ⟨2, ![8192, 16]⟩
abbrev S16x8192 : Shape := ⟨2, ![16, 8192]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7872, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x7872, .f32⟩
  | .hbm, ⟨20, _⟩ => ⟨S4x2048x256, .f32⟩
  | .hbm, ⟨21, _⟩ => ⟨S4x2048x256, .f32⟩
  | .hbm, ⟨22, _⟩ => ⟨S4x2048x512, .f32⟩
  | .hbm, ⟨23, _⟩ => ⟨S4x2048x16, .f32⟩
  | .hbm, ⟨24, _⟩ => ⟨S4x2048x512, .f32⟩
  | .hbm, ⟨25, _⟩ => ⟨S4x2048x1696, .f32⟩
  | .hbm, ⟨26, _⟩ => ⟨S4x2048x512, .f32⟩
  | .hbm, ⟨27, _⟩ => ⟨S4x2048x1024, .f32⟩
  | .hbm, ⟨28, _⟩ => ⟨S4x2048x8, .f32⟩
  | .hbm, ⟨29, _⟩ => ⟨S4x2048x512, .f32⟩
  | .hbm, ⟨30, _⟩ => ⟨S4x2048x1024, .f32⟩
  | .hbm, ⟨31, _⟩ => ⟨S4x2048x512, .f32⟩
  | .hbm, ⟨32, _⟩ => ⟨S4x2048x4, .f32⟩
  | .hbm, ⟨33, _⟩ => ⟨S4x2048x4, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S4x2048x96, .f32⟩
  | .hbm, ⟨38, _⟩ => ⟨S4x2048x2304, .f32⟩
  | .hbm, ⟨39, _⟩ => ⟨S8192x2304, .f32⟩
  | .hbm, ⟨40, _⟩ => ⟨S_, .f32⟩
  | .hbm, ⟨41, _⟩ => ⟨S4x2048x96, .f32⟩
  | .hbm, ⟨42, _⟩ => ⟨S4x2048x128, .f32⟩
  | .hbm, ⟨43, _⟩ => ⟨S8192x128, .f32⟩
  | .hbm, ⟨44, _⟩ => ⟨S4x2048x4, .f32⟩
  | .hbm, ⟨45, _⟩ => ⟨S4x2048x4, .f32⟩
  | .hbm, ⟨46, _⟩ => ⟨S4x2048x16, .f32⟩
  | .hbm, ⟨47, _⟩ => ⟨S8192x16, .f32⟩
  | .hbm, ⟨48, _⟩ => ⟨S16x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== OutA.lean ====
abbrev S4x2048x2048 : Shape := ⟨3, ![4, 2048, 2048]⟩
abbrev S4x2048x512 : Shape := ⟨3, ![4, 2048, 512]⟩
abbrev S2048x2048 : Shape := ⟨2, ![2048, 2048]⟩
abbrev S8192x512 : Shape := ⟨2, ![8192, 512]⟩
abbrev S8192x2048 : Shape := ⟨2, ![8192, 2048]⟩
abbrev S512x2048 : Shape := ⟨2, ![512, 2048]⟩
abbrev S512x512 : Shape := ⟨2, ![512, 512]⟩
abbrev S256x2048 : Shape := ⟨2, ![256, 2048]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S2048x2048, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S2048x2048, .f32⟩
  | .local _ .vmem, ⟨11, _⟩ => ⟨S512x2048, .f32⟩
  | .local _ .vmem, ⟨12, _⟩ => ⟨S512x2048, .f32⟩
  | .local _ .vmem, ⟨13, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOutAIdeal.lean ====
abbrev S4x2048x2048 : Shape := ⟨3, ![4, 2048, 2048]⟩
abbrev S4x2048x512 : Shape := ⟨3, ![4, 2048, 512]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== OutB.lean ====
abbrev S4x2048x2048 : Shape := ⟨3, ![4, 2048, 2048]⟩
abbrev S4x2048x512 : Shape := ⟨3, ![4, 2048, 512]⟩
abbrev S2048x2048 : Shape := ⟨2, ![2048, 2048]⟩
abbrev S2048 : Shape := ⟨1, ![2048]⟩
abbrev S8192x512 : Shape := ⟨2, ![8192, 512]⟩
abbrev S8192x2048 : Shape := ⟨2, ![8192, 2048]⟩
abbrev S1x2048 : Shape := ⟨2, ![1, 2048]⟩
abbrev S512x2048 : Shape := ⟨2, ![512, 2048]⟩
abbrev S512x512 : Shape := ⟨2, ![512, 512]⟩
abbrev S256x2048 : Shape := ⟨2, ![256, 2048]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S2048x2048, .f32⟩
  | .hbm, ⟨6, _⟩ => ⟨S2048, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S2048x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefOutBIdeal.lean ====
abbrev S4x2048x2048 : Shape := ⟨3, ![4, 2048, 2048]⟩
abbrev S4x2048x512 : Shape := ⟨3, ![4, 2048, 512]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S2048x2048, .f32⟩
  | .hbm, ⟨6, _⟩ => ⟨S2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.MixRunA.lean ====
/- The mixers' body at a grid point that starts a group of rows: from its buffers at any contents it runs to its end, and leaves them at some contents. -/
module

public import proofs.«01_k».proof.Proof.Gen.Mixers.Skeleton
public import Idealize.ShloMosaic.Lib.Pipeline.FrameBody
public import Idealize.ShloMosaic.Lib.Ring
public import Idealize.ShloMosaic.Lib.Tactic

@[expose] public section

set_option maxRecDepth 65536

noncomputable section

namespace Cert.Mixers.Mix

open Cert.Mixers Cert.Mixers.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
theorem runA (c : Dev nD) (i : grid0.Coords) (arg2 : Memref sig .tc .vmem S4x64x2176 .f32) (harg2 : arg2.IsWhole) (arg3 : Memref sig .tc .vmem S1x1664 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S128x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S64x64 .bf16) (harg12 : arg12.IsWhole) (arg13 : Memref sig .tc .vmem S128x128 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S6x128x128 .bf16) (harg16 : arg16.IsWhole) (arg17 : Memref sig .tc .vmem S4x64x2560 .f32) (harg17 : arg17.IsWhole) (arg18 : Memref sig .tc .vmem S4x64x128 .f32) (harg18 : arg18.IsWhole) (arg19 : Memref sig .tc .vmem S4x1x16x64 .f32) (harg19 : arg19.IsWhole) (arg20 : Memref sig .tc .vmem S4x1024 .f32) (harg20 : arg20.IsWhole) (arg21 : Memref sig .tc .vmem S1x1024 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S8x1 .f32) (harg24 : arg24.IsWhole) (arg25 : Memref sig .tc .vmem S1x512 .f32) (harg25 : arg25.IsWhole) (arg26 : Memref sig .tc .vmem S64x64 .bf16) (harg26 : arg26.IsWhole) (arg27 : Memref sig .tc .vmem S64x64 .bf16) (harg27 : arg27.IsWhole) (arg28 : Memref sig .tc .vmem S128x512 .bf16) (harg28 : arg28.IsWhole) (arg29 : Memref sig .tc .vmem S128x512 .bf16) (harg29 : arg29.IsWhole) (arg30 : Memref sig .tc .vmem S4x64x1536 .f32) (harg30 : arg30.IsWhole) (arg31 : Memref sig .tc .vmem S4x64x128 .f32) (harg31 : arg31.IsWhole) (arg32 : Memref sig .tc .vmem S4x1x16x64 .f32) (harg32 : arg32.IsWhole) (arg33 : Memref sig .tc .vmem S4x1024 .f32) (harg33 : arg33.IsWhole) (arg34 : Memref sig .tc .vmem S1x1024 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S8x1 .f32) (harg37 : arg37.IsWhole) (arg38 : Memref sig .tc .vmem S8x1 .f32) (harg38 : arg38.IsWhole) (arg39 : Memref sig .tc .vmem S1x512 .f32) (harg39 : arg39.IsWhole) (arg40 : Memref sig .tc .vmem S1x512 .f32) (harg40 : arg40.IsWhole) (arg41 : Memref sig .tc .vmem S64x64 .bf16) (harg41 : arg41.IsWhole) (arg42 : Memref sig .tc .vmem S2x64x128 .bf16) (harg42 : arg42.IsWhole) (arg43 : Memref sig .tc .vmem S128x512 .bf16) (harg43 : arg43.IsWhole) (arg44 : Memref sig .tc .vmem S4x64x1536 .f32) (harg44 : arg44.IsWhole) (arg45 : Memref sig .tc .vmem S4x64x128 .f32) (harg45 : arg45.IsWhole) (arg46 : Memref sig .tc .vmem S128x256 .bf16) (harg46 : arg46.IsWhole) (arg47 : Memref sig .tc .vmem S1x256 .f32) (harg47 : arg47.IsWhole) (arg48 : Memref sig .tc .vmem S1x512 .f32) (harg48 : arg48.IsWhole) (arg49 : Memref sig .tc .vmem S64x64 .bf16) (harg49 : arg49.IsWhole) (arg50 : Memref sig .tc .vmem S4x64x512 .f32) (harg50 : arg50.IsWhole) (arg51 : Memref sig .tc .vmem S4x64x512 .f32) (harg51 : arg51.IsWhole) (arg52 : Memref sig .tc .vmem S4x64x512 .f32) (harg52 : arg52.IsWhole) (arg53 : Memref sig .tc .vmem S4x64x512 .f32) (harg53 : arg53.IsWhole) (arg54 : Memref sig .tc .vmem S4x64x512 .f32) (harg54 : arg54.IsWhole) (arg55 : Memref sig .tc .vmem S4x72x1664 .f32) (harg55 : arg55.IsWhole) (arg56 : Memref sig .tc .vmem S4x4x128x128 .f32) (harg56 : arg56.IsWhole) (arg57 : Memref sig .tc .vmem S4x72x1024 .f32) (harg57 : arg57.IsWhole) (arg58 : Memref sig .tc .vmem S4x4x128x128 .f32) (harg58 : arg58.IsWhole) (arg59 : Memref sig .tc .vmem S4x4x8x128 .f32) (harg59 : arg59.IsWhole) (arg60 : Memref sig .tc .vmem S4x72x1024 .f32) (harg60 : arg60.IsWhole) (arg61 : Memref sig .tc .vmem S4x4x128x128 .f32) (harg61 : arg61.IsWhole) (arg62 : Memref sig .tc .vmem S4x4x128x128 .f32) (harg62 : arg62.IsWhole)
    (hc : Scalar.cmpi .ne (Scalar.extui (Scalar.cmpi .eq (BitVec.ofNat 32 (i 1).val) 0#32) : BitVec 32) 0#32 = 1#1) (E : Set ℕ) :
    (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d)) : sProp 𝕄)
      ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62) fun _ =>
        (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d)) : sProp 𝕄) := by
  unfold owns
  simp only [harg55.set_eq_univ, harg57.set_eq_univ, harg60.set_eq_univ]
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩⟩
  sl_exec_parts! (disch := first | sl_exact hc)
  sl_step
  isplitl [H0]; · iexists _, _; isplitr; swap; (· iexact H0); ipureintro; rfl
  isplitl [H1]; · iexists _, _; isplitr; swap; (· iexact H1); ipureintro; rfl
  isplitl [H2]; · iexists _, _; isplitr; swap; (· iexact H2); ipureintro; rfl
  isplitl [H3]; · iexists _, _; isplitr; swap; (· iexact H3); ipureintro; rfl
  isplitl [H4]; · iexists _, _; isplitr; swap; (· iexact H4); ipureintro; rfl
  isplitl [H5]; · iexists _, _; isplitr; swap; (· iexact H5); ipureintro; rfl
  isplitl [H6]; · iexists _, _; isplitr; swap; (· iexact H6); ipureintro; rfl
  isplitl [H7]; · iexists _, _; isplitr; swap; (· iexact H7); ipureintro; rfl
  isplitl [H8]; · iexists _, _; isplitr; swap; (· iexact H8); ipureintro; rfl
  isplitl [H9]; · iexists _, _; isplitr; swap; (· iexact H9); ipureintro; rfl
  isplitl [H10]; · iexists _, _; isplitr; swap; (· iexact H10); ipureintro; rfl
  isplitl [H11]; · iexists _, _; isplitr; swap; (· iexact H11); ipureintro; rfl
  isplitl [H12]; · iexists _, _; isplitr; swap; (· iexact H12); ipureintro; rfl
  isplitl [H13]; · iexists _, _; isplitr; swap; (· iexact H13); ipureintro; rfl
  isplitl [H14]; · iexists _, _; isplitr; swap; (· iexact H14); ipureintro; rfl
  isplitl [H15]; · iexists _, _; isplitr; swap; (· iexact H15); ipureintro; rfl
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  isplitl [H21]; · iexists _, _; isplitr; swap; (· iexact H21); ipureintro; rfl
  isplitl [H22]; · iexists _, _; isplitr; swap; (· iexact H22); ipureintro; rfl
  isplitl [H23]; · iexists _, _; isplitr; swap; (· iexact H23); ipureintro; rfl
  isplitl [H24]; · iexists _, _; isplitr; swap; (· iexact H24); ipureintro; rfl
  isplitl [H25]; · iexists _, _; isplitr; swap; (· iexact H25); ipureintro; rfl
  isplitl [H26]; · iexists _, _; isplitr; swap; (· iexact H26); ipureintro; rfl
  isplitl [H27]; · iexists _, _; isplitr; swap; (· iexact H27); ipureintro; rfl
  isplitl [H28]; · iexists _, _; isplitr; swap; (· iexact H28); ipureintro; rfl
  isplitl [H29]; · iexists _, _; isplitr; swap; (· iexact H29); ipureintro; rfl
  isplitl [H30]; · iexists _, _; isplitr; swap; (· iexact H30); ipureintro; rfl
  isplitl [H31]; · iexists _, _; isplitr; swap; (· iexact H31); ipureintro; rfl
  isplitl [H32]; · iexists _, _; isplitr; swap; (· iexact H32); ipureintro; rfl
  isplitl [H33]; · iexists _, _; isplitr; swap; (· iexact H33); ipureintro; rfl
  isplitl [H34]; · iexists _, _; isplitr; swap; (· iexact H34); ipureintro; rfl
  isplitl [H35]; · iexists _, _; isplitr; swap; (· iexact H35); ipureintro; rfl
  isplitl [H36]; · iexists _, _; isplitr; swap; (· iexact H36); ipureintro; rfl
  isplitl [H37]; · iexists _, _; isplitr; swap; (· iexact H37); ipureintro; rfl
  isplitl [H38]; · iexists _, _; isplitr; swap; (· iexact H38); ipureintro; rfl
  isplitl [H39]; · iexists _, _; isplitr; swap; (· iexact H39); ipureintro; rfl
  isplitl [H40]; · iexists _, _; isplitr; swap; (· iexact H40); ipureintro; rfl
  isplitl [H41]; · iexists _, _; isplitr; swap; (· iexact H41); ipureintro; rfl
  isplitl [H42]; · iexists _, _; isplitr; swap; (· iexact H42); ipureintro; rfl
  isplitl [H43]; · iexists _, _; isplitr; swap; (· iexact H43); ipureintro; rfl
  isplitl [H44]; · iexists _, _; isplitr; swap; (· iexact H44); ipureintro; rfl
  isplitl [H45]; · iexists _, _; isplitr; swap; (· iexact H45); ipureintro; rfl
  isplitl [H46]; · iexists _, _; isplitr; swap; (· iexact H46); ipureintro; rfl
  isplitl [H47]; · iexists _, _; isplitr; swap; (· iexact H47); ipureintro; rfl
  isplitl [H48]; · iexists _, _; isplitr; swap; (· iexact H48); ipureintro; rfl
  isplitl [H49]; · iexists _, _; isplitr; swap; (· iexact H49); ipureintro; rfl
  isplitl [H50]; · iexists _, _; isplitr; swap; (· iexact H50); ipureintro; rfl
  isplitl [H51]; · iexists _, _; isplitr; swap; (· iexact H51); ipureintro; rfl
  isplitl [H52]; · iexists _, _; isplitr; swap; (· iexact H52); ipureintro; rfl
  isplitl [H53]; · iexists _, _; isplitr; swap; (· iexact H53); ipureintro; rfl
  isplitl [H54]; · iexists _, _; isplitr; swap; (· iexact H54); ipureintro; rfl
  isplitl [H55]; · iexists _, _; isplitr; swap; (· iexact H55); ipureintro; rfl
  isplitl [H56]; · iexists _, _; isplitr; swap; (· iexact H56); ipureintro; rfl
  isplitl [H57]; · iexists _, _; isplitr; swap; (· iexact H57); ipureintro; rfl
  isplitl [H58]; · iexists _, _; isplitr; swap; (· iexact H58); ipureintro; rfl
  isplitl [H59]; · iexists _, _; isplitr; swap; (· iexact H59); ipureintro; rfl
  iexists _, _; isplitr; swap; (· iexact H60); ipureintro; rfl

end Cert.Mixers.Mix

end
-- ==== Proof.MixRunB.lean ====
/- The mixers' body at a grid point that carries on a group of rows: from its buffers at any contents it runs to its end, and leaves them at some contents. -/
module

public import proofs.«01_k».proof.Proof.Gen.Mixers.Skeleton
public import Idealize.ShloMosaic.Lib.Pipeline.FrameBody
public import Idealize.ShloMosaic.Lib.Ring
public import Idealize.ShloMosaic.Lib.Tactic

@[expose] public section

set_option maxRecDepth 65536

noncomputable section

namespace Cert.Mixers.Mix

open Cert.Mixers Cert.Mixers.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
theorem runB (c : Dev nD) (i : grid0.Coords) (arg2 : Memref sig .tc .vmem S4x64x2176 .f32) (harg2 : arg2.IsWhole) (arg3 : Memref sig .tc .vmem S1x1664 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S128x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S64x64 .bf16) (harg12 : arg12.IsWhole) (arg13 : Memref sig .tc .vmem S128x128 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S6x128x128 .bf16) (harg16 : arg16.IsWhole) (arg17 : Memref sig .tc .vmem S4x64x2560 .f32) (harg17 : arg17.IsWhole) (arg18 : Memref sig .tc .vmem S4x64x128 .f32) (harg18 : arg18.IsWhole) (arg19 : Memref sig .tc .vmem S4x1x16x64 .f32) (harg19 : arg19.IsWhole) (arg20 : Memref sig .tc .vmem S4x1024 .f32) (harg20 : arg20.IsWhole) (arg21 : Memref sig .tc .vmem S1x1024 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S8x1 .f32) (harg24 : arg24.IsWhole) (arg25 : Memref sig .tc .vmem S1x512 .f32) (harg25 : arg25.IsWhole) (arg26 : Memref sig .tc .vmem S64x64 .bf16) (harg26 : arg26.IsWhole) (arg27 : Memref sig .tc .vmem S64x64 .bf16) (harg27 : arg27.IsWhole) (arg28 : Memref sig .tc .vmem S128x512 .bf16) (harg28 : arg28.IsWhole) (arg29 : Memref sig .tc .vmem S128x512 .bf16) (harg29 : arg29.IsWhole) (arg30 : Memref sig .tc .vmem S4x64x1536 .f32) (harg30 : arg30.IsWhole) (arg31 : Memref sig .tc .vmem S4x64x128 .f32) (harg31 : arg31.IsWhole) (arg32 : Memref sig .tc .vmem S4x1x16x64 .f32) (harg32 : arg32.IsWhole) (arg33 : Memref sig .tc .vmem S4x1024 .f32) (harg33 : arg33.IsWhole) (arg34 : Memref sig .tc .vmem S1x1024 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S8x1 .f32) (harg37 : arg37.IsWhole) (arg38 : Memref sig .tc .vmem S8x1 .f32) (harg38 : arg38.IsWhole) (arg39 : Memref sig .tc .vmem S1x512 .f32) (harg39 : arg39.IsWhole) (arg40 : Memref sig .tc .vmem S1x512 .f32) (harg40 : arg40.IsWhole) (arg41 : Memref sig .tc .vmem S64x64 .bf16) (harg41 : arg41.IsWhole) (arg42 : Memref sig .tc .vmem S2x64x128 .bf16) (harg42 : arg42.IsWhole) (arg43 : Memref sig .tc .vmem S128x512 .bf16) (harg43 : arg43.IsWhole) (arg44 : Memref sig .tc .vmem S4x64x1536 .f32) (harg44 : arg44.IsWhole) (arg45 : Memref sig .tc .vmem S4x64x128 .f32) (harg45 : arg45.IsWhole) (arg46 : Memref sig .tc .vmem S128x256 .bf16) (harg46 : arg46.IsWhole) (arg47 : Memref sig .tc .vmem S1x256 .f32) (harg47 : arg47.IsWhole) (arg48 : Memref sig .tc .vmem S1x512 .f32) (harg48 : arg48.IsWhole) (arg49 : Memref sig .tc .vmem S64x64 .bf16) (harg49 : arg49.IsWhole) (arg50 : Memref sig .tc .vmem S4x64x512 .f32) (harg50 : arg50.IsWhole) (arg51 : Memref sig .tc .vmem S4x64x512 .f32) (harg51 : arg51.IsWhole) (arg52 : Memref sig .tc .vmem S4x64x512 .f32) (harg52 : arg52.IsWhole) (arg53 : Memref sig .tc .vmem S4x64x512 .f32) (harg53 : arg53.IsWhole) (arg54 : Memref sig .tc .vmem S4x64x512 .f32) (harg54 : arg54.IsWhole) (arg55 : Memref sig .tc .vmem S4x72x1664 .f32) (harg55 : arg55.IsWhole) (arg56 : Memref sig .tc .vmem S4x4x128x128 .f32) (harg56 : arg56.IsWhole) (arg57 : Memref sig .tc .vmem S4x72x1024 .f32) (harg57 : arg57.IsWhole) (arg58 : Memref sig .tc .vmem S4x4x128x128 .f32) (harg58 : arg58.IsWhole) (arg59 : Memref sig .tc .vmem S4x4x8x128 .f32) (harg59 : arg59.IsWhole) (arg60 : Memref sig .tc .vmem S4x72x1024 .f32) (harg60 : arg60.IsWhole) (arg61 : Memref sig .tc .vmem S4x4x128x128 .f32) (harg61 : arg61.IsWhole) (arg62 : Memref sig .tc .vmem S4x4x128x128 .f32) (harg62 : arg62.IsWhole)
    (hc : ¬ Scalar.cmpi .ne (Scalar.extui (Scalar.cmpi .eq (BitVec.ofNat 32 (i 1).val) 0#32) : BitVec 32) 0#32 = 1#1) (E : Set ℕ) :
    (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d)) : sProp 𝕄)
      ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62) fun _ =>
        (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d)) : sProp 𝕄) := by
  unfold owns
  simp only [harg55.set_eq_univ, harg57.set_eq_univ, harg60.set_eq_univ]
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩⟩
  sl_exec_parts! (disch := first | sl_exact hc)
  sl_step
  isplitl [H0]; · iexists _, _; isplitr; swap; (· iexact H0); ipureintro; rfl
  isplitl [H1]; · iexists _, _; isplitr; swap; (· iexact H1); ipureintro; rfl
  isplitl [H2]; · iexists _, _; isplitr; swap; (· iexact H2); ipureintro; rfl
  isplitl [H3]; · iexists _, _; isplitr; swap; (· iexact H3); ipureintro; rfl
  isplitl [H4]; · iexists _, _; isplitr; swap; (· iexact H4); ipureintro; rfl
  isplitl [H5]; · iexists _, _; isplitr; swap; (· iexact H5); ipureintro; rfl
  isplitl [H6]; · iexists _, _; isplitr; swap; (· iexact H6); ipureintro; rfl
  isplitl [H7]; · iexists _, _; isplitr; swap; (· iexact H7); ipureintro; rfl
  isplitl [H8]; · iexists _, _; isplitr; swap; (· iexact H8); ipureintro; rfl
  isplitl [H9]; · iexists _, _; isplitr; swap; (· iexact H9); ipureintro; rfl
  isplitl [H10]; · iexists _, _; isplitr; swap; (· iexact H10); ipureintro; rfl
  isplitl [H11]; · iexists _, _; isplitr; swap; (· iexact H11); ipureintro; rfl
  isplitl [H12]; · iexists _, _; isplitr; swap; (· iexact H12); ipureintro; rfl
  isplitl [H13]; · iexists _, _; isplitr; swap; (· iexact H13); ipureintro; rfl
  isplitl [H14]; · iexists _, _; isplitr; swap; (· iexact H14); ipureintro; rfl
  isplitl [H15]; · iexists _, _; isplitr; swap; (· iexact H15); ipureintro; rfl
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  isplitl [H21]; · iexists _, _; isplitr; swap; (· iexact H21); ipureintro; rfl
  isplitl [H22]; · iexists _, _; isplitr; swap; (· iexact H22); ipureintro; rfl
  isplitl [H23]; · iexists _, _; isplitr; swap; (· iexact H23); ipureintro; rfl
  isplitl [H24]; · iexists _, _; isplitr; swap; (· iexact H24); ipureintro; rfl
  isplitl [H25]; · iexists _, _; isplitr; swap; (· iexact H25); ipureintro; rfl
  isplitl [H26]; · iexists _, _; isplitr; swap; (· iexact H26); ipureintro; rfl
  isplitl [H27]; · iexists _, _; isplitr; swap; (· iexact H27); ipureintro; rfl
  isplitl [H28]; · iexists _, _; isplitr; swap; (· iexact H28); ipureintro; rfl
  isplitl [H29]; · iexists _, _; isplitr; swap; (· iexact H29); ipureintro; rfl
  isplitl [H30]; · iexists _, _; isplitr; swap; (· iexact H30); ipureintro; rfl
  isplitl [H31]; · iexists _, _; isplitr; swap; (· iexact H31); ipureintro; rfl
  isplitl [H32]; · iexists _, _; isplitr; swap; (· iexact H32); ipureintro; rfl
  isplitl [H33]; · iexists _, _; isplitr; swap; (· iexact H33); ipureintro; rfl
  isplitl [H34]; · iexists _, _; isplitr; swap; (· iexact H34); ipureintro; rfl
  isplitl [H35]; · iexists _, _; isplitr; swap; (· iexact H35); ipureintro; rfl
  isplitl [H36]; · iexists _, _; isplitr; swap; (· iexact H36); ipureintro; rfl
  isplitl [H37]; · iexists _, _; isplitr; swap; (· iexact H37); ipureintro; rfl
  isplitl [H38]; · iexists _, _; isplitr; swap; (· iexact H38); ipureintro; rfl
  isplitl [H39]; · iexists _, _; isplitr; swap; (· iexact H39); ipureintro; rfl
  isplitl [H40]; · iexists _, _; isplitr; swap; (· iexact H40); ipureintro; rfl
  isplitl [H41]; · iexists _, _; isplitr; swap; (· iexact H41); ipureintro; rfl
  isplitl [H42]; · iexists _, _; isplitr; swap; (· iexact H42); ipureintro; rfl
  isplitl [H43]; · iexists _, _; isplitr; swap; (· iexact H43); ipureintro; rfl
  isplitl [H44]; · iexists _, _; isplitr; swap; (· iexact H44); ipureintro; rfl
  isplitl [H45]; · iexists _, _; isplitr; swap; (· iexact H45); ipureintro; rfl
  isplitl [H46]; · iexists _, _; isplitr; swap; (· iexact H46); ipureintro; rfl
  isplitl [H47]; · iexists _, _; isplitr; swap; (· iexact H47); ipureintro; rfl
  isplitl [H48]; · iexists _, _; isplitr; swap; (· iexact H48); ipureintro; rfl
  isplitl [H49]; · iexists _, _; isplitr; swap; (· iexact H49); ipureintro; rfl
  isplitl [H50]; · iexists _, _; isplitr; swap; (· iexact H50); ipureintro; rfl
  isplitl [H51]; · iexists _, _; isplitr; swap; (· iexact H51); ipureintro; rfl
  isplitl [H52]; · iexists _, _; isplitr; swap; (· iexact H52); ipureintro; rfl
  isplitl [H53]; · iexists _, _; isplitr; swap; (· iexact H53); ipureintro; rfl
  isplitl [H54]; · iexists _, _; isplitr; swap; (· iexact H54); ipureintro; rfl
  isplitl [H55]; · iexists _, _; isplitr; swap; (· iexact H55); ipureintro; rfl
  isplitl [H56]; · iexists _, _; isplitr; swap; (· iexact H56); ipureintro; rfl
  isplitl [H57]; · iexists _, _; isplitr; swap; (· iexact H57); ipureintro; rfl
  isplitl [H58]; · iexists _, _; isplitr; swap; (· iexact H58); ipureintro; rfl
  isplitl [H59]; · iexists _, _; isplitr; swap; (· iexact H59); ipureintro; rfl
  iexists _, _; isplitr; swap; (· iexact H60); ipureintro; rfl

end Cert.Mixers.Mix

end
-- ==== Proof.MixFrame.lean ====
/- The mixers' call as a whole: from any memory its run ends with every argument as it was. -/
module

public import proofs.«01_k».proof.Proof.Gen.Mixers.Frame
public import proofs.«01_k».proof.Proof.MixRunA
public import proofs.«01_k».proof.Proof.MixRunB

@[expose] public section

set_option maxRecDepth 65536

noncomputable section

namespace Cert.Mixers.Mix

open Cert.Mixers Cert.Mixers.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Of what the body leaves in a window's buffer nothing is said: the claim is of the arguments. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The body's buffers, each held at some contents. -/
def held (c : Dev nD) (t : Fin cfg0.N) : sProp 𝕄 := iprop((∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d) ∗ (∃ d, owns (c : Thread nD τ) (win0_20.stage (cfg0.slots t 20)) fullShare d) ∗ (∃ d, owns (c : Thread nD τ) (win0_21.stage (cfg0.slots t 21)) fullShare d) ∗ (∃ d, owns (c : Thread nD τ) (win0_22.stage (cfg0.slots t 22)) fullShare d) ∗ (∃ d, owns (c : Thread nD τ) (win0_23.stage (cfg0.slots t 23)) fullShare d) ∗ (∃ d, owns (c : Thread nD τ) (win0_24.stage (cfg0.slots t 24)) fullShare d) ∗ (∃ d, owns (c : Thread nD τ) (win0_25.stage (cfg0.slots t 25)) fullShare d) ∗ (∃ d, owns (c : Thread nD τ) (win0_26.stage (cfg0.slots t 26)) fullShare d) ∗ (∃ d, owns (c : Thread nD τ) (win0_27.stage (cfg0.slots t 27)) fullShare d) ∗ (∃ d, owns (c : Thread nD τ) (win0_28.stage (cfg0.slots t 28)) fullShare d) ∗ (∃ d, owns (c : Thread nD τ) (win0_29.stage (cfg0.slots t 29)) fullShare d) ∗ (∃ d, owns (c : Thread nD τ) (win0_30.stage (cfg0.slots t 30)) fullShare d) ∗ (∃ d, owns (c : Thread nD τ) (win0_31.stage (cfg0.slots t 31)) fullShare d) ∗ (∃ d, owns (c : Thread nD τ) (win0_32.stage (cfg0.slots t 32)) fullShare d) ∗ (∃ d, owns (c : Thread nD τ) (win0_33.stage (cfg0.slots t 33)) fullShare d) ∗ (∃ d, owns (c : Thread nD τ) (win0_34.stage (cfg0.slots t 34)) fullShare d) ∗ (∃ d, owns (c : Thread nD τ) (win0_35.stage (cfg0.slots t 35)) fullShare d) ∗ (∃ d, owns (c : Thread nD τ) (win0_36.stage (cfg0.slots t 36)) fullShare d) ∗ (∃ d, owns (c : Thread nD τ) (win0_37.stage (cfg0.slots t 37)) fullShare d) ∗ (∃ d, owns (c : Thread nD τ) (win0_38.stage (cfg0.slots t 38)) fullShare d) ∗ (∃ d, owns (c : Thread nD τ) (win0_39.stage (cfg0.slots t 39)) fullShare d) ∗ (∃ d, owns (c : Thread nD τ) (win0_40.stage (cfg0.slots t 40)) fullShare d) ∗ (∃ d, owns (c : Thread nD τ) (win0_41.stage (cfg0.slots t 41)) fullShare d) ∗ (∃ d, owns (c : Thread nD τ) (win0_42.stage (cfg0.slots t 42)) fullShare d) ∗ (∃ d, owns (c : Thread nD τ) (win0_43.stage (cfg0.slots t 43)) fullShare d) ∗ (∃ d, owns (c : Thread nD τ) (win0_44.stage (cfg0.slots t 44)) fullShare d) ∗ (∃ d, owns (c : Thread nD τ) (win0_45.stage (cfg0.slots t 45)) fullShare d) ∗ (∃ d, owns (c : Thread nD τ) (win0_46.stage (cfg0.slots t 46)) fullShare d) ∗ (∃ d, owns (c : Thread nD τ) (win0_47.stage (cfg0.slots t 47)) fullShare d) ∗ (∃ d, owns (c : Thread nD τ) (win0_48.stage (cfg0.slots t 48)) fullShare d) ∗ (∃ d, owns (c : Thread nD τ) (win0_49.stage (cfg0.slots t 49)) fullShare d) ∗ (∃ d, owns (c : Thread nD τ) (win0_50.stage (cfg0.slots t 50)) fullShare d) ∗ (∃ d, owns (c : Thread nD τ) (win0_51.stage (cfg0.slots t 51)) fullShare d) ∗ (∃ d, owns (c : Thread nD τ) (win0_52.stage (cfg0.slots t 52)) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d))

/-- The scratch buffers and the generator's register, as the body's buffers. -/
theorem scratch_eq (c : Dev nD) : (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

set_option maxHeartbeats 0 in
theorem run_body (c : Dev nD) (t : Fin cfg0.N) : held (F := F) c t ⊢ wp frame (wpE (defs₀ (F := F)) Variants.none c none) Set.univ (bodyAt0 t) fun _ => held c t := by
  unfold held bodyAt0
  by_cases hc : Scalar.cmpi .ne (Scalar.extui (Scalar.cmpi .eq (BitVec.ofNat 32 (grid0.coords t 1).val) 0#32) : BitVec 32) 0#32 = 1#1
  · exact runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc Set.univ
  · exact runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc Set.univ

set_option maxHeartbeats 0 in
theorem enter (c : Dev nD) (t : Fin cfg0.N) (Y : (w : Fin cfg0.W) → (cfg0.win w).block.Idx → Elt F (cfg0.win w).elt) (O : sProp 𝕄) :
    iprop(Pipeline.ΦA spec0 c ∗ O ∗ bigSep Finset.univ fun w : Fin cfg0.W => owns (c : Thread nD τ) ((cfg0.win w).stage (cfg0.slots t w)) fullShare (Y w))
      ⊢ iprop(held c t ∗ ((∃ r, prngReg c r) ∗ O)) := by
  rw [bigSep_W0, scratch_eq]
  unfold held
  iintro ⟨⟨⟨Z0, Z1, Z2, Z3, Z4, Z5, Z6, Z7⟩, Hg⟩, Ho, H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52⟩
  isplitr [Hg Ho]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  · isplitl [Hg]; · iexact Hg
    iexact Ho

set_option maxHeartbeats 0 in
theorem leave (c : Dev nD) (t : Fin cfg0.N) (O : sProp 𝕄) :
    iprop(held c t ∗ ((∃ r, prngReg c r) ∗ O)) ⊢
      iprop(Pipeline.ΦA spec0 c ∗ O ∗ bigSep Finset.univ fun w : Fin cfg0.W => iprop(∃ X, ⌜True⌝ ∗ owns (c : Thread nD τ) ((cfg0.win w).stage (cfg0.slots t w)) fullShare X)) := by
  rw [bigSep_W0, scratch_eq]
  unfold held
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, Z0, Z1, Z2, Z3, Z4, Z5, Z6, Z7⟩, Hg, Ho⟩
  isplitl [Z0 Z1 Z2 Z3 Z4 Z5 Z6 Z7 Hg]
  · isplitr [Hg]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    · iexact Hg
  isplitl [Ho]; · iexact Ho
  isplitl [H0]; · iexists _; isplitr; (· ipureintro; trivial); iexact H0
  isplitl [H1]; · iexists _; isplitr; (· ipureintro; trivial); iexact H1
  isplitl [H2]; · iexists _; isplitr; (· ipureintro; trivial); iexact H2
  isplitl [H3]; · iexists _; isplitr; (· ipureintro; trivial); iexact H3
  isplitl [H4]; · iexists _; isplitr; (· ipureintro; trivial); iexact H4
  isplitl [H5]; · iexists _; isplitr; (· ipureintro; trivial); iexact H5
  isplitl [H6]; · iexists _; isplitr; (· ipureintro; trivial); iexact H6
  isplitl [H7]; · iexists _; isplitr; (· ipureintro; trivial); iexact H7
  isplitl [H8]; · iexists _; isplitr; (· ipureintro; trivial); iexact H8
  isplitl [H9]; · iexists _; isplitr; (· ipureintro; trivial); iexact H9
  isplitl [H10]; · iexists _; isplitr; (· ipureintro; trivial); iexact H10
  isplitl [H11]; · iexists _; isplitr; (· ipureintro; trivial); iexact H11
  isplitl [H12]; · iexists _; isplitr; (· ipureintro; trivial); iexact H12
  isplitl [H13]; · iexists _; isplitr; (· ipureintro; trivial); iexact H13
  isplitl [H14]; · iexists _; isplitr; (· ipureintro; trivial); iexact H14
  isplitl [H15]; · iexists _; isplitr; (· ipureintro; trivial); iexact H15
  isplitl [H16]; · iexists _; isplitr; (· ipureintro; trivial); iexact H16
  isplitl [H17]; · iexists _; isplitr; (· ipureintro; trivial); iexact H17
  isplitl [H18]; · iexists _; isplitr; (· ipureintro; trivial); iexact H18
  isplitl [H19]; · iexists _; isplitr; (· ipureintro; trivial); iexact H19
  isplitl [H20]; · iexists _; isplitr; (· ipureintro; trivial); iexact H20
  isplitl [H21]; · iexists _; isplitr; (· ipureintro; trivial); iexact H21
  isplitl [H22]; · iexists _; isplitr; (· ipureintro; trivial); iexact H22
  isplitl [H23]; · iexists _; isplitr; (· ipureintro; trivial); iexact H23
  isplitl [H24]; · iexists _; isplitr; (· ipureintro; trivial); iexact H24
  isplitl [H25]; · iexists _; isplitr; (· ipureintro; trivial); iexact H25
  isplitl [H26]; · iexists _; isplitr; (· ipureintro; trivial); iexact H26
  isplitl [H27]; · iexists _; isplitr; (· ipureintro; trivial); iexact H27
  isplitl [H28]; · iexists _; isplitr; (· ipureintro; trivial); iexact H28
  isplitl [H29]; · iexists _; isplitr; (· ipureintro; trivial); iexact H29
  isplitl [H30]; · iexists _; isplitr; (· ipureintro; trivial); iexact H30
  isplitl [H31]; · iexists _; isplitr; (· ipureintro; trivial); iexact H31
  isplitl [H32]; · iexists _; isplitr; (· ipureintro; trivial); iexact H32
  isplitl [H33]; · iexists _; isplitr; (· ipureintro; trivial); iexact H33
  isplitl [H34]; · iexists _; isplitr; (· ipureintro; trivial); iexact H34
  isplitl [H35]; · iexists _; isplitr; (· ipureintro; trivial); iexact H35
  isplitl [H36]; · iexists _; isplitr; (· ipureintro; trivial); iexact H36
  isplitl [H37]; · iexists _; isplitr; (· ipureintro; trivial); iexact H37
  isplitl [H38]; · iexists _; isplitr; (· ipureintro; trivial); iexact H38
  isplitl [H39]; · iexists _; isplitr; (· ipureintro; trivial); iexact H39
  isplitl [H40]; · iexists _; isplitr; (· ipureintro; trivial); iexact H40
  isplitl [H41]; · iexists _; isplitr; (· ipureintro; trivial); iexact H41
  isplitl [H42]; · iexists _; isplitr; (· ipureintro; trivial); iexact H42
  isplitl [H43]; · iexists _; isplitr; (· ipureintro; trivial); iexact H43
  isplitl [H44]; · iexists _; isplitr; (· ipureintro; trivial); iexact H44
  isplitl [H45]; · iexists _; isplitr; (· ipureintro; trivial); iexact H45
  isplitl [H46]; · iexists _; isplitr; (· ipureintro; trivial); iexact H46
  isplitl [H47]; · iexists _; isplitr; (· ipureintro; trivial); iexact H47
  isplitl [H48]; · iexists _; isplitr; (· ipureintro; trivial); iexact H48
  isplitl [H49]; · iexists _; isplitr; (· ipureintro; trivial); iexact H49
  isplitl [H50]; · iexists _; isplitr; (· ipureintro; trivial); iexact H50
  isplitl [H51]; · iexists _; isplitr; (· ipureintro; trivial); iexact H51
  iexists _; isplitr; (· ipureintro; trivial); iexact H52

theorem row (t : Fin cfg0.N) : defs₀ (F := F) .tc cfg0.body (cfg0.bodyArgs t (cfg0.slots t)) = bodyAt0 t := by
  unfold defs₀; rw [Defs.onTc_tc]

theorem body (c : Dev nD) : (rdat m c).BodyObligation (defs₀ (F := F)) Variants.none () Set.univ := fun t Y _ => by
  rw [row]
  exact (enter c t Y _).trans (((BI.sep_mono_l (run_body c t)).trans (wp_frame_r _ _ _)).trans (wp_mono _ _ _ fun _ => leave c t _))

set_option backward.isDefEq.respectTransparency.types false in
theorem run_main : θ_run defs (onTc (τ := τ) (main (F := F))) (s₀ m ρ) (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body m) (hq := fun _ _ _ => rfl) (howed := fun _ _ => rfl) (V m) (hmain m Variants.none) (hA := fun _ _ => rfl)
    (hin := fun _ => .rfl) (hout := fun _ => .rfl) (hQ' := fun _ h => h)

set_option maxHeartbeats 0 in
/-- The call runs to its end and leaves its arguments as they were. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)) ∧ r.2.sem = fun _ => 0) :=
  (θ_run defs _ _).mono (fun r h => ⟨fun c =>
    have k := fun w hw => Pipeline.RDat.FramePost.arr_in (cfg₁ := cfg0) h.1 c w hw
    ⟨k 0 rfl, k 1 rfl, k 2 rfl, k 3 rfl, k 4 rfl, k 5 rfl, k 6 rfl, k 7 rfl, k 8 rfl, k 9 rfl, k 47 rfl, k 11 rfl, k 12 rfl, k 13 rfl, k 14 rfl, k 15 rfl, k 43 rfl, k 30 rfl, k 18 rfl, k 19 rfl, k 20 rfl, k 21 rfl, k 22 rfl, k 23 rfl, k 25 rfl, k 26 rfl, k 27 rfl, k 28 rfl, k 31 rfl, k 32 rfl, k 33 rfl, k 34 rfl, k 35 rfl, k 36 rfl, k 37 rfl, k 38 rfl, k 40 rfl, k 41 rfl, k 42 rfl, k 44 rfl, k 45 rfl, k 46 rfl⟩, h.2⟩) (run_main m ρ)

end Cert.Mixers.Mix

end
-- ==== Proof.ProjCell.lean ====
/- One entry of a projection: a row of activations, normalised by its root mean square and scaled by a gain, against one
   row of weights. Every projection's kernel and reference meet in this number. -/
module

public import Idealize.ShloMosaic.Lib.Pipeline.ValueKit
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.VecWindow
public import Idealize.ShloMosaic.Lib.Ring

@[expose] public section

noncomputable section

namespace Proj

open Idealize.ShloMosaic

/-- The reciprocal root mean square of a row of 2048 numbers, with the model's epsilon under the root. -/
def inv (x : Fin 2048 → EReal) : EReal :=
  Ideal.rsqrt (Ideal.div (∑ k, x k * x k) (Ideal.ofBits .f32 0x45000000#32) + Ideal.ofBits .f32 0x358637BD#32)

/-- The normalised, gained row against one row of weights. -/
def cell (x g w : Fin 2048 → EReal) : EReal := ∑ k, x k * inv x * g k * w k

theorem cell_congr {x x' g g' w w' : Fin 2048 → EReal} (hx : ∀ k, x k = x' k) (hg : ∀ k, g k = g' k) (hw : ∀ k, w k = w' k) :
    cell x g w = cell x' g' w' := by rw [funext hx, funext hg, funext hw]

/-- A load of a whole buffer after pieces that cover it and agree with `G` reads `G`. -/
theorem readCov_of_pieces {Val : EltTy → Type} [∀ e, Nonempty (Val e)] {sig : RefSig} {κ : Kind} {sp : Space} {s : Shape} {e : EltTy} (v : View sig κ sp s e)
    (L : List (View.Piece Val s e)) {off : Fin s.rank → ℕ} (inb : ∀ a, off a + s.size a ≤ s.size a) (G : s.Idx → Val e)
    (hG : ∀ p ∈ L, ∀ x : p.1.shape.Idx, p.2 x = G (p.1.emb x)) (hc : ∀ y, ∃ p ∈ L, y ∈ p.1.set) :
    v.readCov L (Rect.unit off s.size inb).toLoadRect = G := by
  rw [View.readCov_eq_canon']
  funext y
  have e : (Rect.unit off s.size inb).toLoadRect.idx y = y := Rect.emb_unit_full inb y
  rw [e]
  exact View.canon_apply_of_pieces G L hG y (hc y)

/-- Pieces that cover a buffer and agree with `G` leave `G` in it. -/
theorem canon_of_pieces {Val : EltTy → Type} [∀ e, Nonempty (Val e)] {s : Shape} {e : EltTy} (L : List (View.Piece Val s e)) (G : s.Idx → Val e)
    (hG : ∀ p ∈ L, ∀ x : p.1.shape.Idx, p.2 x = G (p.1.emb x)) (hc : ∀ y, ∃ p ∈ L, y ∈ p.1.set) : View.canon L = G :=
  funext fun y => View.canon_apply_of_pieces G L hG y (hc y)

/-- A slab of projections: entry `(r, j)` is row `r` of the normalised activations against column `col j` of the weights. -/
def slab {N n : ℕ} (col : Fin n → Fin N) (X : FVec Ideal ⟨3, ![4, 2048, 2048]⟩ .f32) (g : FVec Ideal ⟨1, ![2048]⟩ .f32) (W : FVec Ideal ⟨2, ![2048, N]⟩ .f32) :
    FVec Ideal ⟨2, ![8192, n]⟩ .f32 := fun i =>
  cell (fun k => X (ix3 ⟨(i 0).val / 2048, by have : (i 0).val < 8192 := (i 0).isLt; omega⟩ ⟨(i 0).val % 2048, by omega⟩ k)) (fun k => g (ix1 k)) (fun k => W (ix2 k (col (i 1))))

theorem slab_at {N n : ℕ} (col : Fin n → Fin N) (X : FVec Ideal ⟨3, ![4, 2048, 2048]⟩ .f32) (g : FVec Ideal ⟨1, ![2048]⟩ .f32) (W : FVec Ideal ⟨2, ![2048, N]⟩ .f32)
    (i : (⟨2, ![8192, n]⟩ : Shape).Idx) (a : Fin 4) (b : Fin 2048) (q : Fin N) (ha : a.val = (i 0).val / 2048) (hb : b.val = (i 0).val % 2048)
    (hq : q.val = (col (i 1)).val) :
    slab col X g W i = cell (fun k => X (ix3 a b k)) (fun k => g (ix1 k)) (fun k => W (ix2 k q)) := by
  have ea : (⟨(i 0).val / 2048, by have : (i 0).val < 8192 := (i 0).isLt; omega⟩ : Fin 4) = a := Fin.ext ha.symm
  have eb : (⟨(i 0).val % 2048, by omega⟩ : Fin 2048) = b := Fin.ext hb.symm
  have eq : col (i 1) = q := Fin.ext hq.symm
  rw [← ea, ← eb, ← eq]; rfl

/-- A block of rows against two blocks of weights, side by side. -/
def tile {R n0 n1 n : ℕ} (hn : n = n0 + n1) (x : FVec Ideal ⟨2, ![R, 2048]⟩ .f32) (g : FVec Ideal ⟨2, ![1, 2048]⟩ .f32) (w0 : FVec Ideal ⟨2, ![n0, 2048]⟩ .bf16)
    (w1 : FVec Ideal ⟨2, ![n1, 2048]⟩ .bf16) : FVec Ideal ⟨2, ![R, n]⟩ .f32 := fun y =>
  cell (fun k => x (ix2 (y 0) k)) (fun k => g (ix2 0 k)) (if h : (y 1).val < n0 then fun k => w0 (ix2 ⟨(y 1).val, h⟩ k)
    else fun k => w1 (ix2 ⟨(y 1).val - n0, by have : (y 1).val < n := (y 1).isLt; omega⟩ k))

theorem tile_lo {R n0 n1 n : ℕ} (hn : n = n0 + n1) (x g w0 w1) (y : (⟨2, ![R, n]⟩ : Shape).Idx) (h : (y 1).val < n0) : tile (n1 := n1) hn x g w0 w1 y =
    cell (fun k => x (ix2 (y 0) k)) (fun k => g (ix2 0 k)) (fun k => w0 (ix2 ⟨(y 1).val, h⟩ k)) := by
  unfold tile; rw [dif_pos h]
theorem tile_hi {R n0 n1 n : ℕ} (hn : n = n0 + n1) (x g w0 w1) (y : (⟨2, ![R, n]⟩ : Shape).Idx) (h : ¬(y 1).val < n0) : tile (n1 := n1) hn x g w0 w1 y =
    cell (fun k => x (ix2 (y 0) k)) (fun k => g (ix2 0 k)) (fun k => w1 (ix2 ⟨(y 1).val - n0, by have : (y 1).val < n := (y 1).isLt; omega⟩ k)) := by
  unfold tile; rw [dif_neg h]

/-- Rows of the `[8192, 2048]` view of the activations. -/
theorem rows_at (X : FVec Ideal ⟨3, ![4, 2048, 2048]⟩ .f32) (h : (⟨3, ![4, 2048, 2048]⟩ : Shape).ShapeCasts ⟨2, ![8192, 2048]⟩) (p : Fin 8192) (k : Fin 2048)
    (a : Fin 4) (b : Fin 2048) (ha : a.val = p.val / 2048) (hb : b.val = p.val % 2048) :
    shapeCast ⟨2, ![8192, 2048]⟩ X h (ix2 p k) = X (ix3 a b k) := by
  have ea : (⟨p.val / 2048, by omega⟩ : Fin 4) = a := Fin.ext ha.symm
  have eb : (⟨p.val % 2048, by omega⟩ : Fin 2048) = b := Fin.ext hb.symm
  rw [← ea, ← eb]
  pointwise

end Proj
-- ==== Proof.InGlaVal.lean ====
module

public import proofs.«01_k».proof.Proof.Gen.InGlaIdeal.Frame
public import proofs.«01_k».proof.Proof.Gen.RefInGlaIdeal.Run
public import proofs.«01_k».proof.Proof.ProjCell
public import proofs.«01_k».proof.Defs

@[expose] public section

set_option maxRecDepth 16384

noncomputable section

open Idealize.ShloMosaic Idealize.ShloMosaic.TcCoe Idealize.SL.Sem
open Idealize.ShloMosaic.Pipeline (Dat)

namespace Cert.InGlaIdeal.Proj

open Cert.InGlaIdeal Cert.InGlaIdeal.Gen

variable (m : (ℓ : Loc nD τ sig) → Buf (Elt Ideal) ℓ) (ρ : Dev nD → PrngReg)

theorem payA_at (x : Vec Ideal S512x2048 .f32) (g : Vec Ideal S1x2048 .f32) (w : Vec Ideal S1024x2048 .bf16) (j : S512x1024.Idx) :
    k0_pay12 (F := Ideal) x g w j = _root_.Proj.cell (fun k => x (ix2 (j 0) k)) (fun k => g (ix2 0 k)) (fun k => w (ix2 (j 1) k)) := by
  idx_vars j
  pointwise [k0_pay12, k0_pay11, _root_.Proj.cell, _root_.Proj.inv]

theorem payB_at (x : Vec Ideal S512x2048 .f32) (g : Vec Ideal S1x2048 .f32) (w : Vec Ideal S512x2048 .bf16) (j : S512x512.Idx) :
    k0_pay13 (F := Ideal) x g w j = _root_.Proj.cell (fun k => x (ix2 (j 0) k)) (fun k => g (ix2 0 k)) (fun k => w (ix2 (j 1) k)) := by
  idx_vars j
  pointwise [k0_pay13, k0_pay11, _root_.Proj.cell, _root_.Proj.inv]

theorem payC_at (x : Vec Ideal S512x2048 .f32) (g : Vec Ideal S1x2048 .f32) (w : Vec Ideal S1024x2048 .bf16) (j : S512x1024.Idx) :
    k0_pay2 (F := Ideal) (k0_pay14 x) (k0_pay15 x) g w j = _root_.Proj.cell (fun k => x (ix2 (j 0) k)) (fun k => g (ix2 0 k)) (fun k => w (ix2 (j 1) k)) := by
  idx_vars j
  pointwise [k0_pay2, k0_pay1, k0_pay14, k0_pay15, _root_.Proj.cell, _root_.Proj.inv]

theorem payD_at (x : Vec Ideal S512x2048 .f32) (g : Vec Ideal S1x2048 .f32) (w : Vec Ideal S512x2048 .bf16) (j : S512x512.Idx) :
    k0_pay3 (F := Ideal) (k0_pay14 x) (k0_pay15 x) g w j = _root_.Proj.cell (fun k => x (ix2 (j 0) k)) (fun k => g (ix2 0 k)) (fun k => w (ix2 (j 1) k)) := by
  idx_vars j
  pointwise [k0_pay3, k0_pay1, k0_pay14, k0_pay15, _root_.Proj.cell, _root_.Proj.inv]

/-- Every window's block index at a grid point. -/
theorem idx : ∀ t : Fin cfg0.N, win0_0.index t = ![t.val, 0] ∧ win0_1.index t = ![0, 0] ∧ win0_2.index t = ![0, 0]
    ∧ win0_3.index t = ![1040, 0] ∧ win0_4.index t = ![t.val, 0] :=
  (by decide +kernel : ∀ t : Fin grid0.N, _)

/-- The column of the weight matrix that column `j` of the slab is a projection by. -/
def col (j : Fin 1536) : Fin 7840 := ⟨if j.val < 1024 then 0 + j.val else 1040 + (j.val - 1024), by split <;> omega⟩

theorem col_lo (j : Fin 1536) (v : ℕ) (hv : j.val = v) (h : v < 1024) : 0 + v = (col j).val := by
  subst hv; exact (if_pos h).symm
theorem col_hi (j : Fin 1536) (v : ℕ) (hv : j.val = v) (h : ¬v < 1024) : 1040 + (v - 1024) = (col j).val := by
  subst hv; exact (if_neg h).symm

def wts0 (W : FVec Ideal S2048x7840 .f32) : FVec Ideal S1024x2048 .bf16 := fun y => W (ix2 (y 1) ⟨0 + (y 0).val, by have : (y 0).val < 1024 := (y 0).isLt; omega⟩)
def wts1 (W : FVec Ideal S2048x7840 .f32) : FVec Ideal S512x2048 .bf16 := fun y => W (ix2 (y 1) ⟨1040 + (y 0).val, by have : (y 0).val < 512 := (y 0).isLt; omega⟩)
theorem wts0_at (W : FVec Ideal S2048x7840 .f32) (y) : wts0 W y = W (ix2 (y 1) ⟨0 + (y 0).val, by have : (y 0).val < 1024 := (y 0).isLt; omega⟩) := rfl
theorem wts1_at (W : FVec Ideal S2048x7840 .f32) (y) : wts1 W y = W (ix2 (y 1) ⟨1040 + (y 0).val, by have : (y 0).val < 512 := (y 0).isLt; omega⟩) := rfl

theorem emb2 (t : Fin cfg0.N) (y : S1024x2048.Idx) (a : Fin 2) :
    (((View.whole main_v2).slice (win0_2.rect t)).emb y a).val = win0_2.index t a + 1 * (y a).val := rfl
theorem emb3 (t : Fin cfg0.N) (y : S512x2048.Idx) (a : Fin 2) :
    (((View.whole main_v2).slice (win0_3.rect t)).emb y a).val = win0_3.index t a + 1 * (y a).val := rfl

theorem blk2 (c : Dev nD) (t : Fin cfg0.N) : iblk m c 2 t = wts0 (m ((c : Thread nD τ).loc main_arg2)) := by
  funext y
  pointwise [wts0_at]; blk_point [iblk, V, idx t]
  all_goals (rw [emb2, (idx t).2.2.1]; simp)

theorem blk3 (c : Dev nD) (t : Fin cfg0.N) : iblk m c 3 t = wts1 (m ((c : Thread nD τ).loc main_arg2)) := by
  funext y
  pointwise [wts1_at]; blk_point [iblk, V, idx t]
  all_goals (rw [emb3, (idx t).2.2.2.1]; simp)

/-- Rounding a block of weights is the identity on the reals. -/
theorem pay_wts (X : Vec Ideal S256x2048 .f32) : k0_pay4 (F := Ideal) X = X
    ∧ k0_pay5 (F := Ideal) X = X
    ∧ k0_pay6 (F := Ideal) X = X
    ∧ k0_pay7 (F := Ideal) X = X
    ∧ k0_pay8 (F := Ideal) X = X
    ∧ k0_pay10 (F := Ideal) (k0_pay9 X) = X := by
  refine ⟨?_, ?_, ?_, ?_, ?_, ?_⟩ <;> funext j <;> pointwise [k0_pay4, k0_pay5, k0_pay6, k0_pay7, k0_pay8, k0_pay10, k0_pay9]

/-- The four stores of a grid step write the block of the slab. -/
theorem canon_tile (x : Vec Ideal S1024x2048 .f32) (g : Vec Ideal S1x2048 .f32) (w0 : Vec Ideal S1024x2048 .bf16) (w1 : Vec Ideal S512x2048 .bf16) :
    View.canon (Val := Elt Ideal) (s := S1024x1536) (e := .f32)
      [⟨Rect.unit ![512, 1024] ![512, 512] inb_S1024x1536_S512x512_512_1024,
          k0_pay3 (k0_pay14 (View.ld x (Rect.unit ![512, 0] ![512, 2048] inb_S1024x2048_S512x2048_512_0)))
            (k0_pay15 (View.ld x (Rect.unit ![512, 0] ![512, 2048] inb_S1024x2048_S512x2048_512_0))) g w1⟩,
        ⟨Rect.unit ![512, 0] ![512, 1024] inb_S1024x1536_S512x1024_512_0,
          k0_pay2 (k0_pay14 (View.ld x (Rect.unit ![512, 0] ![512, 2048] inb_S1024x2048_S512x2048_512_0)))
            (k0_pay15 (View.ld x (Rect.unit ![512, 0] ![512, 2048] inb_S1024x2048_S512x2048_512_0))) g w0⟩,
        ⟨Rect.unit ![0, 1024] ![512, 512] inb_S1024x1536_S512x512_0_1024,
          k0_pay13 (View.ld x (Rect.unit ![0, 0] ![512, 2048] inb_S1024x2048_S512x2048_0_0)) g w1⟩,
        ⟨Rect.unit ![0, 0] ![512, 1024] inb_S1024x1536_S512x1024_0_0,
          k0_pay12 (View.ld x (Rect.unit ![0, 0] ![512, 2048] inb_S1024x2048_S512x2048_0_0)) g w0⟩] = _root_.Proj.tile (R := 1024) (n0 := 1024) (n1 := 512) (n := 1536) rfl x g w0 w1 := by
  funext y
  refine View.canon_apply_of_pieces _ _ ?_ y (View.cover_of_tiledBy (s := S1024x1536) _ ![512, 512] (by sl_kernel_rfl) y)
  simp only [List.forall_mem_cons]
  refine ⟨fun j => ?_, fun j => ?_, fun j => ?_, fun j => ?_, by simp⟩
  · rw [_root_.Proj.tile_hi rfl _ _ _ _ _ (by show ¬(1024 + 1 * (j 1).val < 1024); omega), payD_at]
    pointwise; refine _root_.Proj.cell_congr (fun k => ?_) (fun k => rfl) (fun k => ?_) <;> blk_ext
  · rw [_root_.Proj.tile_lo rfl _ _ _ _ _ (by show (0 + 1 * (j 1).val < 1024); have : (j 1).val < 1024 := (j 1).isLt; omega), payC_at]
    pointwise; refine _root_.Proj.cell_congr (fun k => ?_) (fun k => rfl) (fun k => ?_) <;> blk_ext
  · rw [_root_.Proj.tile_hi rfl _ _ _ _ _ (by show ¬(1024 + 1 * (j 1).val < 1024); omega), payB_at]
    pointwise; refine _root_.Proj.cell_congr (fun k => ?_) (fun k => rfl) (fun k => ?_) <;> blk_ext
  · rw [_root_.Proj.tile_lo rfl _ _ _ _ _ (by show (0 + 1 * (j 1).val < 1024); have : (j 1).val < 1024 := (j 1).isLt; omega), payA_at]
    pointwise; refine _root_.Proj.cell_congr (fun k => ?_) (fun k => rfl) (fun k => ?_) <;> blk_ext

abbrev w0 (c : Dev nD) := wts0 (m ((c : Thread nD τ).loc main_arg2))
abbrev w1 (c : Dev nD) := wts1 (m ((c : Thread nD τ).loc main_arg2))

theorem stepA (c : Dev nD) (t : Fin cfg0.N) (h0 : t.val % 8 = 0) :
    outsAt0 m c t.val t.isLt = (_root_.Proj.tile (R := 1024) (n0 := 1024) (n1 := 512) (n := 1536) rfl (iblk m c 0 t) (iblk m c 1 t) (w0 m c) (w1 m c), w0 m c, w1 m c) := by
  rw [outsAt0_A m c t h0]
  frame_out
  rw [blk2, blk3]
  simp only [(pay_wts _).1, (pay_wts _).2.1, (pay_wts _).2.2.1, (pay_wts _).2.2.2.1, (pay_wts _).2.2.2.2.1, (pay_wts _).2.2.2.2.2]
  rw [_root_.Proj.readCov_of_pieces (s := S1024x2048) (View.whole cc0_scratch0) _ (off := ![0, 0]) inb_S1024x2048_S1024x2048_0_0 (w0 m c) ?h0 (View.cover_of_tiledL _ S256x2048.size (by sl_kernel_rfl)),
    _root_.Proj.readCov_of_pieces (s := S512x2048) (View.whole cc0_scratch1) _ (off := ![0, 0]) inb_S512x2048_S512x2048_0_0 (w1 m c) ?h1 (View.cover_of_tiledL _ S256x2048.size (by sl_kernel_rfl)),
    canon_tile, _root_.Proj.canon_of_pieces (s := S1024x2048) _ (w0 m c) ?h0 (View.cover_of_tiledL _ S256x2048.size (by sl_kernel_rfl)),
    _root_.Proj.canon_of_pieces (s := S512x2048) _ (w1 m c) ?h1 (View.cover_of_tiledL _ S256x2048.size (by sl_kernel_rfl))]
  all_goals (simp only [List.forall_mem_cons]; repeat' (first | refine ⟨fun x => rfl, ?_⟩ | exact fun p hp => absurd hp List.not_mem_nil))

theorem stepB (c : Dev nD) (t : Fin cfg0.N) (h0 : ¬t.val % 8 = 0) (hp : (outsAt0 m c (t.val - 1) (by have := t.isLt; omega)).2 = (w0 m c, w1 m c)) :
    outsAt0 m c t.val t.isLt = (_root_.Proj.tile (R := 1024) (n0 := 1024) (n1 := 512) (n := 1536) rfl (iblk m c 0 t) (iblk m c 1 t) (w0 m c) (w1 m c), w0 m c, w1 m c) := by
  rw [outsAt0_B m c t h0]
  frame_out
  simp only [read_unread_whole, hp]
  rw [canon_tile]
  rfl

theorem steps (c : Dev nD) : ∀ (n : ℕ) (h : n < cfg0.N),
    outsAt0 m c n h = (_root_.Proj.tile (R := 1024) (n0 := 1024) (n1 := 512) (n := 1536) rfl (iblk m c 0 ⟨n, h⟩) (iblk m c 1 ⟨n, h⟩) (w0 m c) (w1 m c), w0 m c, w1 m c)
  | 0, h => stepA m c ⟨0, h⟩ rfl
  | n + 1, h => by
    by_cases h0 : (n + 1) % 8 = 0
    · exact stepA m c ⟨n + 1, h⟩ h0
    · exact stepB m c ⟨n + 1, h⟩ h0 (by show (outsAt0 m c n _).2 = _; rw [steps c n])

theorem emb0 (t : Fin cfg0.N) (y : S1024x2048.Idx) (a : Fin 2) :
    (((View.whole main_v0).slice (win0_0.rect t)).emb y a).val = win0_0.index t a * S1024x2048.size a + 1 * (y a).val := rfl

theorem blkX (c : Dev nD) (t : Fin cfg0.N) (p : Fin 1024) (k : Fin 2048) (a : Fin 4) (b : Fin 2048)
    (ha : a.val = (t.val * 1024 + p.val) / 2048) (hb : b.val = (t.val * 1024 + p.val) % 2048) :
    iblk m c 0 t (ix2 p k) = m ((c : Thread nD τ).loc main_arg0) (ix3 a b k) := by
  have ht : t.val < 8 := t.isLt
  have e : ((View.whole main_v0).slice (win0_0.rect t)).emb (ix2 p k) = (ix2 ⟨t.val * 1024 + p.val, by omega⟩ k : S8192x2048.Idx) := by
    funext x
    apply Fin.ext
    rw [emb0, (idx t).1]
    match x with
    | 0 => show t.val * 1024 + 1 * p.val = t.val * 1024 + p.val; omega
    | 1 => show 0 * 2048 + 1 * k.val = k.val; omega
  unfold iblk
  entry_read
  show shapeCast S8192x2048 (m ((c : Thread nD τ).loc main_arg0)) shapeCasts_S4x2048x2048_S8192x2048 (((View.whole main_v0).slice (win0_0.rect t)).emb (ix2 p k)) = _
  rw [e]
  exact _root_.Proj.rows_at _ _ _ _ _ _ ha hb

theorem blkG (c : Dev nD) (t : Fin cfg0.N) (k : Fin 2048) : iblk m c 1 t (ix2 0 k) = m ((c : Thread nD τ).loc main_arg1) (ix1 k) := by
  unfold iblk
  entry_read
  have e : ((View.whole main_v1).slice (win0_1.rect t)).emb (ix2 0 k) = (ix2 0 k : S1x2048.Idx) := by
    funext x
    apply Fin.ext
    match x with
    | 0 => show win0_1.index t 0 * 1 + 1 * 0 = 0; rw [(idx t).2.1]; simp
    | 1 => show win0_1.index t 1 * 2048 + 1 * k.val = k.val; rw [(idx t).2.1]; simp
  show shapeCast S1x2048 (m ((c : Thread nD τ).loc main_arg1)) shapeCasts_S2048_S1x2048 (((View.whole main_v1).slice (win0_1.rect t)).emb (ix2 0 k)) = _
  rw [e]
  pointwise

/-- The result array is the slab. -/
theorem final (c : Dev nD) : (dats m 0 c).arrAt 4 cfg0.N =
    _root_.Proj.slab (N := 7840) (n := 1536) col (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, steps]
  have e0 : ((win0_4.blk t).view.emb y 0).val = t.val * 1024 + 1 * (y 0).val := by
    show win0_4.index t 0 * 1024 + 1 * (y 0).val = _; rw [(idx t).2.2.2.2]; rfl
  have e1 : ((win0_4.blk t).view.emb y 1).val = 0 * 1536 + 1 * (y 1).val := by
    show win0_4.index t 1 * 1536 + 1 * (y 1).val = _; rw [(idx t).2.2.2.2]; rfl
  have ht : t.val < 8 := t.isLt
  have h0 : (y 0).val < 1024 := (y 0).isLt
  have h1 : (y 1).val < 1536 := (y 1).isLt
  by_cases h : (y 1).val < 1024
  · refine (_root_.Proj.tile_lo (R := 1024) (n0 := 1024) (n1 := 512) (n := 1536) rfl _ _ _ _ _ h).trans ?_
    rw [_root_.Proj.slab_at col _ _ _ _ ⟨(t.val * 1024 + (y 0).val) / 2048, by omega⟩ ⟨(t.val * 1024 + (y 0).val) % 2048, by omega⟩ ⟨0 + (y 1).val, by omega⟩
      (by rw [e0]; simp) (by rw [e0]; simp) (col_lo _ _ (e1.trans (by omega)) h)]
    exact _root_.Proj.cell_congr (fun k => blkX m c t _ k _ _ rfl rfl) (fun k => blkG m c t k) fun k => rfl
  · refine (_root_.Proj.tile_hi (R := 1024) (n0 := 1024) (n1 := 512) (n := 1536) rfl _ _ _ _ _ h).trans ?_
    rw [_root_.Proj.slab_at col _ _ _ _ ⟨(t.val * 1024 + (y 0).val) / 2048, by omega⟩ ⟨(t.val * 1024 + (y 0).val) % 2048, by omega⟩ ⟨1040 + ((y 1).val - 1024), by omega⟩
      (by rw [e0]; simp) (by rw [e0]; simp) (col_hi _ _ (e1.trans (by omega)) h)]
    exact _root_.Proj.cell_congr (fun k => blkX m c t _ k _ _ rfl rfl) (fun k => blkG m c t k) fun k => rfl

/-- The kernel's slab is the reference's. -/
theorem algebraic : Cert.algebraic_InGlaIdeal_RefInGlaIdeal (hInGlaIdeal := Cert.InGlaIdeal.Gen.facts) (hRefInGlaIdeal := Cert.RefInGlaIdeal.Gen.facts) := by
  pair_intro
  · run_from Cert.InGlaIdeal.Gen.run_main m g
  · run_from Cert.RefInGlaIdeal.Value.run m' g'
    rw [final, ← (hagree c).1, ← (hagree c).2.1, ← (hagree c).2.2]
    funext j
    pointwise [Cert.RefInGlaIdeal.Value.res_main_v31]
    have h1 : (j 1).val < 1536 := (j 1).isLt
    split_ifs
    all_goals
      refine Eq.symm (_root_.Proj.slab_at col _ _ _ j _ _ _ rfl rfl ?_)
      show _ = ite _ _ _
      split <;> (try dsimp only at *) <;> omega

end Cert.InGlaIdeal.Proj
-- ==== Proof.InSsdVal.lean ====
module

public import proofs.«01_k».proof.Proof.Gen.InSsdIdeal.Frame
public import proofs.«01_k».proof.Proof.Gen.RefInSsdIdeal.Run
public import proofs.«01_k».proof.Proof.ProjCell
public import proofs.«01_k».proof.Defs

@[expose] public section

set_option maxRecDepth 16384

noncomputable section

open Idealize.ShloMosaic Idealize.ShloMosaic.TcCoe Idealize.SL.Sem
open Idealize.ShloMosaic.Pipeline (Dat)

namespace Cert.InSsdIdeal.Proj

open Cert.InSsdIdeal Cert.InSsdIdeal.Gen

variable (m : (ℓ : Loc nD τ sig) → Buf (Elt Ideal) ℓ) (ρ : Dev nD → PrngReg)

theorem payA_at (x : Vec Ideal S512x2048 .f32) (g : Vec Ideal S1x2048 .f32) (w : Vec Ideal S1024x2048 .bf16) (j : S512x1024.Idx) :
    k0_pay12 (F := Ideal) x g w j = _root_.Proj.cell (fun k => x (ix2 (j 0) k)) (fun k => g (ix2 0 k)) (fun k => w (ix2 (j 1) k)) := by
  idx_vars j
  pointwise [k0_pay12, k0_pay11, _root_.Proj.cell, _root_.Proj.inv]

theorem payB_at (x : Vec Ideal S512x2048 .f32) (g : Vec Ideal S1x2048 .f32) (w : Vec Ideal S512x2048 .bf16) (j : S512x512.Idx) :
    k0_pay13 (F := Ideal) x g w j = _root_.Proj.cell (fun k => x (ix2 (j 0) k)) (fun k => g (ix2 0 k)) (fun k => w (ix2 (j 1) k)) := by
  idx_vars j
  pointwise [k0_pay13, k0_pay11, _root_.Proj.cell, _root_.Proj.inv]

theorem payC_at (x : Vec Ideal S512x2048 .f32) (g : Vec Ideal S1x2048 .f32) (w : Vec Ideal S1024x2048 .bf16) (j : S512x1024.Idx) :
    k0_pay2 (F := Ideal) (k0_pay14 x) (k0_pay15 x) g w j = _root_.Proj.cell (fun k => x (ix2 (j 0) k)) (fun k => g (ix2 0 k)) (fun k => w (ix2 (j 1) k)) := by
  idx_vars j
  pointwise [k0_pay2, k0_pay1, k0_pay14, k0_pay15, _root_.Proj.cell, _root_.Proj.inv]

theorem payD_at (x : Vec Ideal S512x2048 .f32) (g : Vec Ideal S1x2048 .f32) (w : Vec Ideal S512x2048 .bf16) (j : S512x512.Idx) :
    k0_pay3 (F := Ideal) (k0_pay14 x) (k0_pay15 x) g w j = _root_.Proj.cell (fun k => x (ix2 (j 0) k)) (fun k => g (ix2 0 k)) (fun k => w (ix2 (j 1) k)) := by
  idx_vars j
  pointwise [k0_pay3, k0_pay1, k0_pay14, k0_pay15, _root_.Proj.cell, _root_.Proj.inv]

/-- Every window's block index at a grid point. -/
theorem idx : ∀ t : Fin cfg0.N, win0_0.index t = ![t.val, 0] ∧ win0_1.index t = ![0, 0] ∧ win0_2.index t = ![3728, 0]
    ∧ win0_3.index t = ![4760, 0] ∧ win0_4.index t = ![t.val, 0] :=
  (by decide +kernel : ∀ t : Fin grid0.N, _)

/-- The column of the weight matrix that column `j` of the slab is a projection by. -/
def col (j : Fin 1536) : Fin 7840 := ⟨if j.val < 1024 then 3728 + j.val else 4760 + (j.val - 1024), by split <;> omega⟩

theorem col_lo (j : Fin 1536) (v : ℕ) (hv : j.val = v) (h : v < 1024) : 3728 + v = (col j).val := by
  subst hv; exact (if_pos h).symm
theorem col_hi (j : Fin 1536) (v : ℕ) (hv : j.val = v) (h : ¬v < 1024) : 4760 + (v - 1024) = (col j).val := by
  subst hv; exact (if_neg h).symm

def wts0 (W : FVec Ideal S2048x7840 .f32) : FVec Ideal S1024x2048 .bf16 := fun y => W (ix2 (y 1) ⟨3728 + (y 0).val, by have : (y 0).val < 1024 := (y 0).isLt; omega⟩)
def wts1 (W : FVec Ideal S2048x7840 .f32) : FVec Ideal S512x2048 .bf16 := fun y => W (ix2 (y 1) ⟨4760 + (y 0).val, by have : (y 0).val < 512 := (y 0).isLt; omega⟩)
theorem wts0_at (W : FVec Ideal S2048x7840 .f32) (y) : wts0 W y = W (ix2 (y 1) ⟨3728 + (y 0).val, by have : (y 0).val < 1024 := (y 0).isLt; omega⟩) := rfl
theorem wts1_at (W : FVec Ideal S2048x7840 .f32) (y) : wts1 W y = W (ix2 (y 1) ⟨4760 + (y 0).val, by have : (y 0).val < 512 := (y 0).isLt; omega⟩) := rfl

theorem emb2 (t : Fin cfg0.N) (y : S1024x2048.Idx) (a : Fin 2) :
    (((View.whole main_v2).slice (win0_2.rect t)).emb y a).val = win0_2.index t a + 1 * (y a).val := rfl
theorem emb3 (t : Fin cfg0.N) (y : S512x2048.Idx) (a : Fin 2) :
    (((View.whole main_v2).slice (win0_3.rect t)).emb y a).val = win0_3.index t a + 1 * (y a).val := rfl

theorem blk2 (c : Dev nD) (t : Fin cfg0.N) : iblk m c 2 t = wts0 (m ((c : Thread nD τ).loc main_arg2)) := by
  funext y
  pointwise [wts0_at]; blk_point [iblk, V, idx t]
  all_goals (rw [emb2, (idx t).2.2.1]; simp)

theorem blk3 (c : Dev nD) (t : Fin cfg0.N) : iblk m c 3 t = wts1 (m ((c : Thread nD τ).loc main_arg2)) := by
  funext y
  pointwise [wts1_at]; blk_point [iblk, V, idx t]
  all_goals (rw [emb3, (idx t).2.2.2.1]; simp)

/-- Rounding a block of weights is the identity on the reals. -/
theorem pay_wts (X : Vec Ideal S256x2048 .f32) : k0_pay4 (F := Ideal) X = X
    ∧ k0_pay5 (F := Ideal) X = X
    ∧ k0_pay6 (F := Ideal) X = X
    ∧ k0_pay7 (F := Ideal) X = X
    ∧ k0_pay8 (F := Ideal) X = X
    ∧ k0_pay10 (F := Ideal) (k0_pay9 X) = X := by
  refine ⟨?_, ?_, ?_, ?_, ?_, ?_⟩ <;> funext j <;> pointwise [k0_pay4, k0_pay5, k0_pay6, k0_pay7, k0_pay8, k0_pay10, k0_pay9]

/-- The four stores of a grid step write the block of the slab. -/
theorem canon_tile (x : Vec Ideal S1024x2048 .f32) (g : Vec Ideal S1x2048 .f32) (w0 : Vec Ideal S1024x2048 .bf16) (w1 : Vec Ideal S512x2048 .bf16) :
    View.canon (Val := Elt Ideal) (s := S1024x1536) (e := .f32)
      [⟨Rect.unit ![512, 1024] ![512, 512] inb_S1024x1536_S512x512_512_1024,
          k0_pay3 (k0_pay14 (View.ld x (Rect.unit ![512, 0] ![512, 2048] inb_S1024x2048_S512x2048_512_0)))
            (k0_pay15 (View.ld x (Rect.unit ![512, 0] ![512, 2048] inb_S1024x2048_S512x2048_512_0))) g w1⟩,
        ⟨Rect.unit ![512, 0] ![512, 1024] inb_S1024x1536_S512x1024_512_0,
          k0_pay2 (k0_pay14 (View.ld x (Rect.unit ![512, 0] ![512, 2048] inb_S1024x2048_S512x2048_512_0)))
            (k0_pay15 (View.ld x (Rect.unit ![512, 0] ![512, 2048] inb_S1024x2048_S512x2048_512_0))) g w0⟩,
        ⟨Rect.unit ![0, 1024] ![512, 512] inb_S1024x1536_S512x512_0_1024,
          k0_pay13 (View.ld x (Rect.unit ![0, 0] ![512, 2048] inb_S1024x2048_S512x2048_0_0)) g w1⟩,
        ⟨Rect.unit ![0, 0] ![512, 1024] inb_S1024x1536_S512x1024_0_0,
          k0_pay12 (View.ld x (Rect.unit ![0, 0] ![512, 2048] inb_S1024x2048_S512x2048_0_0)) g w0⟩] = _root_.Proj.tile (R := 1024) (n0 := 1024) (n1 := 512) (n := 1536) rfl x g w0 w1 := by
  funext y
  refine View.canon_apply_of_pieces _ _ ?_ y (View.cover_of_tiledBy (s := S1024x1536) _ ![512, 512] (by sl_kernel_rfl) y)
  simp only [List.forall_mem_cons]
  refine ⟨fun j => ?_, fun j => ?_, fun j => ?_, fun j => ?_, by simp⟩
  · rw [_root_.Proj.tile_hi rfl _ _ _ _ _ (by show ¬(1024 + 1 * (j 1).val < 1024); omega), payD_at]
    pointwise; refine _root_.Proj.cell_congr (fun k => ?_) (fun k => rfl) (fun k => ?_) <;> blk_ext
  · rw [_root_.Proj.tile_lo rfl _ _ _ _ _ (by show (0 + 1 * (j 1).val < 1024); have : (j 1).val < 1024 := (j 1).isLt; omega), payC_at]
    pointwise; refine _root_.Proj.cell_congr (fun k => ?_) (fun k => rfl) (fun k => ?_) <;> blk_ext
  · rw [_root_.Proj.tile_hi rfl _ _ _ _ _ (by show ¬(1024 + 1 * (j 1).val < 1024); omega), payB_at]
    pointwise; refine _root_.Proj.cell_congr (fun k => ?_) (fun k => rfl) (fun k => ?_) <;> blk_ext
  · rw [_root_.Proj.tile_lo rfl _ _ _ _ _ (by show (0 + 1 * (j 1).val < 1024); have : (j 1).val < 1024 := (j 1).isLt; omega), payA_at]
    pointwise; refine _root_.Proj.cell_congr (fun k => ?_) (fun k => rfl) (fun k => ?_) <;> blk_ext

abbrev w0 (c : Dev nD) := wts0 (m ((c : Thread nD τ).loc main_arg2))
abbrev w1 (c : Dev nD) := wts1 (m ((c : Thread nD τ).loc main_arg2))

theorem stepA (c : Dev nD) (t : Fin cfg0.N) (h0 : t.val % 8 = 0) :
    outsAt0 m c t.val t.isLt = (_root_.Proj.tile (R := 1024) (n0 := 1024) (n1 := 512) (n := 1536) rfl (iblk m c 0 t) (iblk m c 1 t) (w0 m c) (w1 m c), w0 m c, w1 m c) := by
  rw [outsAt0_A m c t h0]
  frame_out
  rw [blk2, blk3]
  simp only [(pay_wts _).1, (pay_wts _).2.1, (pay_wts _).2.2.1, (pay_wts _).2.2.2.1, (pay_wts _).2.2.2.2.1, (pay_wts _).2.2.2.2.2]
  rw [_root_.Proj.readCov_of_pieces (s := S1024x2048) (View.whole cc0_scratch0) _ (off := ![0, 0]) inb_S1024x2048_S1024x2048_0_0 (w0 m c) ?h0 (View.cover_of_tiledL _ S256x2048.size (by sl_kernel_rfl)),
    _root_.Proj.readCov_of_pieces (s := S512x2048) (View.whole cc0_scratch1) _ (off := ![0, 0]) inb_S512x2048_S512x2048_0_0 (w1 m c) ?h1 (View.cover_of_tiledL _ S256x2048.size (by sl_kernel_rfl)),
    canon_tile, _root_.Proj.canon_of_pieces (s := S1024x2048) _ (w0 m c) ?h0 (View.cover_of_tiledL _ S256x2048.size (by sl_kernel_rfl)),
    _root_.Proj.canon_of_pieces (s := S512x2048) _ (w1 m c) ?h1 (View.cover_of_tiledL _ S256x2048.size (by sl_kernel_rfl))]
  all_goals (simp only [List.forall_mem_cons]; repeat' (first | refine ⟨fun x => rfl, ?_⟩ | exact fun p hp => absurd hp List.not_mem_nil))

theorem stepB (c : Dev nD) (t : Fin cfg0.N) (h0 : ¬t.val % 8 = 0) (hp : (outsAt0 m c (t.val - 1) (by have := t.isLt; omega)).2 = (w0 m c, w1 m c)) :
    outsAt0 m c t.val t.isLt = (_root_.Proj.tile (R := 1024) (n0 := 1024) (n1 := 512) (n := 1536) rfl (iblk m c 0 t) (iblk m c 1 t) (w0 m c) (w1 m c), w0 m c, w1 m c) := by
  rw [outsAt0_B m c t h0]
  frame_out
  simp only [read_unread_whole, hp]
  rw [canon_tile]
  rfl

theorem steps (c : Dev nD) : ∀ (n : ℕ) (h : n < cfg0.N),
    outsAt0 m c n h = (_root_.Proj.tile (R := 1024) (n0 := 1024) (n1 := 512) (n := 1536) rfl (iblk m c 0 ⟨n, h⟩) (iblk m c 1 ⟨n, h⟩) (w0 m c) (w1 m c), w0 m c, w1 m c)
  | 0, h => stepA m c ⟨0, h⟩ rfl
  | n + 1, h => by
    by_cases h0 : (n + 1) % 8 = 0
    · exact stepA m c ⟨n + 1, h⟩ h0
    · exact stepB m c ⟨n + 1, h⟩ h0 (by show (outsAt0 m c n _).2 = _; rw [steps c n])

theorem emb0 (t : Fin cfg0.N) (y : S1024x2048.Idx) (a : Fin 2) :
    (((View.whole main_v0).slice (win0_0.rect t)).emb y a).val = win0_0.index t a * S1024x2048.size a + 1 * (y a).val := rfl

theorem blkX (c : Dev nD) (t : Fin cfg0.N) (p : Fin 1024) (k : Fin 2048) (a : Fin 4) (b : Fin 2048)
    (ha : a.val = (t.val * 1024 + p.val) / 2048) (hb : b.val = (t.val * 1024 + p.val) % 2048) :
    iblk m c 0 t (ix2 p k) = m ((c : Thread nD τ).loc main_arg0) (ix3 a b k) := by
  have ht : t.val < 8 := t.isLt
  have e : ((View.whole main_v0).slice (win0_0.rect t)).emb (ix2 p k) = (ix2 ⟨t.val * 1024 + p.val, by omega⟩ k : S8192x2048.Idx) := by
    funext x
    apply Fin.ext
    rw [emb0, (idx t).1]
    match x with
    | 0 => show t.val * 1024 + 1 * p.val = t.val * 1024 + p.val; omega
    | 1 => show 0 * 2048 + 1 * k.val = k.val; omega
  unfold iblk
  entry_read
  show shapeCast S8192x2048 (m ((c : Thread nD τ).loc main_arg0)) shapeCasts_S4x2048x2048_S8192x2048 (((View.whole main_v0).slice (win0_0.rect t)).emb (ix2 p k)) = _
  rw [e]
  exact _root_.Proj.rows_at _ _ _ _ _ _ ha hb

theorem blkG (c : Dev nD) (t : Fin cfg0.N) (k : Fin 2048) : iblk m c 1 t (ix2 0 k) = m ((c : Thread nD τ).loc main_arg1) (ix1 k) := by
  unfold iblk
  entry_read
  have e : ((View.whole main_v1).slice (win0_1.rect t)).emb (ix2 0 k) = (ix2 0 k : S1x2048.Idx) := by
    funext x
    apply Fin.ext
    match x with
    | 0 => show win0_1.index t 0 * 1 + 1 * 0 = 0; rw [(idx t).2.1]; simp
    | 1 => show win0_1.index t 1 * 2048 + 1 * k.val = k.val; rw [(idx t).2.1]; simp
  show shapeCast S1x2048 (m ((c : Thread nD τ).loc main_arg1)) shapeCasts_S2048_S1x2048 (((View.whole main_v1).slice (win0_1.rect t)).emb (ix2 0 k)) = _
  rw [e]
  pointwise

/-- The result array is the slab. -/
theorem final (c : Dev nD) : (dats m 0 c).arrAt 4 cfg0.N =
    _root_.Proj.slab (N := 7840) (n := 1536) col (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, steps]
  have e0 : ((win0_4.blk t).view.emb y 0).val = t.val * 1024 + 1 * (y 0).val := by
    show win0_4.index t 0 * 1024 + 1 * (y 0).val = _; rw [(idx t).2.2.2.2]; rfl
  have e1 : ((win0_4.blk t).view.emb y 1).val = 0 * 1536 + 1 * (y 1).val := by
    show win0_4.index t 1 * 1536 + 1 * (y 1).val = _; rw [(idx t).2.2.2.2]; rfl
  have ht : t.val < 8 := t.isLt
  have h0 : (y 0).val < 1024 := (y 0).isLt
  have h1 : (y 1).val < 1536 := (y 1).isLt
  by_cases h : (y 1).val < 1024
  · refine (_root_.Proj.tile_lo (R := 1024) (n0 := 1024) (n1 := 512) (n := 1536) rfl _ _ _ _ _ h).trans ?_
    rw [_root_.Proj.slab_at col _ _ _ _ ⟨(t.val * 1024 + (y 0).val) / 2048, by omega⟩ ⟨(t.val * 1024 + (y 0).val) % 2048, by omega⟩ ⟨3728 + (y 1).val, by omega⟩
      (by rw [e0]; simp) (by rw [e0]; simp) (col_lo _ _ (e1.trans (by omega)) h)]
    exact _root_.Proj.cell_congr (fun k => blkX m c t _ k _ _ rfl rfl) (fun k => blkG m c t k) fun k => rfl
  · refine (_root_.Proj.tile_hi (R := 1024) (n0 := 1024) (n1 := 512) (n := 1536) rfl _ _ _ _ _ h).trans ?_
    rw [_root_.Proj.slab_at col _ _ _ _ ⟨(t.val * 1024 + (y 0).val) / 2048, by omega⟩ ⟨(t.val * 1024 + (y 0).val) % 2048, by omega⟩ ⟨4760 + ((y 1).val - 1024), by omega⟩
      (by rw [e0]; simp) (by rw [e0]; simp) (col_hi _ _ (e1.trans (by omega)) h)]
    exact _root_.Proj.cell_congr (fun k => blkX m c t _ k _ _ rfl rfl) (fun k => blkG m c t k) fun k => rfl

/-- The kernel's slab is the reference's. -/
theorem algebraic : Cert.algebraic_InSsdIdeal_RefInSsdIdeal (hInSsdIdeal := Cert.InSsdIdeal.Gen.facts) (hRefInSsdIdeal := Cert.RefInSsdIdeal.Gen.facts) := by
  pair_intro
  · run_from Cert.InSsdIdeal.Gen.run_main m g
  · run_from Cert.RefInSsdIdeal.Value.run m' g'
    rw [final, ← (hagree c).1, ← (hagree c).2.1, ← (hagree c).2.2]
    funext j
    pointwise
    have h1 : (j 1).val < 1536 := (j 1).isLt
    split_ifs
    all_goals
      refine Eq.symm (_root_.Proj.slab_at col _ _ _ j _ _ _ rfl rfl ?_)
      show _ = ite _ _ _
      split <;> (try dsimp only at *) <;> omega

end Cert.InSsdIdeal.Proj
-- ==== Proof.InMlstmVal.lean ====
module

public import proofs.«01_k».proof.Proof.Gen.InMlstmIdeal.Frame
public import proofs.«01_k».proof.Proof.Gen.RefInMlstmIdeal.Run
public import proofs.«01_k».proof.Proof.ProjCell
public import proofs.«01_k».proof.Defs

@[expose] public section

set_option maxRecDepth 16384

noncomputable section

open Idealize.ShloMosaic Idealize.ShloMosaic.TcCoe Idealize.SL.Sem
open Idealize.ShloMosaic.Pipeline (Dat)

namespace Cert.InMlstmIdeal.Proj

open Cert.InMlstmIdeal Cert.InMlstmIdeal.Gen

variable (m : (ℓ : Loc nD τ sig) → Buf (Elt Ideal) ℓ) (ρ : Dev nD → PrngReg)

theorem payA_at (x : Vec Ideal S256x2048 .f32) (g : Vec Ideal S1x2048 .f32) (w : Vec Ideal S1536x2048 .bf16) (j : S256x1536.Idx) :
    k0_pay16 (F := Ideal) x g w j = _root_.Proj.cell (fun k => x (ix2 (j 0) k)) (fun k => g (ix2 0 k)) (fun k => w (ix2 (j 1) k)) := by
  idx_vars j
  pointwise [k0_pay16, k0_pay15, _root_.Proj.cell, _root_.Proj.inv]

theorem payB_at (x : Vec Ideal S256x2048 .f32) (g : Vec Ideal S1x2048 .f32) (w : Vec Ideal S1024x2048 .bf16) (j : S256x1024.Idx) :
    k0_pay17 (F := Ideal) x g w j = _root_.Proj.cell (fun k => x (ix2 (j 0) k)) (fun k => g (ix2 0 k)) (fun k => w (ix2 (j 1) k)) := by
  idx_vars j
  pointwise [k0_pay17, k0_pay15, _root_.Proj.cell, _root_.Proj.inv]

theorem payC_at (x : Vec Ideal S256x2048 .f32) (g : Vec Ideal S1x2048 .f32) (w : Vec Ideal S1536x2048 .bf16) (j : S256x1536.Idx) :
    k0_pay2 (F := Ideal) (k0_pay18 x) (k0_pay19 x) g w j = _root_.Proj.cell (fun k => x (ix2 (j 0) k)) (fun k => g (ix2 0 k)) (fun k => w (ix2 (j 1) k)) := by
  idx_vars j
  pointwise [k0_pay2, k0_pay1, k0_pay18, k0_pay19, _root_.Proj.cell, _root_.Proj.inv]

theorem payD_at (x : Vec Ideal S256x2048 .f32) (g : Vec Ideal S1x2048 .f32) (w : Vec Ideal S1024x2048 .bf16) (j : S256x1024.Idx) :
    k0_pay3 (F := Ideal) (k0_pay18 x) (k0_pay19 x) g w j = _root_.Proj.cell (fun k => x (ix2 (j 0) k)) (fun k => g (ix2 0 k)) (fun k => w (ix2 (j 1) k)) := by
  idx_vars j
  pointwise [k0_pay3, k0_pay1, k0_pay18, k0_pay19, _root_.Proj.cell, _root_.Proj.inv]

/-- Every window's block index at a grid point. -/
theorem idx : ∀ t : Fin cfg0.N, win0_0.index t = ![t.val, 0] ∧ win0_1.index t = ![0, 0] ∧ win0_2.index t = ![5272, 0]
    ∧ win0_3.index t = ![6816, 0] ∧ win0_4.index t = ![t.val, 0] :=
  (by decide +kernel : ∀ t : Fin grid0.N, _)

/-- The column of the weight matrix that column `j` of the slab is a projection by. -/
def col (j : Fin 2560) : Fin 7840 := ⟨if j.val < 1536 then 5272 + j.val else 6816 + (j.val - 1536), by split <;> omega⟩

theorem col_lo (j : Fin 2560) (v : ℕ) (hv : j.val = v) (h : v < 1536) : 5272 + v = (col j).val := by
  subst hv; exact (if_pos h).symm
theorem col_hi (j : Fin 2560) (v : ℕ) (hv : j.val = v) (h : ¬v < 1536) : 6816 + (v - 1536) = (col j).val := by
  subst hv; exact (if_neg h).symm

def wts0 (W : FVec Ideal S2048x7840 .f32) : FVec Ideal S1536x2048 .bf16 := fun y => W (ix2 (y 1) ⟨5272 + (y 0).val, by have : (y 0).val < 1536 := (y 0).isLt; omega⟩)
def wts1 (W : FVec Ideal S2048x7840 .f32) : FVec Ideal S1024x2048 .bf16 := fun y => W (ix2 (y 1) ⟨6816 + (y 0).val, by have : (y 0).val < 1024 := (y 0).isLt; omega⟩)
theorem wts0_at (W : FVec Ideal S2048x7840 .f32) (y) : wts0 W y = W (ix2 (y 1) ⟨5272 + (y 0).val, by have : (y 0).val < 1536 := (y 0).isLt; omega⟩) := rfl
theorem wts1_at (W : FVec Ideal S2048x7840 .f32) (y) : wts1 W y = W (ix2 (y 1) ⟨6816 + (y 0).val, by have : (y 0).val < 1024 := (y 0).isLt; omega⟩) := rfl

theorem emb2 (t : Fin cfg0.N) (y : S1536x2048.Idx) (a : Fin 2) :
    (((View.whole main_v2).slice (win0_2.rect t)).emb y a).val = win0_2.index t a + 1 * (y a).val := rfl
theorem emb3 (t : Fin cfg0.N) (y : S1024x2048.Idx) (a : Fin 2) :
    (((View.whole main_v2).slice (win0_3.rect t)).emb y a).val = win0_3.index t a + 1 * (y a).val := rfl

theorem blk2 (c : Dev nD) (t : Fin cfg0.N) : iblk m c 2 t = wts0 (m ((c : Thread nD τ).loc main_arg2)) := by
  funext y
  pointwise [wts0_at]; blk_point [iblk, V, idx t]
  all_goals (rw [emb2, (idx t).2.2.1]; simp)

theorem blk3 (c : Dev nD) (t : Fin cfg0.N) : iblk m c 3 t = wts1 (m ((c : Thread nD τ).loc main_arg2)) := by
  funext y
  pointwise [wts1_at]; blk_point [iblk, V, idx t]
  all_goals (rw [emb3, (idx t).2.2.2.1]; simp)

/-- Rounding a block of weights is the identity on the reals. -/
theorem pay_wts (X : Vec Ideal S256x2048 .f32) : k0_pay4 (F := Ideal) X = X
    ∧ k0_pay5 (F := Ideal) X = X
    ∧ k0_pay6 (F := Ideal) X = X
    ∧ k0_pay7 (F := Ideal) X = X
    ∧ k0_pay8 (F := Ideal) X = X
    ∧ k0_pay10 (F := Ideal) (k0_pay9 X) = X
    ∧ k0_pay11 (F := Ideal) X = X
    ∧ k0_pay12 (F := Ideal) X = X
    ∧ k0_pay13 (F := Ideal) X = X
    ∧ k0_pay14 (F := Ideal) X = X := by
  refine ⟨?_, ?_, ?_, ?_, ?_, ?_, ?_, ?_, ?_, ?_⟩ <;> funext j <;> pointwise [k0_pay4, k0_pay5, k0_pay6, k0_pay7, k0_pay8, k0_pay10, k0_pay9, k0_pay11, k0_pay12, k0_pay13, k0_pay14]

/-- The four stores of a grid step write the block of the slab. -/
theorem canon_tile (x : Vec Ideal S512x2048 .f32) (g : Vec Ideal S1x2048 .f32) (w0 : Vec Ideal S1536x2048 .bf16) (w1 : Vec Ideal S1024x2048 .bf16) :
    View.canon (Val := Elt Ideal) (s := S512x2560) (e := .f32)
      [⟨Rect.unit ![256, 1536] ![256, 1024] inb_S512x2560_S256x1024_256_1536,
          k0_pay3 (k0_pay18 (View.ld x (Rect.unit ![256, 0] ![256, 2048] inb_S512x2048_S256x2048_256_0)))
            (k0_pay19 (View.ld x (Rect.unit ![256, 0] ![256, 2048] inb_S512x2048_S256x2048_256_0))) g w1⟩,
        ⟨Rect.unit ![256, 0] ![256, 1536] inb_S512x2560_S256x1536_256_0,
          k0_pay2 (k0_pay18 (View.ld x (Rect.unit ![256, 0] ![256, 2048] inb_S512x2048_S256x2048_256_0)))
            (k0_pay19 (View.ld x (Rect.unit ![256, 0] ![256, 2048] inb_S512x2048_S256x2048_256_0))) g w0⟩,
        ⟨Rect.unit ![0, 1536] ![256, 1024] inb_S512x2560_S256x1024_0_1536,
          k0_pay17 (View.ld x (Rect.unit ![0, 0] ![256, 2048] inb_S512x2048_S256x2048_0_0)) g w1⟩,
        ⟨Rect.unit ![0, 0] ![256, 1536] inb_S512x2560_S256x1536_0_0,
          k0_pay16 (View.ld x (Rect.unit ![0, 0] ![256, 2048] inb_S512x2048_S256x2048_0_0)) g w0⟩] = _root_.Proj.tile (R := 512) (n0 := 1536) (n1 := 1024) (n := 2560) rfl x g w0 w1 := by
  funext y
  refine View.canon_apply_of_pieces _ _ ?_ y (View.cover_of_tiledBy (s := S512x2560) _ ![256, 512] (by sl_kernel_rfl) y)
  simp only [List.forall_mem_cons]
  refine ⟨fun j => ?_, fun j => ?_, fun j => ?_, fun j => ?_, by simp⟩
  · rw [_root_.Proj.tile_hi rfl _ _ _ _ _ (by show ¬(1536 + 1 * (j 1).val < 1536); omega), payD_at]
    pointwise; refine _root_.Proj.cell_congr (fun k => ?_) (fun k => rfl) (fun k => ?_) <;> blk_ext
  · rw [_root_.Proj.tile_lo rfl _ _ _ _ _ (by show (0 + 1 * (j 1).val < 1536); have : (j 1).val < 1536 := (j 1).isLt; omega), payC_at]
    pointwise; refine _root_.Proj.cell_congr (fun k => ?_) (fun k => rfl) (fun k => ?_) <;> blk_ext
  · rw [_root_.Proj.tile_hi rfl _ _ _ _ _ (by show ¬(1536 + 1 * (j 1).val < 1536); omega), payB_at]
    pointwise; refine _root_.Proj.cell_congr (fun k => ?_) (fun k => rfl) (fun k => ?_) <;> blk_ext
  · rw [_root_.Proj.tile_lo rfl _ _ _ _ _ (by show (0 + 1 * (j 1).val < 1536); have : (j 1).val < 1536 := (j 1).isLt; omega), payA_at]
    pointwise; refine _root_.Proj.cell_congr (fun k => ?_) (fun k => rfl) (fun k => ?_) <;> blk_ext

abbrev w0 (c : Dev nD) := wts0 (m ((c : Thread nD τ).loc main_arg2))
abbrev w1 (c : Dev nD) := wts1 (m ((c : Thread nD τ).loc main_arg2))

theorem stepA (c : Dev nD) (t : Fin cfg0.N) (h0 : t.val % 16 = 0) :
    outsAt0 m c t.val t.isLt = (_root_.Proj.tile (R := 512) (n0 := 1536) (n1 := 1024) (n := 2560) rfl (iblk m c 0 t) (iblk m c 1 t) (w0 m c) (w1 m c), w0 m c, w1 m c) := by
  rw [outsAt0_A m c t h0]
  frame_out
  rw [blk2, blk3]
  simp only [(pay_wts _).1, (pay_wts _).2.1, (pay_wts _).2.2.1, (pay_wts _).2.2.2.1, (pay_wts _).2.2.2.2.1, (pay_wts _).2.2.2.2.2.1, (pay_wts _).2.2.2.2.2.2.1, (pay_wts _).2.2.2.2.2.2.2.1, (pay_wts _).2.2.2.2.2.2.2.2.1, (pay_wts _).2.2.2.2.2.2.2.2.2]
  rw [_root_.Proj.readCov_of_pieces (s := S1536x2048) (View.whole cc0_scratch0) _ (off := ![0, 0]) inb_S1536x2048_S1536x2048_0_0 (w0 m c) ?h0 (View.cover_of_tiledL _ S256x2048.size (by sl_kernel_rfl)),
    _root_.Proj.readCov_of_pieces (s := S1024x2048) (View.whole cc0_scratch1) _ (off := ![0, 0]) inb_S1024x2048_S1024x2048_0_0 (w1 m c) ?h1 (View.cover_of_tiledL _ S256x2048.size (by sl_kernel_rfl)),
    canon_tile, _root_.Proj.canon_of_pieces (s := S1536x2048) _ (w0 m c) ?h0 (View.cover_of_tiledL _ S256x2048.size (by sl_kernel_rfl)),
    _root_.Proj.canon_of_pieces (s := S1024x2048) _ (w1 m c) ?h1 (View.cover_of_tiledL _ S256x2048.size (by sl_kernel_rfl))]
  all_goals (simp only [List.forall_mem_cons]; repeat' (first | refine ⟨fun x => rfl, ?_⟩ | exact fun p hp => absurd hp List.not_mem_nil))

theorem stepB (c : Dev nD) (t : Fin cfg0.N) (h0 : ¬t.val % 16 = 0) (hp : (outsAt0 m c (t.val - 1) (by have := t.isLt; omega)).2 = (w0 m c, w1 m c)) :
    outsAt0 m c t.val t.isLt = (_root_.Proj.tile (R := 512) (n0 := 1536) (n1 := 1024) (n := 2560) rfl (iblk m c 0 t) (iblk m c 1 t) (w0 m c) (w1 m c), w0 m c, w1 m c) := by
  rw [outsAt0_B m c t h0]
  frame_out
  simp only [read_unread_whole, hp]
  rw [canon_tile]
  rfl

theorem steps (c : Dev nD) : ∀ (n : ℕ) (h : n < cfg0.N),
    outsAt0 m c n h = (_root_.Proj.tile (R := 512) (n0 := 1536) (n1 := 1024) (n := 2560) rfl (iblk m c 0 ⟨n, h⟩) (iblk m c 1 ⟨n, h⟩) (w0 m c) (w1 m c), w0 m c, w1 m c)
  | 0, h => stepA m c ⟨0, h⟩ rfl
  | n + 1, h => by
    by_cases h0 : (n + 1) % 16 = 0
    · exact stepA m c ⟨n + 1, h⟩ h0
    · exact stepB m c ⟨n + 1, h⟩ h0 (by show (outsAt0 m c n _).2 = _; rw [steps c n])

theorem emb0 (t : Fin cfg0.N) (y : S512x2048.Idx) (a : Fin 2) :
    (((View.whole main_v0).slice (win0_0.rect t)).emb y a).val = win0_0.index t a * S512x2048.size a + 1 * (y a).val := rfl

theorem blkX (c : Dev nD) (t : Fin cfg0.N) (p : Fin 512) (k : Fin 2048) (a : Fin 4) (b : Fin 2048)
    (ha : a.val = (t.val * 512 + p.val) / 2048) (hb : b.val = (t.val * 512 + p.val) % 2048) :
    iblk m c 0 t (ix2 p k) = m ((c : Thread nD τ).loc main_arg0) (ix3 a b k) := by
  have ht : t.val < 16 := t.isLt
  have e : ((View.whole main_v0).slice (win0_0.rect t)).emb (ix2 p k) = (ix2 ⟨t.val * 512 + p.val, by omega⟩ k : S8192x2048.Idx) := by
    funext x
    apply Fin.ext
    rw [emb0, (idx t).1]
    match x with
    | 0 => show t.val * 512 + 1 * p.val = t.val * 512 + p.val; omega
    | 1 => show 0 * 2048 + 1 * k.val = k.val; omega
  unfold iblk
  entry_read
  show shapeCast S8192x2048 (m ((c : Thread nD τ).loc main_arg0)) shapeCasts_S4x2048x2048_S8192x2048 (((View.whole main_v0).slice (win0_0.rect t)).emb (ix2 p k)) = _
  rw [e]
  exact _root_.Proj.rows_at _ _ _ _ _ _ ha hb

theorem blkG (c : Dev nD) (t : Fin cfg0.N) (k : Fin 2048) : iblk m c 1 t (ix2 0 k) = m ((c : Thread nD τ).loc main_arg1) (ix1 k) := by
  unfold iblk
  entry_read
  have e : ((View.whole main_v1).slice (win0_1.rect t)).emb (ix2 0 k) = (ix2 0 k : S1x2048.Idx) := by
    funext x
    apply Fin.ext
    match x with
    | 0 => show win0_1.index t 0 * 1 + 1 * 0 = 0; rw [(idx t).2.1]; simp
    | 1 => show win0_1.index t 1 * 2048 + 1 * k.val = k.val; rw [(idx t).2.1]; simp
  show shapeCast S1x2048 (m ((c : Thread nD τ).loc main_arg1)) shapeCasts_S2048_S1x2048 (((View.whole main_v1).slice (win0_1.rect t)).emb (ix2 0 k)) = _
  rw [e]
  pointwise

/-- The result array is the slab. -/
theorem final (c : Dev nD) : (dats m 0 c).arrAt 4 cfg0.N =
    _root_.Proj.slab (N := 7840) (n := 2560) col (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, steps]
  have e0 : ((win0_4.blk t).view.emb y 0).val = t.val * 512 + 1 * (y 0).val := by
    show win0_4.index t 0 * 512 + 1 * (y 0).val = _; rw [(idx t).2.2.2.2]; rfl
  have e1 : ((win0_4.blk t).view.emb y 1).val = 0 * 2560 + 1 * (y 1).val := by
    show win0_4.index t 1 * 2560 + 1 * (y 1).val = _; rw [(idx t).2.2.2.2]; rfl
  have ht : t.val < 16 := t.isLt
  have h0 : (y 0).val < 512 := (y 0).isLt
  have h1 : (y 1).val < 2560 := (y 1).isLt
  by_cases h : (y 1).val < 1536
  · refine (_root_.Proj.tile_lo (R := 512) (n0 := 1536) (n1 := 1024) (n := 2560) rfl _ _ _ _ _ h).trans ?_
    rw [_root_.Proj.slab_at col _ _ _ _ ⟨(t.val * 512 + (y 0).val) / 2048, by omega⟩ ⟨(t.val * 512 + (y 0).val) % 2048, by omega⟩ ⟨5272 + (y 1).val, by omega⟩
      (by rw [e0]; simp) (by rw [e0]; simp) (col_lo _ _ (e1.trans (by omega)) h)]
    exact _root_.Proj.cell_congr (fun k => blkX m c t _ k _ _ rfl rfl) (fun k => blkG m c t k) fun k => rfl
  · refine (_root_.Proj.tile_hi (R := 512) (n0 := 1536) (n1 := 1024) (n := 2560) rfl _ _ _ _ _ h).trans ?_
    rw [_root_.Proj.slab_at col _ _ _ _ ⟨(t.val * 512 + (y 0).val) / 2048, by omega⟩ ⟨(t.val * 512 + (y 0).val) % 2048, by omega⟩ ⟨6816 + ((y 1).val - 1536), by omega⟩
      (by rw [e0]; simp) (by rw [e0]; simp) (col_hi _ _ (e1.trans (by omega)) h)]
    exact _root_.Proj.cell_congr (fun k => blkX m c t _ k _ _ rfl rfl) (fun k => blkG m c t k) fun k => rfl

/-- The kernel's slab is the reference's. -/
theorem algebraic : Cert.algebraic_InMlstmIdeal_RefInMlstmIdeal (hInMlstmIdeal := Cert.InMlstmIdeal.Gen.facts) (hRefInMlstmIdeal := Cert.RefInMlstmIdeal.Gen.facts) := by
  pair_intro
  · run_from Cert.InMlstmIdeal.Gen.run_main m g
  · run_from Cert.RefInMlstmIdeal.Value.run m' g'
    rw [final, ← (hagree c).1, ← (hagree c).2.1, ← (hagree c).2.2]
    funext j
    pointwise [Cert.RefInMlstmIdeal.Value.res_main_v31]
    have h1 : (j 1).val < 2560 := (j 1).isLt
    split_ifs
    all_goals
      refine Eq.symm (_root_.Proj.slab_at col _ _ _ j _ _ _ rfl rfl ?_)
      show _ = ite _ _ _
      split <;> (try dsimp only at *) <;> omega

end Cert.InMlstmIdeal.Proj
-- ==== Proof.ProjRows.lean ====
/- A projection whose weights are a matrix built by the host: each row of the normalised activations against each row of
   that matrix, as a slab and as its transpose. -/
module

public import proofs.«01_k».proof.Proof.ProjCell
public import Idealize.ShloMosaic.Lib.Routing.Ops

@[expose] public section

noncomputable section

namespace Proj

open Idealize.ShloMosaic

/-- Against weights that are all zero the entry is zero, whatever the activations. -/
theorem cell_zero (x g w : Fin 2048 → EReal) (hw : ∀ k, w k = 0) : cell x g w = 0 := by
  unfold cell
  exact Finset.sum_eq_zero fun k _ => by rw [hw, mul_zero]

/-- The same entry with the weights as left factors. -/
theorem cell_comm (x g w : Fin 2048 → EReal) : ∑ k, w k * (x k * inv x * g k) = cell x g w :=
  Finset.sum_congr rfl fun k _ => mul_comm _ _

/-- A block of rows against every row of a weight matrix. -/
def against {R n : ℕ} {e : FTy} (x : FVec Ideal ⟨2, ![R, 2048]⟩ .f32) (g : FVec Ideal ⟨2, ![1, 2048]⟩ .f32) (w : FVec Ideal ⟨2, ![n, 2048]⟩ e) :
    FVec Ideal ⟨2, ![R, n]⟩ .f32 := fun y => cell (fun k => x (ix2 (y 0) k)) (fun k => g (ix2 0 k)) (fun k => w (ix2 (y 1) k))

/-- The same, transposed. -/
def againstT {R n : ℕ} {e : FTy} (x : FVec Ideal ⟨2, ![R, 2048]⟩ .f32) (g : FVec Ideal ⟨2, ![1, 2048]⟩ .f32) (w : FVec Ideal ⟨2, ![n, 2048]⟩ e) :
    FVec Ideal ⟨2, ![n, R]⟩ .f32 := fun y => cell (fun k => x (ix2 (y 1) k)) (fun k => g (ix2 0 k)) (fun k => w (ix2 (y 0) k))

theorem against_at {R n : ℕ} {e : FTy} (x : FVec Ideal ⟨2, ![R, 2048]⟩ .f32) (g : FVec Ideal ⟨2, ![1, 2048]⟩ .f32) (w : FVec Ideal ⟨2, ![n, 2048]⟩ e)
    (y : (⟨2, ![R, n]⟩ : Shape).Idx) : against x g w y = cell (fun k => x (ix2 (y 0) k)) (fun k => g (ix2 0 k)) (fun k => w (ix2 (y 1) k)) := rfl
theorem againstT_at {R n : ℕ} {e : FTy} (x : FVec Ideal ⟨2, ![R, 2048]⟩ .f32) (g : FVec Ideal ⟨2, ![1, 2048]⟩ .f32) (w : FVec Ideal ⟨2, ![n, 2048]⟩ e)
    (y : (⟨2, ![n, R]⟩ : Shape).Idx) : againstT x g w y = cell (fun k => x (ix2 (y 1) k)) (fun k => g (ix2 0 k)) (fun k => w (ix2 (y 0) k)) := rfl

/-- All the activations against a weight matrix. -/
def rowsBy {n : ℕ} {e : FTy} (X : FVec Ideal ⟨3, ![4, 2048, 2048]⟩ .f32) (g : FVec Ideal ⟨1, ![2048]⟩ .f32) (w : FVec Ideal ⟨2, ![n, 2048]⟩ e) (p : Fin 8192) (q : Fin n) : EReal :=
  cell (fun k => X (ix3 ⟨p.val / 2048, by omega⟩ ⟨p.val % 2048, by omega⟩ k)) (fun k => g (ix1 k)) (fun k => w (ix2 q k))

def slabBy {n : ℕ} {e : FTy} (X : FVec Ideal ⟨3, ![4, 2048, 2048]⟩ .f32) (g : FVec Ideal ⟨1, ![2048]⟩ .f32) (w : FVec Ideal ⟨2, ![n, 2048]⟩ e) :
    FVec Ideal ⟨2, ![8192, n]⟩ .f32 := fun i => rowsBy X g w (i 0) (i 1)
def slabByT {n : ℕ} {e : FTy} (X : FVec Ideal ⟨3, ![4, 2048, 2048]⟩ .f32) (g : FVec Ideal ⟨1, ![2048]⟩ .f32) (w : FVec Ideal ⟨2, ![n, 2048]⟩ e) :
    FVec Ideal ⟨2, ![n, 8192]⟩ .f32 := fun i => rowsBy X g w (i 1) (i 0)

theorem rowsBy_eq {n : ℕ} {e : FTy} (X : FVec Ideal ⟨3, ![4, 2048, 2048]⟩ .f32) (g : FVec Ideal ⟨1, ![2048]⟩ .f32) (w : FVec Ideal ⟨2, ![n, 2048]⟩ e) (p : Fin 8192) (q : Fin n)
    (a : Fin 4) (b : Fin 2048) (ha : a.val = p.val / 2048) (hb : b.val = p.val % 2048) (u : Fin 2048 → EReal) (hu : ∀ k, w (ix2 q k) = u k) :
    rowsBy X g w p q = cell (fun k => X (ix3 a b k)) (fun k => g (ix1 k)) u := by
  have ea : (⟨p.val / 2048, by omega⟩ : Fin 4) = a := Fin.ext ha.symm
  have eb : (⟨p.val % 2048, by omega⟩ : Fin 2048) = b := Fin.ext hb.symm
  rw [← ea, ← eb, ← funext hu]; rfl

/-- The small columns' weights: the gate's 16 columns from `a`, the step's 8 from `b` and the two gates' 8 from `c`, then rows of zeros. -/
def small {N : ℕ} (a b c : ℕ) (ha : a + 16 ≤ N) (hb : b + 8 ≤ N) (hc : c + 8 ≤ N) (W : FVec Ideal ⟨2, ![2048, N]⟩ .f32) : FVec Ideal ⟨2, ![128, 2048]⟩ .f32 := fun y =>
  if h0 : (y 0).val < 16 then W (ix2 (y 1) ⟨a + (y 0).val, by omega⟩) else
  if h1 : (y 0).val < 24 then W (ix2 (y 1) ⟨b + ((y 0).val - 16), by omega⟩) else
  if h2 : (y 0).val < 32 then W (ix2 (y 1) ⟨c + ((y 0).val - 24), by omega⟩) else 0

theorem small_at {N : ℕ} (a b c : ℕ) (ha : a + 16 ≤ N) (hb : b + 8 ≤ N) (hc : c + 8 ≤ N) (W : FVec Ideal ⟨2, ![2048, N]⟩ .f32) (q : Fin 128) (k : Fin 2048) (i : Fin N)
    (h : q.val < 16 ∧ i.val = a + q.val ∨ 16 ≤ q.val ∧ q.val < 24 ∧ i.val = b + (q.val - 16) ∨ 24 ≤ q.val ∧ q.val < 32 ∧ i.val = c + (q.val - 24)) :
    small a b c ha hb hc W (ix2 q k) = W (ix2 k i) := by
  obtain ⟨i, hi⟩ := i
  pointwise [small]
  dsimp only at h
  split_ifs
  · obtain rfl : i = a + q.val := by omega
    rfl
  · obtain rfl : i = b + (q.val - 16) := by omega
    rfl
  · obtain rfl : i = c + (q.val - 24) := by omega
    rfl
  · omega
theorem small_zero {N : ℕ} (a b c : ℕ) (ha : a + 16 ≤ N) (hb : b + 8 ≤ N) (hc : c + 8 ≤ N) (W : FVec Ideal ⟨2, ![2048, N]⟩ .f32) (q : Fin 128) (k : Fin 2048) (h : 32 ≤ q.val) :
    small a b c ha hb hc W (ix2 q k) = 0 := by
  pointwise [small]
  split_ifs <;> first | rfl | omega

/-- The weights of the transposed rows: the step's even columns, its odd columns, the two gates' columns. -/
def gates {N : ℕ} (b c : ℕ) (hb : b + 8 ≤ N) (hc : c + 8 ≤ N) (W : FVec Ideal ⟨2, ![2048, N]⟩ .f32) : FVec Ideal ⟨2, ![16, 2048]⟩ .f32 := fun y =>
  if h0 : (y 0).val < 4 then W (ix2 (y 1) ⟨b + 2 * (y 0).val, by omega⟩) else
  if h1 : (y 0).val < 8 then W (ix2 (y 1) ⟨b + (1 + 2 * ((y 0).val - 4)), by omega⟩) else
  W (ix2 (y 1) ⟨c + ((y 0).val - 8), by have : (y 0).val < 16 := (y 0).isLt; omega⟩)

theorem gates_at {N : ℕ} (b c : ℕ) (hb : b + 8 ≤ N) (hc : c + 8 ≤ N) (W : FVec Ideal ⟨2, ![2048, N]⟩ .f32) (q : Fin 16) (k : Fin 2048) (i : Fin N)
    (h : q.val < 4 ∧ i.val = b + 2 * q.val ∨ 4 ≤ q.val ∧ q.val < 8 ∧ i.val = b + (1 + 2 * (q.val - 4)) ∨ 8 ≤ q.val ∧ i.val = c + (q.val - 8)) :
    gates b c hb hc W (ix2 q k) = W (ix2 k i) := by
  obtain ⟨i, hi⟩ := i
  pointwise [gates]
  dsimp only at h
  by_cases h0 : q.val < 4
  · rw [dif_pos h0]
    obtain rfl : i = b + 2 * q.val := by omega
    rfl
  · rw [dif_neg h0]
    by_cases h1 : q.val < 8
    · rw [dif_pos h1]
      obtain rfl : i = b + (1 + 2 * (q.val - 4)) := by omega
      rfl
    · rw [dif_neg h1]
      obtain rfl : i = c + (q.val - 8) := by omega
      rfl

/-- The order in which the step's columns are taken: the even ones, then the odd ones. -/
def order (a : Fin 8) : Fin 8 := ⟨if a.val < 4 then 2 * a.val else 1 + 2 * (a.val - 4), by split <;> omega⟩
theorem order_lo (a : Fin 8) (h : a.val < 4) : (order a).val = 2 * a.val := if_pos h
theorem order_hi (a : Fin 8) (h : ¬a.val < 4) : (order a).val = 1 + 2 * (a.val - 4) := if_neg h

end Proj
-- ==== Proof.InRwkvAVal.lean ====
module

public import proofs.«01_k».proof.Proof.Gen.InRwkvAIdeal.Frame
public import proofs.«01_k».proof.Proof.Gen.RefInRwkvAIdeal.Run
public import proofs.«01_k».proof.Proof.ProjRows
public import proofs.«01_k».proof.Defs

@[expose] public section

set_option maxRecDepth 16384

noncomputable section

open Idealize.ShloMosaic Idealize.ShloMosaic.TcCoe Idealize.SL.Sem
open Idealize.ShloMosaic.Pipeline (Dat)

namespace Cert.InRwkvAIdeal.Proj

open Cert.InRwkvAIdeal Cert.InRwkvAIdeal.Gen

variable (m : (ℓ : Loc nD τ sig) → Buf (Elt Ideal) ℓ) (ρ : Dev nD → PrngReg)

theorem pay16_at (x : Vec Ideal S256x2048 .f32) (g : Vec Ideal S1x2048 .f32) (w : Vec Ideal S2176x2048 .bf16) (j : S256x2176.Idx) :
    k0_pay16 (F := Ideal) x g w j = _root_.Proj.cell (fun k => x (ix2 (j 0) k)) (fun k => g (ix2 0 k)) (fun k => w (ix2 (j 1) k)) := by
  idx_vars j
  pointwise [k0_pay16, k0_pay15, _root_.Proj.cell, _root_.Proj.inv]
theorem pay2_at (x : Vec Ideal S256x2048 .f32) (g : Vec Ideal S1x2048 .f32) (w : Vec Ideal S2176x2048 .bf16) (j : S256x2176.Idx) :
    k0_pay2 (F := Ideal) x g w j = _root_.Proj.cell (fun k => x (ix2 (j 0) k)) (fun k => g (ix2 0 k)) (fun k => w (ix2 (j 1) k)) := by
  idx_vars j
  pointwise [k0_pay2, k0_pay1, _root_.Proj.cell, _root_.Proj.inv]
theorem pay17_at (x : Vec Ideal S256x2048 .f32) (g : Vec Ideal S1x2048 .f32) (w : Vec Ideal S128x2048 .f32) (j : S256x128.Idx) :
    k0_pay17 (F := Ideal) x g w j = _root_.Proj.cell (fun k => x (ix2 (j 0) k)) (fun k => g (ix2 0 k)) (fun k => w (ix2 (j 1) k)) := by
  idx_vars j
  pointwise [k0_pay17, k0_pay15, _root_.Proj.cell, _root_.Proj.inv]
theorem pay3_at (x : Vec Ideal S256x2048 .f32) (g : Vec Ideal S1x2048 .f32) (w : Vec Ideal S128x2048 .f32) (j : S256x128.Idx) :
    k0_pay3 (F := Ideal) x g w j = _root_.Proj.cell (fun k => x (ix2 (j 0) k)) (fun k => g (ix2 0 k)) (fun k => w (ix2 (j 1) k)) := by
  idx_vars j
  pointwise [k0_pay3, k0_pay1, _root_.Proj.cell, _root_.Proj.inv]
theorem pay18_at (x : Vec Ideal S256x2048 .f32) (g : Vec Ideal S1x2048 .f32) (w : Vec Ideal S16x2048 .f32) (j : S16x256.Idx) :
    k0_pay18 (F := Ideal) x g w j = _root_.Proj.cell (fun k => x (ix2 (j 1) k)) (fun k => g (ix2 0 k)) (fun k => w (ix2 (j 0) k)) := by
  refine Eq.trans ?_ (_root_.Proj.cell_comm _ _ _)
  idx_vars j
  pointwise [k0_pay18, k0_pay15, _root_.Proj.inv]
theorem pay4_at (x : Vec Ideal S256x2048 .f32) (g : Vec Ideal S1x2048 .f32) (w : Vec Ideal S16x2048 .f32) (j : S16x256.Idx) :
    k0_pay4 (F := Ideal) x g w j = _root_.Proj.cell (fun k => x (ix2 (j 1) k)) (fun k => g (ix2 0 k)) (fun k => w (ix2 (j 0) k)) := by
  refine Eq.trans ?_ (_root_.Proj.cell_comm _ _ _)
  idx_vars j
  pointwise [k0_pay4, k0_pay1, _root_.Proj.inv]

/-- Every window's block index at a grid point. -/
theorem idx : ∀ t : Fin cfg0.N, win0_0.index t = ![t.val, 0] ∧ win0_1.index t = ![0, 0] ∧ win0_2.index t = ![1552, 0]
    ∧ win0_3.index t = ![0, 0] ∧ win0_4.index t = ![0, 0] ∧ win0_5.index t = ![t.val, 0] ∧ win0_6.index t = ![t.val, 0] ∧ win0_7.index t = ![0, t.val] :=
  (by decide +kernel : ∀ t : Fin grid0.N, _)

/-- The weights of the slab: columns 1552 onwards of the input weights. -/
def wts (W : FVec Ideal S2048x7840 .f32) : FVec Ideal S2176x2048 .bf16 := fun y => W (ix2 (y 1) ⟨1552 + (y 0).val, by have : (y 0).val < 2176 := (y 0).isLt; omega⟩)
theorem wts_at (W : FVec Ideal S2048x7840 .f32) (y) : wts W y = W (ix2 (y 1) ⟨1552 + (y 0).val, by have : (y 0).val < 2176 := (y 0).isLt; omega⟩) := rfl
/-- The small columns' weights and the transposed rows', at this layer's columns. -/
abbrev small (W : FVec Ideal S2048x7840 .f32) : FVec Ideal S128x2048 .f32 := _root_.Proj.small 1024 4752 6808 (by decide) (by decide) (by decide) W
abbrev rowsW (W : FVec Ideal S2048x7840 .f32) : FVec Ideal S16x2048 .f32 := _root_.Proj.gates 4752 6808 (by decide) (by decide) W

theorem V_v0 (c : Dev nD) (q : Fin 7840) (k : Fin 2048) : V m c main_v0 (ix2 q k) = m ((c : Thread nD τ).loc main_arg2) (ix2 k q) := by
  unfold V
  simp only [hostOps0, hostOps0_1, hostOps0_2, List.flatten_cons, List.flatten_nil, List.append_nil, List.cons_append, List.nil_append]
  after_results_simp
  pointwise

theorem V_v14 (c : Dev nD) (q : Fin 8192) (k : Fin 2048) (a : Fin 4) (b : Fin 2048) (ha : a.val = q.val / 2048) (hb : b.val = q.val % 2048) :
    V m c main_v14 (ix2 q k) = m ((c : Thread nD τ).loc main_arg0) (ix3 a b k) := by
  unfold V
  simp only [hostOps0, hostOps0_1, hostOps0_2, List.flatten_cons, List.flatten_nil, List.append_nil, List.cons_append, List.nil_append]
  after_results_simp
  exact _root_.Proj.rows_at _ _ _ _ _ _ ha hb

theorem V_v15 (c : Dev nD) (k : Fin 2048) : V m c main_v15 (ix2 0 k) = m ((c : Thread nD τ).loc main_arg1) (ix1 k) := by
  unfold V
  simp only [hostOps0, hostOps0_1, hostOps0_2, List.flatten_cons, List.flatten_nil, List.append_nil, List.cons_append, List.nil_append]
  after_results_simp
  pointwise

theorem V_v5_cat (c : Dev nD) : V m c main_v5 = pad S128x2048 ![0, 0] ![96, 0] ![0, 0]
      (concatenate S32x2048 0 [⟨S16x2048, extractStridedSlice S16x2048 ![1024, 0] (V m c main_v0) slices_S7840x2048_S16x2048_1024_0⟩,
        ⟨S8x2048, extractStridedSlice S8x2048 ![4752, 0] (V m c main_v0) slices_S7840x2048_S8x2048_4752_0⟩,
        ⟨S8x2048, extractStridedSlice S8x2048 ![6808, 0] (V m c main_v0) slices_S7840x2048_S8x2048_6808_0⟩] concatenates_S16x2048_S8x2048_S8x2048_S32x2048_d0)
      (sitofp (F := Ideal) .f32 (constantI S_ 32 0#32)) pads_S32x2048_S128x2048_0960_000 h_S_ := by
  unfold V
  simp only [hostOps0, hostOps0_1, hostOps0_2, List.flatten_cons, List.flatten_nil, List.append_nil, List.cons_append, List.nil_append]
  after_results_simp
  rfl

theorem V_v5 (c : Dev nD) (q : Fin 128) (k : Fin 2048) : V m c main_v5 (ix2 q k) = small (m ((c : Thread nD τ).loc main_arg2)) (ix2 q k) := by
  rw [V_v5_cat]
  pointwise [V_v0]
  split_ifs
  all_goals try refine (V_v0 m c _ _).trans (Eq.symm (_root_.Proj.small_at _ _ _ _ _ _ _ _ _ _ ?_)); dsimp only; omega
  refine Eq.trans (b := (0 : EReal)) ?_ (_root_.Proj.small_zero _ _ _ _ _ _ _ _ _ (by omega)).symm
  show ((((0#32 : BitVec 32).toInt : ℝ)) : EReal) = 0
  simp

theorem order_word : ∀ a : Fin 8, (broadcastInDim S8x1 ![0] bcast_S8_S8x1_0 (select (constantI S8 1 0#1) (addi (fun i => lit0 (S8.rowMajor i)) (broadcastInDim S8 ![] bcast_S_S8 (constantI S_ 32 8#32))) fun i => lit0 (S8.rowMajor i))) (ix2 a (0 : Fin 1))
    = BitVec.ofNat 32 (_root_.Proj.order a).val := by
  intro a
  match a with
  | 0 => rfl
  | 1 => rfl
  | 2 => rfl
  | 3 => rfl
  | 4 => rfl
  | 5 => rfl
  | 6 => rfl
  | 7 => rfl

theorem steps_at (W : FVec Ideal S2048x7840 .f32) (a : Fin 8) (k : Fin 2048) :
    extractStridedSlice S8x2048 ![4752, 0] (transpose S7840x2048 [1, 0] W transposes_S2048x7840_S7840x2048_1_0) slices_S7840x2048_S8x2048_4752_0 (ix2 a k)
      = W (ix2 k ⟨4752 + a.val, by omega⟩) := by
  pointwise

theorem V_v13 (c : Dev nD) (q : Fin 16) (k : Fin 2048) : V m c main_v13 (ix2 q k) = rowsW (m ((c : Thread nD τ).loc main_arg2)) (ix2 q k) := by
  unfold V
  simp only [hostOps0, hostOps0_1, hostOps0_2, List.flatten_cons, List.flatten_nil, List.append_nil, List.cons_append, List.nil_append]
  after_results_simp
  pointwise
  by_cases h : q.val < 8
  · rw [dif_pos h]
    refine (Routing.gather_row _ rfl rfl rfl rfl rfl _ _ _ _ _ (order_word _) (by decide)).trans ?_
    refine (steps_at _ _ _).trans (Eq.symm (_root_.Proj.gates_at _ _ _ _ _ _ _ _ ?_))
    dsimp only
    by_cases h4 : q.val < 4
    · rw [_root_.Proj.order_lo _ h4]; dsimp only; omega
    · rw [_root_.Proj.order_hi _ h4]; dsimp only; omega
  · rw [dif_neg h]
    refine Eq.symm (_root_.Proj.gates_at _ _ _ _ _ _ _ _ ?_)
    dsimp only
    omega

/-- The weights' window is the slab's columns of the input weights. -/
theorem blk2 (c : Dev nD) (t : Fin cfg0.N) : iblk m c 2 t = wts (m ((c : Thread nD τ).loc main_arg2)) := by
  funext y
  have h0 : (y 0).val < 2176 := (y 0).isLt
  have e : ((View.whole main_v0).slice (win0_2.rect t)).emb y = (ix2 ⟨1552 + (y 0).val, by omega⟩ (y 1) : S7840x2048.Idx) := by
    funext x
    apply Fin.ext
    match x with
    | 0 => show win0_2.index t 0 + 1 * (y 0).val = 1552 + (y 0).val; rw [(idx t).2.2.1]; simp
    | 1 => show win0_2.index t 1 + 1 * (y 1).val = (y 1).val; rw [(idx t).2.2.1]; simp
  unfold iblk
  show V m c main_v0 (((View.whole main_v0).slice (win0_2.rect t)).emb y) = _
  rw [e]
  exact V_v0 m c _ _

theorem blkS (c : Dev nD) (t : Fin cfg0.N) : iblk m c 3 t = small (m ((c : Thread nD τ).loc main_arg2)) := by
  funext y
  have e : ((View.whole main_v5).slice (win0_3.rect t)).emb y = (ix2 (y 0) (y 1) : S128x2048.Idx) := by
    funext x
    apply Fin.ext
    match x with
    | 0 => show win0_3.index t 0 * 128 + 1 * (y 0).val = (y 0).val; rw [(idx t).2.2.2.1]; simp
    | 1 => show win0_3.index t 1 * 2048 + 1 * (y 1).val = (y 1).val; rw [(idx t).2.2.2.1]; simp
  unfold iblk
  show V m c main_v5 (((View.whole main_v5).slice (win0_3.rect t)).emb y) = _
  rw [e]
  exact V_v5 m c _ _

theorem blkR (c : Dev nD) (t : Fin cfg0.N) : iblk m c 4 t = rowsW (m ((c : Thread nD τ).loc main_arg2)) := by
  funext y
  have e : ((View.whole main_v13).slice (win0_4.rect t)).emb y = (ix2 (y 0) (y 1) : S16x2048.Idx) := by
    funext x
    apply Fin.ext
    match x with
    | 0 => show win0_4.index t 0 * 16 + 1 * (y 0).val = (y 0).val; rw [(idx t).2.2.2.2.1]; simp
    | 1 => show win0_4.index t 1 * 2048 + 1 * (y 1).val = (y 1).val; rw [(idx t).2.2.2.2.1]; simp
  unfold iblk
  show V m c main_v13 (((View.whole main_v13).slice (win0_4.rect t)).emb y) = _
  rw [e]
  exact V_v13 m c _ _

/-- Rounding a block of weights is the identity on the reals. -/
theorem pay_wts (X : Vec Ideal S256x2048 .f32) : k0_pay5 (F := Ideal) X = X
    ∧ k0_pay6 (F := Ideal) X = X
    ∧ k0_pay7 (F := Ideal) X = X
    ∧ k0_pay8 (F := Ideal) X = X
    ∧ k0_pay9 (F := Ideal) X = X
    ∧ k0_pay11 (F := Ideal) (k0_pay10 X) = X
    ∧ k0_pay12 (F := Ideal) X = X
    ∧ k0_pay13 (F := Ideal) X = X := by
  refine ⟨?_, ?_, ?_, ?_, ?_, ?_, ?_, ?_⟩ <;> funext j <;> pointwise [k0_pay5, k0_pay6, k0_pay7, k0_pay8, k0_pay9, k0_pay11, k0_pay10, k0_pay12, k0_pay13]
theorem pay_wts_last (X : Vec Ideal S128x2048 .f32) : k0_pay14 (F := Ideal) X = X := by
  funext j; pointwise [k0_pay14]

/-- The two stores of each output write its block. -/
theorem canon_slab (x : Vec Ideal S512x2048 .f32) (g : Vec Ideal S1x2048 .f32) (w : Vec Ideal S2176x2048 .bf16) :
    View.canon (Val := Elt Ideal) (s := S512x2176) (e := .f32)
      [⟨Rect.unit ![256, 0] ![256, 2176] inb_S512x2176_S256x2176_256_0, k0_pay2 (View.ld x (Rect.unit ![256, 0] ![256, 2048] inb_S512x2048_S256x2048_256_0)) g w⟩,
        ⟨Rect.unit ![0, 0] ![256, 2176] inb_S512x2176_S256x2176_0_0, k0_pay16 (View.ld x (Rect.unit ![0, 0] ![256, 2048] inb_S512x2048_S256x2048_0_0)) g w⟩]
      = _root_.Proj.against (R := 512) (n := 2176) (e := .bf16) x g w := by
  funext y
  refine View.canon_apply_of_pieces _ _ ?_ y (View.cover_of_tiledBy (s := S512x2176) _ ![256, 2176] (by sl_kernel_rfl) y)
  simp only [List.forall_mem_cons]
  refine ⟨fun j => ?_, fun j => ?_, by simp⟩
  · rw [_root_.Proj.against_at, pay2_at]
    pointwise; refine _root_.Proj.cell_congr (fun k => ?_) (fun k => rfl) (fun k => ?_) <;> blk_ext
  · rw [_root_.Proj.against_at, pay16_at]
    pointwise; refine _root_.Proj.cell_congr (fun k => ?_) (fun k => rfl) (fun k => ?_) <;> blk_ext
theorem canon_small (x : Vec Ideal S512x2048 .f32) (g : Vec Ideal S1x2048 .f32) (w : Vec Ideal S128x2048 .f32) :
    View.canon (Val := Elt Ideal) (s := S512x128) (e := .f32)
      [⟨Rect.unit ![256, 0] ![256, 128] inb_S512x128_S256x128_256_0, k0_pay3 (View.ld x (Rect.unit ![256, 0] ![256, 2048] inb_S512x2048_S256x2048_256_0)) g w⟩,
        ⟨Rect.unit ![0, 0] ![256, 128] inb_S512x128_S256x128_0_0, k0_pay17 (View.ld x (Rect.unit ![0, 0] ![256, 2048] inb_S512x2048_S256x2048_0_0)) g w⟩]
      = _root_.Proj.against (R := 512) (n := 128) (e := .f32) x g w := by
  funext y
  refine View.canon_apply_of_pieces _ _ ?_ y (View.cover_of_tiledBy (s := S512x128) _ ![256, 128] (by sl_kernel_rfl) y)
  simp only [List.forall_mem_cons]
  refine ⟨fun j => ?_, fun j => ?_, by simp⟩
  · rw [_root_.Proj.against_at, pay3_at]
    pointwise; refine _root_.Proj.cell_congr (fun k => ?_) (fun k => rfl) (fun k => ?_) <;> blk_ext
  · rw [_root_.Proj.against_at, pay17_at]
    pointwise; refine _root_.Proj.cell_congr (fun k => ?_) (fun k => rfl) (fun k => ?_) <;> blk_ext
theorem canon_rows (x : Vec Ideal S512x2048 .f32) (g : Vec Ideal S1x2048 .f32) (w : Vec Ideal S16x2048 .f32) :
    View.canon (Val := Elt Ideal) (s := S16x512) (e := .f32)
      [⟨Rect.unit ![0, 256] ![16, 256] inb_S16x512_S16x256_0_256, k0_pay4 (View.ld x (Rect.unit ![256, 0] ![256, 2048] inb_S512x2048_S256x2048_256_0)) g w⟩,
        ⟨Rect.unit ![0, 0] ![16, 256] inb_S16x512_S16x256_0_0, k0_pay18 (View.ld x (Rect.unit ![0, 0] ![256, 2048] inb_S512x2048_S256x2048_0_0)) g w⟩]
      = _root_.Proj.againstT (R := 512) (n := 16) (e := .f32) x g w := by
  funext y
  refine View.canon_apply_of_pieces _ _ ?_ y (View.cover_of_tiledBy (s := S16x512) _ ![16, 256] (by sl_kernel_rfl) y)
  simp only [List.forall_mem_cons]
  refine ⟨fun j => ?_, fun j => ?_, by simp⟩
  · rw [_root_.Proj.againstT_at, pay4_at]
    pointwise; refine _root_.Proj.cell_congr (fun k => ?_) (fun k => rfl) (fun k => ?_) <;> blk_ext
  · rw [_root_.Proj.againstT_at, pay18_at]
    pointwise; refine _root_.Proj.cell_congr (fun k => ?_) (fun k => rfl) (fun k => ?_) <;> blk_ext

abbrev w0 (c : Dev nD) := wts (m ((c : Thread nD τ).loc main_arg2))

/-- What a grid step leaves: its blocks of the three outputs, and the rounded weights. -/
abbrev left (c : Dev nD) (t : Fin cfg0.N) : Vec Ideal S512x2176 .f32 × Vec Ideal S512x128 .f32 × Vec Ideal S16x512 .f32 × Vec Ideal S2176x2048 .bf16 :=
  (_root_.Proj.against (R := 512) (n := 2176) (e := .bf16) (iblk m c 0 t) (iblk m c 1 t) (w0 m c),
    _root_.Proj.against (R := 512) (n := 128) (e := .f32) (iblk m c 0 t) (iblk m c 1 t) (iblk m c 3 t),
    _root_.Proj.againstT (R := 512) (n := 16) (e := .f32) (iblk m c 0 t) (iblk m c 1 t) (iblk m c 4 t), w0 m c)

theorem stepA (c : Dev nD) (t : Fin cfg0.N) (h0 : t.val % 16 = 0) : outsAt0 m c t.val t.isLt = left m c t := by
  rw [outsAt0_A m c t h0]
  frame_out
  rw [blk2]
  simp only [(pay_wts _).1, (pay_wts _).2.1, (pay_wts _).2.2.1, (pay_wts _).2.2.2.1, (pay_wts _).2.2.2.2.1, (pay_wts _).2.2.2.2.2.1, (pay_wts _).2.2.2.2.2.2.1, (pay_wts _).2.2.2.2.2.2.2, pay_wts_last]
  rw [_root_.Proj.readCov_of_pieces (s := S2176x2048) (View.whole cc0_scratch0) _ (off := ![0, 0]) inb_S2176x2048_S2176x2048_0_0 (w0 m c) ?h0 (View.cover_of_tiledBy (s := S2176x2048) _ ![128, 2048] (by sl_kernel_rfl)),
    canon_slab, canon_small, canon_rows, _root_.Proj.canon_of_pieces (s := S2176x2048) _ (w0 m c) ?h0 (View.cover_of_tiledBy (s := S2176x2048) _ ![128, 2048] (by sl_kernel_rfl))]
  all_goals (simp only [List.forall_mem_cons]; repeat' (first | refine ⟨fun x => rfl, ?_⟩ | exact fun p hp => absurd hp List.not_mem_nil))

theorem stepB (c : Dev nD) (t : Fin cfg0.N) (h0 : ¬t.val % 16 = 0) (hp : (outsAt0 m c (t.val - 1) (by have := t.isLt; omega)).2.2.2 = w0 m c) :
    outsAt0 m c t.val t.isLt = left m c t := by
  rw [outsAt0_B m c t h0]
  frame_out
  simp only [read_unread_whole, hp]
  rw [canon_slab, canon_small, canon_rows]
  rfl

theorem steps (c : Dev nD) : ∀ (n : ℕ) (h : n < cfg0.N), outsAt0 m c n h = left m c ⟨n, h⟩
  | 0, h => stepA m c ⟨0, h⟩ rfl
  | n + 1, h => by
    by_cases h0 : (n + 1) % 16 = 0
    · exact stepA m c ⟨n + 1, h⟩ h0
    · exact stepB m c ⟨n + 1, h⟩ h0 (by show (outsAt0 m c n _).2.2.2 = _; rw [steps c n])

theorem blkX (c : Dev nD) (t : Fin cfg0.N) (p : Fin 512) (k : Fin 2048) (a : Fin 4) (b : Fin 2048)
    (ha : a.val = (t.val * 512 + p.val) / 2048) (hb : b.val = (t.val * 512 + p.val) % 2048) :
    iblk m c 0 t (ix2 p k) = m ((c : Thread nD τ).loc main_arg0) (ix3 a b k) := by
  have ht : t.val < 16 := t.isLt
  have e : ((View.whole main_v14).slice (win0_0.rect t)).emb (ix2 p k) = (ix2 ⟨t.val * 512 + p.val, by omega⟩ k : S8192x2048.Idx) := by
    funext x
    apply Fin.ext
    match x with
    | 0 => show win0_0.index t 0 * 512 + 1 * p.val = t.val * 512 + p.val; rw [(idx t).1]; simp
    | 1 => show win0_0.index t 1 * 2048 + 1 * k.val = k.val; rw [(idx t).1]; simp
  unfold iblk
  show V m c main_v14 (((View.whole main_v14).slice (win0_0.rect t)).emb (ix2 p k)) = _
  rw [e]
  exact V_v14 m c _ _ _ _ ha hb

theorem blkG (c : Dev nD) (t : Fin cfg0.N) (k : Fin 2048) : iblk m c 1 t (ix2 0 k) = m ((c : Thread nD τ).loc main_arg1) (ix1 k) := by
  have e : ((View.whole main_v15).slice (win0_1.rect t)).emb (ix2 0 k) = (ix2 0 k : S1x2048.Idx) := by
    funext x
    apply Fin.ext
    match x with
    | 0 => show win0_1.index t 0 * 1 + 1 * 0 = 0; rw [(idx t).2.1]; simp
    | 1 => show win0_1.index t 1 * 2048 + 1 * k.val = k.val; rw [(idx t).2.1]; simp
  unfold iblk
  show V m c main_v15 (((View.whole main_v15).slice (win0_1.rect t)).emb (ix2 0 k)) = _
  rw [e]
  exact V_v15 m c _

/-- An entry of a block is the entry of all the rows at the block's place. -/
theorem rows_of (c : Dev nD) (t : Fin cfg0.N) {n : ℕ} {e : FTy} (w : FVec Ideal ⟨2, ![n, 2048]⟩ e) (p : Fin 512) (q : Fin n) (i : Fin 8192) (j : Fin n)
    (hi : i.val = t.val * 512 + p.val) (hj : j = q) :
    _root_.Proj.cell (fun k => iblk m c 0 t (ix2 p k)) (fun k => iblk m c 1 t (ix2 0 k)) (fun k => w (ix2 q k))
      = _root_.Proj.rowsBy (m ((c : Thread nD τ).loc main_arg0)) (m ((c : Thread nD τ).loc main_arg1)) w i j := by
  subst hj
  have hp : p.val < 512 := p.isLt
  have ht : t.val < 16 := t.isLt
  refine Eq.symm ((_root_.Proj.rowsBy_eq _ _ w i j ⟨(t.val * 512 + p.val) / 2048, by omega⟩ ⟨(t.val * 512 + p.val) % 2048, by omega⟩
    (by rw [hi]) (by rw [hi]) _ fun k => rfl).trans ?_)
  exact _root_.Proj.cell_congr (fun k => (blkX m c t p k _ _ rfl rfl).symm) (fun k => (blkG m c t k).symm) fun k => rfl

/-- The result arrays are the slab, the small columns and the transposed rows. -/
theorem final5 (c : Dev nD) : (dats m 0 c).arrAt 5 cfg0.N =
    _root_.Proj.slabBy (n := 2176) (e := .bf16) (m ((c : Thread nD τ).loc main_arg0)) (m ((c : Thread nD τ).loc main_arg1)) (wts (m ((c : Thread nD τ).loc main_arg2))) := by
  refine (dats m 0 c).arrAt_eq_of_covers 5 _ (by decide +kernel) fun t hf y => ?_
  blk_simp
  rw [after0_5, steps]
  have e0 : ((win0_5.blk t).view.emb y 0).val = t.val * 512 + 1 * (y 0).val := by
    show win0_5.index t 0 * 512 + 1 * (y 0).val = _; rw [(idx t).2.2.2.2.2.1]; rfl
  have e1 : ((win0_5.blk t).view.emb y 1).val = 0 * 2176 + 1 * (y 1).val := by
    show win0_5.index t 1 * 2176 + 1 * (y 1).val = _; rw [(idx t).2.2.2.2.2.1]; rfl
  exact rows_of m c t _ (y 0) (y 1) _ _ (e0.trans (by omega)) (Fin.ext (e1.trans (by omega)))

theorem final6 (c : Dev nD) : (dats m 0 c).arrAt 6 cfg0.N =
    _root_.Proj.slabBy (n := 128) (e := .f32) (m ((c : Thread nD τ).loc main_arg0)) (m ((c : Thread nD τ).loc main_arg1)) (small (m ((c : Thread nD τ).loc main_arg2))) := by
  refine (dats m 0 c).arrAt_eq_of_covers 6 _ (by decide +kernel) fun t hf y => ?_
  blk_simp
  rw [after0_6, steps]
  dsimp only [left]
  rw [blkS]
  have e0 : ((win0_6.blk t).view.emb y 0).val = t.val * 512 + 1 * (y 0).val := by
    show win0_6.index t 0 * 512 + 1 * (y 0).val = _; rw [(idx t).2.2.2.2.2.2.1]; rfl
  have e1 : ((win0_6.blk t).view.emb y 1).val = 0 * 128 + 1 * (y 1).val := by
    show win0_6.index t 1 * 128 + 1 * (y 1).val = _; rw [(idx t).2.2.2.2.2.2.1]; rfl
  exact rows_of m c t _ (y 0) (y 1) _ _ (e0.trans (by omega)) (Fin.ext (e1.trans (by omega)))

theorem final7 (c : Dev nD) : (dats m 0 c).arrAt 7 cfg0.N =
    _root_.Proj.slabByT (n := 16) (e := .f32) (m ((c : Thread nD τ).loc main_arg0)) (m ((c : Thread nD τ).loc main_arg1)) (rowsW (m ((c : Thread nD τ).loc main_arg2))) := by
  refine (dats m 0 c).arrAt_eq_of_covers 7 _ (by decide +kernel) fun t hf y => ?_
  blk_simp
  rw [after0_7, steps]
  dsimp only [left]
  rw [blkR]
  have e0 : ((win0_7.blk t).view.emb y 0).val = 0 * 16 + 1 * (y 0).val := by
    show win0_7.index t 0 * 16 + 1 * (y 0).val = _; rw [(idx t).2.2.2.2.2.2.2]; rfl
  have e1 : ((win0_7.blk t).view.emb y 1).val = t.val * 512 + 1 * (y 1).val := by
    show win0_7.index t 1 * 512 + 1 * (y 1).val = _; rw [(idx t).2.2.2.2.2.2.2]; rfl
  exact rows_of m c t _ (y 1) (y 0) _ _ (e1.trans (by omega)) (Fin.ext (e0.trans (by omega)))

section Ref
variable (m' : (ℓ : Loc Cert.RefInRwkvAIdeal.nD Cert.RefInRwkvAIdeal.τ Cert.RefInRwkvAIdeal.sig) → Buf (Elt Ideal) ℓ) (c : Dev Cert.RefInRwkvAIdeal.nD)

abbrev refX : FVec Ideal S4x2048x2048 .f32 := m' ((c : Thread Cert.RefInRwkvAIdeal.nD Cert.RefInRwkvAIdeal.τ).loc Cert.RefInRwkvAIdeal.main_arg0)
abbrev refG : FVec Ideal S2048 .f32 := m' ((c : Thread Cert.RefInRwkvAIdeal.nD Cert.RefInRwkvAIdeal.τ).loc Cert.RefInRwkvAIdeal.main_arg1)
abbrev refW : FVec Ideal S2048x7840 .f32 := m' ((c : Thread Cert.RefInRwkvAIdeal.nD Cert.RefInRwkvAIdeal.τ).loc Cert.RefInRwkvAIdeal.main_arg2)

/-- The reference's small columns. -/
theorem ref_small (j : (⟨2, ![8192, 128]⟩ : Shape).Idx) : Cert.RefInRwkvAIdeal.Value.res_main_v34 m' c j
    = _root_.Proj.rowsBy (n := 128) (e := .f32) (refX m' c) (refG m' c) (small (refW m' c)) (j 0) (j 1) := by
  pointwise [Cert.RefInRwkvAIdeal.Value.res_main_v34]
  have h1 : (j 1).val < 128 := (j 1).isLt
  split_ifs
  all_goals first
    | refine Eq.symm (_root_.Proj.rowsBy_eq _ _ _ (j 0) (j 1) _ _ rfl rfl _ fun k => _root_.Proj.small_at _ _ _ _ _ _ _ (j 1) k _ ?_)
      dsimp only
      omega
    | refine (_root_.Proj.cell_zero _ _ _ fun k => _root_.Proj.small_zero _ _ _ _ _ _ _ (j 1) k ?_).symm
      omega

/-- The reference's transposed rows. -/
theorem ref_rows (j : (⟨2, ![16, 8192]⟩ : Shape).Idx) : Cert.RefInRwkvAIdeal.Value.res_main_v39 m' c j
    = _root_.Proj.rowsBy (n := 16) (e := .f32) (refX m' c) (refG m' c) (rowsW (refW m' c)) (j 1) (j 0) := by
  pointwise [Cert.RefInRwkvAIdeal.Value.res_main_v39]
  have h1 : (j 0).val < 16 := (j 0).isLt
  split_ifs
  all_goals
    refine Eq.symm (_root_.Proj.rowsBy_eq _ _ _ (j 1) (j 0) _ _ rfl rfl _ fun k => _root_.Proj.gates_at _ _ _ _ _ (j 0) k _ ?_)
    dsimp only
    omega

end Ref

/-- The kernel's three results are the reference's. -/
theorem algebraic : Cert.algebraic_InRwkvAIdeal_RefInRwkvAIdeal (hInRwkvAIdeal := Cert.InRwkvAIdeal.Gen.facts) (hRefInRwkvAIdeal := Cert.RefInRwkvAIdeal.Gen.facts) := by
  pair_intro
  · run_from Cert.InRwkvAIdeal.Gen.run_main m g
    all_goals (simp only [hostOps0, hostOps0_1, hostOps0_2, List.flatten_cons, List.flatten_nil, List.append_nil, List.cons_append, List.nil_append]; after_results_simp)
  · run_from Cert.RefInRwkvAIdeal.Value.run m' g'
    · rw [final5, ← (hagree c).1, ← (hagree c).2.1, ← (hagree c).2.2]
      funext j
      pointwise
      have h1 : (j 1).val < 2176 := (j 1).isLt
      split_ifs
      all_goals
        refine Eq.symm (_root_.Proj.rowsBy_eq _ _ _ (j 0) (j 1) _ _ rfl rfl _ fun k => ?_)
        refine congrArg (fun i => m' ((c : Thread Cert.RefInRwkvAIdeal.nD Cert.RefInRwkvAIdeal.τ).loc Cert.RefInRwkvAIdeal.main_arg2) (ix2 k i)) (Fin.ext ?_)
        show 1552 + (j 1).val = _
        try dsimp only
        try omega
    · rw [final6, ← (hagree c).1, ← (hagree c).2.1, ← (hagree c).2.2]
      exact funext (ref_small m' c)
    · rw [final7, ← (hagree c).1, ← (hagree c).2.1, ← (hagree c).2.2]
      exact funext (ref_rows m' c)

end Cert.InRwkvAIdeal.Proj
-- ==== Proof.InRwkvBVal.lean ====
module

public import proofs.«01_k».proof.Proof.Gen.InRwkvBIdeal.Frame
public import proofs.«01_k».proof.Proof.Gen.RefInRwkvBIdeal.Run
public import proofs.«01_k».proof.Proof.ProjRows
public import Idealize.ShloMosaic.Lib.Pipeline.CanonAppend
public import proofs.«01_k».proof.Defs

@[expose] public section

set_option maxRecDepth 16384

noncomputable section

open Idealize.ShloMosaic Idealize.ShloMosaic.TcCoe Idealize.SL.Sem
open Idealize.ShloMosaic.Pipeline (Dat)

namespace Cert.InRwkvBIdeal.Proj

open Cert.InRwkvBIdeal Cert.InRwkvBIdeal.Gen

variable (m : (ℓ : Loc nD τ sig) → Buf (Elt Ideal) ℓ) (ρ : Dev nD → PrngReg)

theorem pay14_at (x : Vec Ideal S256x2048 .f32) (g : Vec Ideal S1x2048 .f32) (j : S256x2048.Idx) :
    k0_pay14 (F := Ideal) x g j = x j * _root_.Proj.inv (fun k => x (ix2 (j 0) k)) * g (ix2 0 (j 1)) := by
  idx_vars j
  pointwise [k0_pay14, _root_.Proj.inv]
theorem pay20_at (x : Vec Ideal S256x2048 .f32) (g : Vec Ideal S1x2048 .f32) (j : S256x2048.Idx) :
    k0_pay20 (F := Ideal) x g j = x j * _root_.Proj.inv (fun k => x (ix2 (j 0) k)) * g (ix2 0 (j 1)) := by
  idx_vars j
  pointwise [k0_pay20, _root_.Proj.inv]
theorem pay15_at (x : Vec Ideal S256x2048 .f32) (g : Vec Ideal S1x2048 .f32) (w : Vec Ideal S1696x2048 .bf16) (j : S256x1696.Idx) :
    k0_pay15 (F := Ideal) x g w j = _root_.Proj.cell (fun k => x (ix2 (j 0) k)) (fun k => g (ix2 0 k)) (fun k => w (ix2 (j 1) k)) := by
  idx_vars j
  pointwise [k0_pay15, k0_pay14, _root_.Proj.cell, _root_.Proj.inv]
theorem pay21_at (x : Vec Ideal S256x2048 .f32) (g : Vec Ideal S1x2048 .f32) (w : Vec Ideal S1696x2048 .bf16) (j : S256x1696.Idx) :
    k0_pay21 (F := Ideal) x g w j = _root_.Proj.cell (fun k => x (ix2 (j 0) k)) (fun k => g (ix2 0 k)) (fun k => w (ix2 (j 1) k)) := by
  idx_vars j
  pointwise [k0_pay21, k0_pay20, _root_.Proj.cell, _root_.Proj.inv]
theorem pay16_at (x : Vec Ideal S256x2048 .f32) (g : Vec Ideal S1x2048 .f32) (w : Vec Ideal S512x2048 .bf16) (j : S256x512.Idx) :
    k0_pay16 (F := Ideal) x g w j = _root_.Proj.cell (fun k => x (ix2 (j 0) k)) (fun k => g (ix2 0 k)) (fun k => w (ix2 (j 1) k)) := by
  idx_vars j
  pointwise [k0_pay16, k0_pay14, _root_.Proj.cell, _root_.Proj.inv]
theorem pay22_at (x : Vec Ideal S256x2048 .f32) (g : Vec Ideal S1x2048 .f32) (w : Vec Ideal S512x2048 .bf16) (j : S256x512.Idx) :
    k0_pay22 (F := Ideal) x g w j = _root_.Proj.cell (fun k => x (ix2 (j 0) k)) (fun k => g (ix2 0 k)) (fun k => w (ix2 (j 1) k)) := by
  idx_vars j
  pointwise [k0_pay22, k0_pay20, _root_.Proj.cell, _root_.Proj.inv]
theorem pay18_at (x : Vec Ideal S256x2048 .f32) (g : Vec Ideal S1x2048 .f32) (w : Vec Ideal S128x2048 .f32) (j : S256x128.Idx) :
    k0_pay18 (F := Ideal) (k0_pay14 x g) (k0_pay17 w) j = _root_.Proj.cell (fun k => x (ix2 (j 0) k)) (fun k => g (ix2 0 k)) (fun k => w (ix2 (j 1) k)) := by
  idx_vars j
  pointwise [k0_pay18, k0_pay17, k0_pay14, _root_.Proj.cell, _root_.Proj.inv]
theorem pay1_at (x : Vec Ideal S256x2048 .f32) (g : Vec Ideal S1x2048 .f32) (w : Vec Ideal S128x2048 .f32) (j : S256x128.Idx) :
    k0_pay1 (F := Ideal) (k0_pay20 x g) w j = _root_.Proj.cell (fun k => x (ix2 (j 0) k)) (fun k => g (ix2 0 k)) (fun k => w (ix2 (j 1) k)) := by
  idx_vars j
  pointwise [k0_pay1, k0_pay20, _root_.Proj.cell, _root_.Proj.inv]
theorem pay19_at (x : Vec Ideal S256x2048 .f32) (g : Vec Ideal S1x2048 .f32) (w : Vec Ideal S16x2048 .f32) (j : S16x256.Idx) :
    k0_pay19 (F := Ideal) (k0_pay14 x g) w j = _root_.Proj.cell (fun k => x (ix2 (j 1) k)) (fun k => g (ix2 0 k)) (fun k => w (ix2 (j 0) k)) := by
  refine Eq.trans ?_ (_root_.Proj.cell_comm _ _ _)
  idx_vars j
  pointwise [k0_pay19, k0_pay14, _root_.Proj.inv]
theorem pay2_at (x : Vec Ideal S256x2048 .f32) (g : Vec Ideal S1x2048 .f32) (w : Vec Ideal S16x2048 .f32) (j : S16x256.Idx) :
    k0_pay2 (F := Ideal) (k0_pay20 x g) w j = _root_.Proj.cell (fun k => x (ix2 (j 1) k)) (fun k => g (ix2 0 k)) (fun k => w (ix2 (j 0) k)) := by
  refine Eq.trans ?_ (_root_.Proj.cell_comm _ _ _)
  idx_vars j
  pointwise [k0_pay2, k0_pay20, _root_.Proj.inv]
theorem pay13_at (j : S512x128.Idx) : k0_pay13 (F := Ideal) j = 0 := by
  pointwise [k0_pay13]

/-- Every window's block index at a grid point. -/
theorem idx : ∀ t : Fin cfg0.N, win0_0.index t = ![t.val, 0] ∧ win0_1.index t = ![0, 0] ∧ win0_2.index t = ![1552, 0] ∧ win0_3.index t = ![3248, 0]
    ∧ win0_4.index t = ![0, 0] ∧ win0_5.index t = ![0, 0] ∧ win0_6.index t = ![t.val, 0] ∧ win0_7.index t = ![t.val, 0] ∧ win0_8.index t = ![0, t.val] :=
  (by decide +kernel : ∀ t : Fin grid0.N, _)

/-- The weights of the slab's two pieces: 1696 columns from 1552 and 512 from 3248. -/
def wts0 (W : FVec Ideal S2048x7872 .f32) : FVec Ideal S1696x2048 .bf16 := fun y => W (ix2 (y 1) ⟨1552 + (y 0).val, by have : (y 0).val < 1696 := (y 0).isLt; omega⟩)
def wts1 (W : FVec Ideal S2048x7872 .f32) : FVec Ideal S512x2048 .bf16 := fun y => W (ix2 (y 1) ⟨3248 + (y 0).val, by have : (y 0).val < 512 := (y 0).isLt; omega⟩)
/-- The two pieces side by side, with zeros between. -/
def wide (w0 : FVec Ideal S1696x2048 .bf16) (w1 : FVec Ideal S512x2048 .bf16) : FVec Ideal ⟨2, ![2304, 2048]⟩ .bf16 := fun y =>
  if h : (y 0).val < 1696 then w0 (ix2 ⟨(y 0).val, h⟩ (y 1)) else
  if h1 : 1792 ≤ (y 0).val then w1 (ix2 ⟨(y 0).val - 1792, by have : (y 0).val < 2304 := (y 0).isLt; omega⟩ (y 1)) else 0
theorem wide_lo (w0 : FVec Ideal S1696x2048 .bf16) (w1 : FVec Ideal S512x2048 .bf16) (q : Fin 2304) (k : Fin 2048) (i : Fin 1696) (h : i.val = q.val) :
    wide w0 w1 (ix2 q k) = w0 (ix2 i k) := by
  obtain ⟨i, hi⟩ := i
  obtain rfl : i = q.val := h
  exact dif_pos hi
theorem wide_hi (w0 : FVec Ideal S1696x2048 .bf16) (w1 : FVec Ideal S512x2048 .bf16) (q : Fin 2304) (k : Fin 2048) (i : Fin 512) (h : 1792 + i.val = q.val) :
    wide w0 w1 (ix2 q k) = w1 (ix2 i k) := by
  obtain ⟨q, hq⟩ := q
  obtain rfl : 1792 + i.val = q := h
  refine (dif_neg (by show ¬1792 + i.val < 1696; omega)).trans ((dif_pos (by show 1792 ≤ 1792 + i.val; omega)).trans ?_)
  exact congrArg (fun a => w1 (ix2 a k)) (Fin.ext (by show 1792 + i.val - 1792 = i.val; omega))
theorem wide_gap (w0 : FVec Ideal S1696x2048 .bf16) (w1 : FVec Ideal S512x2048 .bf16) (q : Fin 2304) (k : Fin 2048) (h : 1696 ≤ q.val) (h1 : q.val < 1792) :
    wide w0 w1 (ix2 q k) = 0 :=
  (dif_neg (by show ¬q.val < 1696; omega)).trans (dif_neg (by show ¬1792 ≤ q.val; omega))

/-- The small columns' weights and the transposed rows', at this layer's columns. -/
abbrev small (W : FVec Ideal S2048x7872 .f32) : FVec Ideal S128x2048 .f32 := _root_.Proj.small 1024 4784 6840 (by decide) (by decide) (by decide) W
abbrev rowsW (W : FVec Ideal S2048x7872 .f32) : FVec Ideal S16x2048 .f32 := _root_.Proj.gates 4784 6840 (by decide) (by decide) W

theorem V_v0 (c : Dev nD) (q : Fin 7872) (k : Fin 2048) : V m c main_v0 (ix2 q k) = m ((c : Thread nD τ).loc main_arg2) (ix2 k q) := by
  unfold V
  simp only [hostOps0, hostOps0_1, hostOps0_2, List.flatten_cons, List.flatten_nil, List.append_nil, List.cons_append, List.nil_append]
  after_results_simp
  pointwise

theorem V_v14 (c : Dev nD) (q : Fin 8192) (k : Fin 2048) (a : Fin 4) (b : Fin 2048) (ha : a.val = q.val / 2048) (hb : b.val = q.val % 2048) :
    V m c main_v14 (ix2 q k) = m ((c : Thread nD τ).loc main_arg0) (ix3 a b k) := by
  unfold V
  simp only [hostOps0, hostOps0_1, hostOps0_2, List.flatten_cons, List.flatten_nil, List.append_nil, List.cons_append, List.nil_append]
  after_results_simp
  exact _root_.Proj.rows_at _ _ _ _ _ _ ha hb

theorem V_v15 (c : Dev nD) (k : Fin 2048) : V m c main_v15 (ix2 0 k) = m ((c : Thread nD τ).loc main_arg1) (ix1 k) := by
  unfold V
  simp only [hostOps0, hostOps0_1, hostOps0_2, List.flatten_cons, List.flatten_nil, List.append_nil, List.cons_append, List.nil_append]
  after_results_simp
  pointwise

theorem V_v5_cat (c : Dev nD) : V m c main_v5 = pad S128x2048 ![0, 0] ![96, 0] ![0, 0]
      (concatenate S32x2048 0 [⟨S16x2048, extractStridedSlice S16x2048 ![1024, 0] (V m c main_v0) slices_S7872x2048_S16x2048_1024_0⟩,
        ⟨S8x2048, extractStridedSlice S8x2048 ![4784, 0] (V m c main_v0) slices_S7872x2048_S8x2048_4784_0⟩,
        ⟨S8x2048, extractStridedSlice S8x2048 ![6840, 0] (V m c main_v0) slices_S7872x2048_S8x2048_6840_0⟩] concatenates_S16x2048_S8x2048_S8x2048_S32x2048_d0)
      (sitofp (F := Ideal) .f32 (constantI S_ 32 0#32)) pads_S32x2048_S128x2048_0960_000 h_S_ := by
  unfold V
  simp only [hostOps0, hostOps0_1, hostOps0_2, List.flatten_cons, List.flatten_nil, List.append_nil, List.cons_append, List.nil_append]
  after_results_simp
  rfl

theorem V_v5 (c : Dev nD) (q : Fin 128) (k : Fin 2048) : V m c main_v5 (ix2 q k) = small (m ((c : Thread nD τ).loc main_arg2)) (ix2 q k) := by
  rw [V_v5_cat]
  pointwise [V_v0]
  split_ifs
  all_goals try refine (V_v0 m c _ _).trans (Eq.symm (_root_.Proj.small_at _ _ _ _ _ _ _ _ _ _ ?_)); dsimp only; omega
  refine Eq.trans (b := (0 : EReal)) ?_ (_root_.Proj.small_zero _ _ _ _ _ _ _ _ _ (by omega)).symm
  show ((((0#32 : BitVec 32).toInt : ℝ)) : EReal) = 0
  simp

theorem order_word : ∀ a : Fin 8, (broadcastInDim S8x1 ![0] bcast_S8_S8x1_0 (select (constantI S8 1 0#1) (addi (fun i => lit0 (S8.rowMajor i)) (broadcastInDim S8 ![] bcast_S_S8 (constantI S_ 32 8#32))) fun i => lit0 (S8.rowMajor i))) (ix2 a (0 : Fin 1))
    = BitVec.ofNat 32 (_root_.Proj.order a).val := by
  intro a
  match a with
  | 0 => rfl
  | 1 => rfl
  | 2 => rfl
  | 3 => rfl
  | 4 => rfl
  | 5 => rfl
  | 6 => rfl
  | 7 => rfl

theorem steps_at (W : FVec Ideal S2048x7872 .f32) (a : Fin 8) (k : Fin 2048) :
    extractStridedSlice S8x2048 ![4784, 0] (transpose S7872x2048 [1, 0] W transposes_S2048x7872_S7872x2048_1_0) slices_S7872x2048_S8x2048_4784_0 (ix2 a k)
      = W (ix2 k ⟨4784 + a.val, by omega⟩) := by
  pointwise

theorem V_v13 (c : Dev nD) (q : Fin 16) (k : Fin 2048) : V m c main_v13 (ix2 q k) = rowsW (m ((c : Thread nD τ).loc main_arg2)) (ix2 q k) := by
  unfold V
  simp only [hostOps0, hostOps0_1, hostOps0_2, List.flatten_cons, List.flatten_nil, List.append_nil, List.cons_append, List.nil_append]
  after_results_simp
  pointwise
  by_cases h : q.val < 8
  · rw [dif_pos h]
    refine (Routing.gather_row _ rfl rfl rfl rfl rfl _ _ _ _ _ (order_word _) (by decide)).trans ?_
    refine (steps_at _ _ _).trans (Eq.symm (_root_.Proj.gates_at _ _ _ _ _ _ _ _ ?_))
    dsimp only
    by_cases h4 : q.val < 4
    · rw [_root_.Proj.order_lo _ h4]; dsimp only; omega
    · rw [_root_.Proj.order_hi _ h4]; dsimp only; omega
  · rw [dif_neg h]
    refine Eq.symm (_root_.Proj.gates_at _ _ _ _ _ _ _ _ ?_)
    dsimp only
    omega

/-- The weights' windows are the slab's columns of the input weights. -/
theorem blk2 (c : Dev nD) (t : Fin cfg0.N) : iblk m c 2 t = wts0 (m ((c : Thread nD τ).loc main_arg2)) := by
  funext y
  have h0 : (y 0).val < 1696 := (y 0).isLt
  have e : ((View.whole main_v0).slice (win0_2.rect t)).emb y = (ix2 ⟨1552 + (y 0).val, by omega⟩ (y 1) : S7872x2048.Idx) := by
    funext x
    apply Fin.ext
    match x with
    | 0 => show win0_2.index t 0 + 1 * (y 0).val = 1552 + (y 0).val; rw [(idx t).2.2.1]; simp
    | 1 => show win0_2.index t 1 + 1 * (y 1).val = (y 1).val; rw [(idx t).2.2.1]; simp
  unfold iblk
  show V m c main_v0 (((View.whole main_v0).slice (win0_2.rect t)).emb y) = _
  rw [e]
  exact V_v0 m c _ _

theorem blk3 (c : Dev nD) (t : Fin cfg0.N) : iblk m c 3 t = wts1 (m ((c : Thread nD τ).loc main_arg2)) := by
  funext y
  have h0 : (y 0).val < 512 := (y 0).isLt
  have e : ((View.whole main_v0).slice (win0_3.rect t)).emb y = (ix2 ⟨3248 + (y 0).val, by omega⟩ (y 1) : S7872x2048.Idx) := by
    funext x
    apply Fin.ext
    match x with
    | 0 => show win0_3.index t 0 + 1 * (y 0).val = 3248 + (y 0).val; rw [(idx t).2.2.2.1]; simp
    | 1 => show win0_3.index t 1 + 1 * (y 1).val = (y 1).val; rw [(idx t).2.2.2.1]; simp
  unfold iblk
  show V m c main_v0 (((View.whole main_v0).slice (win0_3.rect t)).emb y) = _
  rw [e]
  exact V_v0 m c _ _

theorem blkS (c : Dev nD) (t : Fin cfg0.N) : iblk m c 4 t = small (m ((c : Thread nD τ).loc main_arg2)) := by
  funext y
  have e : ((View.whole main_v5).slice (win0_4.rect t)).emb y = (ix2 (y 0) (y 1) : S128x2048.Idx) := by
    funext x
    apply Fin.ext
    match x with
    | 0 => show win0_4.index t 0 * 128 + 1 * (y 0).val = (y 0).val; rw [(idx t).2.2.2.2.1]; simp
    | 1 => show win0_4.index t 1 * 2048 + 1 * (y 1).val = (y 1).val; rw [(idx t).2.2.2.2.1]; simp
  unfold iblk
  show V m c main_v5 (((View.whole main_v5).slice (win0_4.rect t)).emb y) = _
  rw [e]
  exact V_v5 m c _ _

theorem blkR (c : Dev nD) (t : Fin cfg0.N) : iblk m c 5 t = rowsW (m ((c : Thread nD τ).loc main_arg2)) := by
  funext y
  have e : ((View.whole main_v13).slice (win0_5.rect t)).emb y = (ix2 (y 0) (y 1) : S16x2048.Idx) := by
    funext x
    apply Fin.ext
    match x with
    | 0 => show win0_5.index t 0 * 16 + 1 * (y 0).val = (y 0).val; rw [(idx t).2.2.2.2.2.1]; simp
    | 1 => show win0_5.index t 1 * 2048 + 1 * (y 1).val = (y 1).val; rw [(idx t).2.2.2.2.2.1]; simp
  unfold iblk
  show V m c main_v13 (((View.whole main_v13).slice (win0_5.rect t)).emb y) = _
  rw [e]
  exact V_v13 m c _ _

/-- Rounding a block of weights is the identity on the reals. -/
theorem pay_wts (X : Vec Ideal S256x2048 .f32) : k0_pay3 (F := Ideal) X = X
    ∧ k0_pay4 (F := Ideal) X = X
    ∧ k0_pay5 (F := Ideal) X = X
    ∧ k0_pay6 (F := Ideal) X = X
    ∧ k0_pay7 (F := Ideal) X = X
    ∧ k0_pay9 (F := Ideal) (k0_pay8 X) = X
    ∧ k0_pay11 (F := Ideal) X = X
    ∧ k0_pay12 (F := Ideal) X = X := by
  refine ⟨?_, ?_, ?_, ?_, ?_, ?_, ?_, ?_⟩ <;> funext j <;> pointwise [k0_pay3, k0_pay4, k0_pay5, k0_pay6, k0_pay7, k0_pay9, k0_pay8, k0_pay11, k0_pay12]
theorem pay_wts_last (X : Vec Ideal S160x2048 .f32) : k0_pay10 (F := Ideal) X = X := by
  funext j; pointwise [k0_pay10]

/-- A store does not reach the entries outside its lanes. -/
theorem skip_lanes (off size : Fin 2 → ℕ) (inb : ∀ a, off a + size a ≤ S512x2304.size a) (w : (Rect.unit (s := S512x2304) off size inb).shape.Idx → Elt Ideal .f32)
    (L : List (View.Piece (Elt Ideal) S512x2304 .f32)) (y : S512x2304.Idx) (h : (y 1).val < off 1 ∨ off 1 + size 1 ≤ (y 1).val) :
    View.canon (Val := Elt Ideal) (s := S512x2304) (e := .f32) (⟨Rect.unit off size inb, w⟩ :: L) y = View.canon L y :=
  View.canon_cons_of_not_mem _ _ fun hm => by
    have := (Rect.mem_set_unit (inb := inb)).mp hm 1
    omega

/-- A store of zeros leaves zero in its lanes. -/
theorem zero_lanes (y : S512x2304.Idx) (h0 : (y 0).val < 512) (h : 1664 ≤ (y 1).val) (h1 : (y 1).val < 1792) :
    View.canon (Val := Elt Ideal) (s := S512x2304) (e := .f32) [⟨Rect.unit ![0, 1664] ![512, 128] inb_S512x2304_S512x128_0_1664, k0_pay13 (F := Ideal)⟩] y = 0 := by
  obtain ⟨z, rfl⟩ := (Rect.unit (s := S512x2304) ![0, 1664] ![512, 128] inb_S512x2304_S512x128_0_1664).exists_idx_of_mem (i := y)
    (Rect.mem_set_unit.mpr (Fin.forall_fin_two.mpr ⟨⟨Nat.zero_le _, by show (y 0).val < 0 + 512; omega⟩, ⟨h, h1⟩⟩))
  exact (View.canon_cons_emb _ _ _ z).trans (pay13_at z)

/-- The five stores of a grid step write the block of the slab: the lanes of zeros first, then the two pieces of each half. -/
theorem canon_slab (x : Vec Ideal S512x2048 .f32) (g : Vec Ideal S1x2048 .f32) (w0 : Vec Ideal S1696x2048 .bf16) (w1 : Vec Ideal S512x2048 .bf16) :
    View.canon (Val := Elt Ideal) (s := S512x2304) (e := .f32)
      [⟨Rect.unit ![256, 1792] ![256, 512] inb_S512x2304_S256x512_256_1792, k0_pay22 (View.ld x (Rect.unit ![256, 0] ![256, 2048] inb_S512x2048_S256x2048_256_0)) g w1⟩,
        ⟨Rect.unit ![256, 0] ![256, 1696] inb_S512x2304_S256x1696_256_0, k0_pay21 (View.ld x (Rect.unit ![256, 0] ![256, 2048] inb_S512x2048_S256x2048_256_0)) g w0⟩,
        ⟨Rect.unit ![0, 1792] ![256, 512] inb_S512x2304_S256x512_0_1792, k0_pay16 (View.ld x (Rect.unit ![0, 0] ![256, 2048] inb_S512x2048_S256x2048_0_0)) g w1⟩,
        ⟨Rect.unit ![0, 0] ![256, 1696] inb_S512x2304_S256x1696_0_0, k0_pay15 (View.ld x (Rect.unit ![0, 0] ![256, 2048] inb_S512x2048_S256x2048_0_0)) g w0⟩,
        ⟨Rect.unit ![0, 1664] ![512, 128] inb_S512x2304_S512x128_0_1664, k0_pay13 (F := Ideal)⟩]
      = _root_.Proj.against (R := 512) (n := 2304) (e := .bf16) x g (wide w0 w1) := by
  funext y
  have hy0 : (y 0).val < 512 := (y 0).isLt
  have hy1 : (y 1).val < 2304 := (y 1).isLt
  by_cases hg : 1696 ≤ (y 1).val ∧ (y 1).val < 1792
  · rw [_root_.Proj.against_at, _root_.Proj.cell_zero _ _ _ fun k => wide_gap w0 w1 (y 1) k hg.1 hg.2]
    refine (skip_lanes _ _ _ _ _ y (Or.inl (by show (y 1).val < 1792; omega))).trans ?_
    refine (skip_lanes _ _ _ _ _ y (Or.inr (by show 0 + 1696 ≤ (y 1).val; omega))).trans ?_
    refine (skip_lanes _ _ _ _ _ y (Or.inl (by show (y 1).val < 1792; omega))).trans ?_
    refine (skip_lanes _ _ _ _ _ y (Or.inr (by show 0 + 1696 ≤ (y 1).val; omega))).trans ?_
    exact zero_lanes y hy0 (by omega) hg.2
  · refine View.canon_append_of_pieces _ [_] [_, _, _, _] ?_ y ?_
    · simp only [List.forall_mem_cons]
      refine ⟨fun j => ?_, fun j => ?_, fun j => ?_, fun j => ?_, by simp⟩
      · rw [_root_.Proj.against_at, pay22_at]
        refine _root_.Proj.cell_congr (fun k => ?_) (fun k => rfl) (fun k => (wide_hi w0 w1 _ k (j 1) ?_).symm)
        · pointwise; blk_ext
        · show 1792 + (j 1).val = 1792 + 1 * (j 1).val; omega
      · rw [_root_.Proj.against_at, pay21_at]
        refine _root_.Proj.cell_congr (fun k => ?_) (fun k => rfl) (fun k => (wide_lo w0 w1 _ k (j 1) ?_).symm)
        · pointwise; blk_ext
        · show (j 1).val = 0 + 1 * (j 1).val; omega
      · rw [_root_.Proj.against_at, pay16_at]
        refine _root_.Proj.cell_congr (fun k => ?_) (fun k => rfl) (fun k => (wide_hi w0 w1 _ k (j 1) ?_).symm)
        · pointwise; blk_ext
        · show 1792 + (j 1).val = 1792 + 1 * (j 1).val; omega
      · rw [_root_.Proj.against_at, pay15_at]
        refine _root_.Proj.cell_congr (fun k => ?_) (fun k => rfl) (fun k => (wide_lo w0 w1 _ k (j 1) ?_).symm)
        · pointwise; blk_ext
        · show (j 1).val = 0 + 1 * (j 1).val; omega
    · have hm : ∀ (off size : Fin 2 → ℕ) (inb : ∀ a, off a + size a ≤ S512x2304.size a) (h0 : off 0 ≤ (y 0).val ∧ (y 0).val < off 0 + size 0) (h1 : off 1 ≤ (y 1).val ∧ (y 1).val < off 1 + size 1),
          y ∈ (Rect.unit (s := S512x2304) off size inb).set := fun off size inb h0 h1 => Rect.mem_set_unit.mpr (Fin.forall_fin_two.mpr ⟨h0, h1⟩)
      by_cases h0 : (y 0).val < 256 <;> by_cases h1 : (y 1).val < 1696
      · exact ⟨_, .tail _ (.tail _ (.tail _ (.head _))), hm ![0, 0] ![256, 1696] (by decide) (by show 0 ≤ (y 0).val ∧ (y 0).val < 0 + 256; omega) (by show 0 ≤ (y 1).val ∧ (y 1).val < 0 + 1696; omega)⟩
      · exact ⟨_, .tail _ (.tail _ (.head _)), hm ![0, 1792] ![256, 512] (by decide) (by show 0 ≤ (y 0).val ∧ (y 0).val < 0 + 256; omega) (by show 1792 ≤ (y 1).val ∧ (y 1).val < 1792 + 512; omega)⟩
      · exact ⟨_, .tail _ (.head _), hm ![256, 0] ![256, 1696] (by decide) (by show 256 ≤ (y 0).val ∧ (y 0).val < 256 + 256; omega) (by show 0 ≤ (y 1).val ∧ (y 1).val < 0 + 1696; omega)⟩
      · exact ⟨_, .head _, hm ![256, 1792] ![256, 512] (by decide) (by show 256 ≤ (y 0).val ∧ (y 0).val < 256 + 256; omega) (by show 1792 ≤ (y 1).val ∧ (y 1).val < 1792 + 512; omega)⟩

theorem canon_small (x : Vec Ideal S512x2048 .f32) (g : Vec Ideal S1x2048 .f32) (w : Vec Ideal S128x2048 .f32) :
    View.canon (Val := Elt Ideal) (s := S512x128) (e := .f32)
      [⟨Rect.unit ![256, 0] ![256, 128] inb_S512x128_S256x128_256_0, k0_pay1 (k0_pay20 (View.ld x (Rect.unit ![256, 0] ![256, 2048] inb_S512x2048_S256x2048_256_0)) g) w⟩,
        ⟨Rect.unit ![0, 0] ![256, 128] inb_S512x128_S256x128_0_0, k0_pay18 (k0_pay14 (View.ld x (Rect.unit ![0, 0] ![256, 2048] inb_S512x2048_S256x2048_0_0)) g) (k0_pay17 w)⟩]
      = _root_.Proj.against (R := 512) (n := 128) (e := .f32) x g w := by
  funext y
  refine View.canon_apply_of_pieces _ _ ?_ y (View.cover_of_tiledBy (s := S512x128) _ ![256, 128] (by sl_kernel_rfl) y)
  simp only [List.forall_mem_cons]
  refine ⟨fun j => ?_, fun j => ?_, by simp⟩
  · rw [_root_.Proj.against_at, pay1_at]
    pointwise; refine _root_.Proj.cell_congr (fun k => ?_) (fun k => rfl) (fun k => ?_) <;> blk_ext
  · rw [_root_.Proj.against_at, pay18_at]
    pointwise; refine _root_.Proj.cell_congr (fun k => ?_) (fun k => rfl) (fun k => ?_) <;> blk_ext
theorem canon_rows (x : Vec Ideal S512x2048 .f32) (g : Vec Ideal S1x2048 .f32) (w : Vec Ideal S16x2048 .f32) :
    View.canon (Val := Elt Ideal) (s := S16x512) (e := .f32)
      [⟨Rect.unit ![0, 256] ![16, 256] inb_S16x512_S16x256_0_256, k0_pay2 (k0_pay20 (View.ld x (Rect.unit ![256, 0] ![256, 2048] inb_S512x2048_S256x2048_256_0)) g) w⟩,
        ⟨Rect.unit ![0, 0] ![16, 256] inb_S16x512_S16x256_0_0, k0_pay19 (k0_pay14 (View.ld x (Rect.unit ![0, 0] ![256, 2048] inb_S512x2048_S256x2048_0_0)) g) w⟩]
      = _root_.Proj.againstT (R := 512) (n := 16) (e := .f32) x g w := by
  funext y
  refine View.canon_apply_of_pieces _ _ ?_ y (View.cover_of_tiledBy (s := S16x512) _ ![16, 256] (by sl_kernel_rfl) y)
  simp only [List.forall_mem_cons]
  refine ⟨fun j => ?_, fun j => ?_, by simp⟩
  · rw [_root_.Proj.againstT_at, pay2_at]
    pointwise; refine _root_.Proj.cell_congr (fun k => ?_) (fun k => rfl) (fun k => ?_) <;> blk_ext
  · rw [_root_.Proj.againstT_at, pay19_at]
    pointwise; refine _root_.Proj.cell_congr (fun k => ?_) (fun k => rfl) (fun k => ?_) <;> blk_ext

abbrev w0 (c : Dev nD) := wts0 (m ((c : Thread nD τ).loc main_arg2))
abbrev w1 (c : Dev nD) := wts1 (m ((c : Thread nD τ).loc main_arg2))

/-- What a grid step leaves: its blocks of the three outputs, and the rounded weights. -/
abbrev left (c : Dev nD) (t : Fin cfg0.N) : Vec Ideal S512x2304 .f32 × Vec Ideal S512x128 .f32 × Vec Ideal S16x512 .f32 × Vec Ideal S1696x2048 .bf16 × Vec Ideal S512x2048 .bf16 :=
  (_root_.Proj.against (R := 512) (n := 2304) (e := .bf16) (iblk m c 0 t) (iblk m c 1 t) (wide (w0 m c) (w1 m c)),
    _root_.Proj.against (R := 512) (n := 128) (e := .f32) (iblk m c 0 t) (iblk m c 1 t) (iblk m c 4 t),
    _root_.Proj.againstT (R := 512) (n := 16) (e := .f32) (iblk m c 0 t) (iblk m c 1 t) (iblk m c 5 t), w0 m c, w1 m c)

theorem stepA (c : Dev nD) (t : Fin cfg0.N) (h0 : t.val % 16 = 0) : outsAt0 m c t.val t.isLt = left m c t := by
  rw [outsAt0_A m c t h0]
  frame_out
  rw [blk2, blk3]
  simp only [(pay_wts _).1, (pay_wts _).2.1, (pay_wts _).2.2.1, (pay_wts _).2.2.2.1, (pay_wts _).2.2.2.2.1, (pay_wts _).2.2.2.2.2.1, (pay_wts _).2.2.2.2.2.2.1, (pay_wts _).2.2.2.2.2.2.2, pay_wts_last]
  rw [_root_.Proj.readCov_of_pieces (s := S1696x2048) (View.whole cc0_scratch0) _ (off := ![0, 0]) inb_S1696x2048_S1696x2048_0_0 (w0 m c) ?h0 (View.cover_of_tiledBy (s := S1696x2048) _ ![32, 2048] (by sl_kernel_rfl)),
    _root_.Proj.readCov_of_pieces (s := S512x2048) (View.whole cc0_scratch1) _ (off := ![0, 0]) inb_S512x2048_S512x2048_0_0 (w1 m c) ?h1 (View.cover_of_tiledBy (s := S512x2048) _ ![256, 2048] (by sl_kernel_rfl)),
    canon_slab, canon_small, canon_rows, _root_.Proj.canon_of_pieces (s := S1696x2048) _ (w0 m c) ?h0 (View.cover_of_tiledBy (s := S1696x2048) _ ![32, 2048] (by sl_kernel_rfl)),
    _root_.Proj.canon_of_pieces (s := S512x2048) _ (w1 m c) ?h1 (View.cover_of_tiledBy (s := S512x2048) _ ![256, 2048] (by sl_kernel_rfl))]
  all_goals (simp only [List.forall_mem_cons]; repeat' (first | refine ⟨fun x => rfl, ?_⟩ | exact fun p hp => absurd hp List.not_mem_nil))

theorem stepB (c : Dev nD) (t : Fin cfg0.N) (h0 : ¬t.val % 16 = 0) (hp : (outsAt0 m c (t.val - 1) (by have := t.isLt; omega)).2.2.2 = (w0 m c, w1 m c)) :
    outsAt0 m c t.val t.isLt = left m c t := by
  rw [outsAt0_B m c t h0]
  frame_out
  simp only [read_unread_whole, hp]
  rw [canon_slab, canon_small, canon_rows]
  rfl

theorem steps (c : Dev nD) : ∀ (n : ℕ) (h : n < cfg0.N), outsAt0 m c n h = left m c ⟨n, h⟩
  | 0, h => stepA m c ⟨0, h⟩ rfl
  | n + 1, h => by
    by_cases h0 : (n + 1) % 16 = 0
    · exact stepA m c ⟨n + 1, h⟩ h0
    · exact stepB m c ⟨n + 1, h⟩ h0 (by show (outsAt0 m c n _).2.2.2 = _; rw [steps c n])

theorem blkX (c : Dev nD) (t : Fin cfg0.N) (p : Fin 512) (k : Fin 2048) (a : Fin 4) (b : Fin 2048)
    (ha : a.val = (t.val * 512 + p.val) / 2048) (hb : b.val = (t.val * 512 + p.val) % 2048) :
    iblk m c 0 t (ix2 p k) = m ((c : Thread nD τ).loc main_arg0) (ix3 a b k) := by
  have ht : t.val < 16 := t.isLt
  have e : ((View.whole main_v14).slice (win0_0.rect t)).emb (ix2 p k) = (ix2 ⟨t.val * 512 + p.val, by omega⟩ k : S8192x2048.Idx) := by
    funext x
    apply Fin.ext
    match x with
    | 0 => show win0_0.index t 0 * 512 + 1 * p.val = t.val * 512 + p.val; rw [(idx t).1]; simp
    | 1 => show win0_0.index t 1 * 2048 + 1 * k.val = k.val; rw [(idx t).1]; simp
  unfold iblk
  show V m c main_v14 (((View.whole main_v14).slice (win0_0.rect t)).emb (ix2 p k)) = _
  rw [e]
  exact V_v14 m c _ _ _ _ ha hb

theorem blkG (c : Dev nD) (t : Fin cfg0.N) (k : Fin 2048) : iblk m c 1 t (ix2 0 k) = m ((c : Thread nD τ).loc main_arg1) (ix1 k) := by
  have e : ((View.whole main_v15).slice (win0_1.rect t)).emb (ix2 0 k) = (ix2 0 k : S1x2048.Idx) := by
    funext x
    apply Fin.ext
    match x with
    | 0 => show win0_1.index t 0 * 1 + 1 * 0 = 0; rw [(idx t).2.1]; simp
    | 1 => show win0_1.index t 1 * 2048 + 1 * k.val = k.val; rw [(idx t).2.1]; simp
  unfold iblk
  show V m c main_v15 (((View.whole main_v15).slice (win0_1.rect t)).emb (ix2 0 k)) = _
  rw [e]
  exact V_v15 m c _

/-- An entry of a block is the entry of all the rows at the block's place. -/
theorem rows_of (c : Dev nD) (t : Fin cfg0.N) {n : ℕ} {e : FTy} (w : FVec Ideal ⟨2, ![n, 2048]⟩ e) (p : Fin 512) (q : Fin n) (i : Fin 8192) (j : Fin n)
    (hi : i.val = t.val * 512 + p.val) (hj : j = q) :
    _root_.Proj.cell (fun k => iblk m c 0 t (ix2 p k)) (fun k => iblk m c 1 t (ix2 0 k)) (fun k => w (ix2 q k))
      = _root_.Proj.rowsBy (m ((c : Thread nD τ).loc main_arg0)) (m ((c : Thread nD τ).loc main_arg1)) w i j := by
  subst hj
  have hp : p.val < 512 := p.isLt
  have ht : t.val < 16 := t.isLt
  refine Eq.symm ((_root_.Proj.rowsBy_eq _ _ w i j ⟨(t.val * 512 + p.val) / 2048, by omega⟩ ⟨(t.val * 512 + p.val) % 2048, by omega⟩
    (by rw [hi]) (by rw [hi]) _ fun k => rfl).trans ?_)
  exact _root_.Proj.cell_congr (fun k => (blkX m c t p k _ _ rfl rfl).symm) (fun k => (blkG m c t k).symm) fun k => rfl

/-- The result arrays are the slab, the small columns and the transposed rows. -/
theorem final6 (c : Dev nD) : (dats m 0 c).arrAt 6 cfg0.N =
    _root_.Proj.slabBy (n := 2304) (e := .bf16) (m ((c : Thread nD τ).loc main_arg0)) (m ((c : Thread nD τ).loc main_arg1)) (wide (wts0 (m ((c : Thread nD τ).loc main_arg2))) (wts1 (m ((c : Thread nD τ).loc main_arg2)))) := by
  refine (dats m 0 c).arrAt_eq_of_covers 6 _ (by decide +kernel) fun t hf y => ?_
  blk_simp
  rw [after0_6, steps]
  have e0 : ((win0_6.blk t).view.emb y 0).val = t.val * 512 + 1 * (y 0).val := by
    show win0_6.index t 0 * 512 + 1 * (y 0).val = _; rw [(idx t).2.2.2.2.2.2.1]; rfl
  have e1 : ((win0_6.blk t).view.emb y 1).val = 0 * 2304 + 1 * (y 1).val := by
    show win0_6.index t 1 * 2304 + 1 * (y 1).val = _; rw [(idx t).2.2.2.2.2.2.1]; rfl
  exact rows_of m c t _ (y 0) (y 1) _ _ (e0.trans (by omega)) (Fin.ext (e1.trans (by omega)))

theorem final7 (c : Dev nD) : (dats m 0 c).arrAt 7 cfg0.N =
    _root_.Proj.slabBy (n := 128) (e := .f32) (m ((c : Thread nD τ).loc main_arg0)) (m ((c : Thread nD τ).loc main_arg1)) (small (m ((c : Thread nD τ).loc main_arg2))) := by
  refine (dats m 0 c).arrAt_eq_of_covers 7 _ (by decide +kernel) fun t hf y => ?_
  blk_simp
  rw [after0_7, steps]
  dsimp only [left]
  rw [blkS]
  have e0 : ((win0_7.blk t).view.emb y 0).val = t.val * 512 + 1 * (y 0).val := by
    show win0_7.index t 0 * 512 + 1 * (y 0).val = _; rw [(idx t).2.2.2.2.2.2.2.1]; rfl
  have e1 : ((win0_7.blk t).view.emb y 1).val = 0 * 128 + 1 * (y 1).val := by
    show win0_7.index t 1 * 128 + 1 * (y 1).val = _; rw [(idx t).2.2.2.2.2.2.2.1]; rfl
  exact rows_of m c t _ (y 0) (y 1) _ _ (e0.trans (by omega)) (Fin.ext (e1.trans (by omega)))

theorem final8 (c : Dev nD) : (dats m 0 c).arrAt 8 cfg0.N =
    _root_.Proj.slabByT (n := 16) (e := .f32) (m ((c : Thread nD τ).loc main_arg0)) (m ((c : Thread nD τ).loc main_arg1)) (rowsW (m ((c : Thread nD τ).loc main_arg2))) := by
  refine (dats m 0 c).arrAt_eq_of_covers 8 _ (by decide +kernel) fun t hf y => ?_
  blk_simp
  rw [after0_8, steps]
  dsimp only [left]
  rw [blkR]
  have e0 : ((win0_8.blk t).view.emb y 0).val = 0 * 16 + 1 * (y 0).val := by
    show win0_8.index t 0 * 16 + 1 * (y 0).val = _; rw [(idx t).2.2.2.2.2.2.2.2]; rfl
  have e1 : ((win0_8.blk t).view.emb y 1).val = t.val * 512 + 1 * (y 1).val := by
    show win0_8.index t 1 * 512 + 1 * (y 1).val = _; rw [(idx t).2.2.2.2.2.2.2.2]; rfl
  exact rows_of m c t _ (y 1) (y 0) _ _ (e1.trans (by omega)) (Fin.ext (e0.trans (by omega)))

section Ref
variable (m' : (ℓ : Loc Cert.RefInRwkvBIdeal.nD Cert.RefInRwkvBIdeal.τ Cert.RefInRwkvBIdeal.sig) → Buf (Elt Ideal) ℓ) (c : Dev Cert.RefInRwkvBIdeal.nD)

abbrev refX : FVec Ideal S4x2048x2048 .f32 := m' ((c : Thread Cert.RefInRwkvBIdeal.nD Cert.RefInRwkvBIdeal.τ).loc Cert.RefInRwkvBIdeal.main_arg0)
abbrev refG : FVec Ideal S2048 .f32 := m' ((c : Thread Cert.RefInRwkvBIdeal.nD Cert.RefInRwkvBIdeal.τ).loc Cert.RefInRwkvBIdeal.main_arg1)
abbrev refW : FVec Ideal S2048x7872 .f32 := m' ((c : Thread Cert.RefInRwkvBIdeal.nD Cert.RefInRwkvBIdeal.τ).loc Cert.RefInRwkvBIdeal.main_arg2)

/-- The reference's small columns. -/
theorem ref_small (j : (⟨2, ![8192, 128]⟩ : Shape).Idx) : Cert.RefInRwkvBIdeal.Value.res_main_v35 m' c j
    = _root_.Proj.rowsBy (n := 128) (e := .f32) (refX m' c) (refG m' c) (small (refW m' c)) (j 0) (j 1) := by
  pointwise [Cert.RefInRwkvBIdeal.Value.res_main_v35]
  have h1 : (j 1).val < 128 := (j 1).isLt
  split_ifs
  all_goals first
    | refine Eq.symm (_root_.Proj.rowsBy_eq _ _ _ (j 0) (j 1) _ _ rfl rfl _ fun k => _root_.Proj.small_at _ _ _ _ _ _ _ (j 1) k _ ?_)
      dsimp only
      omega
    | refine (_root_.Proj.cell_zero _ _ _ fun k => _root_.Proj.small_zero _ _ _ _ _ _ _ (j 1) k ?_).symm
      omega

/-- The reference's transposed rows. -/
theorem ref_rows (j : (⟨2, ![16, 8192]⟩ : Shape).Idx) : Cert.RefInRwkvBIdeal.Value.res_main_v40 m' c j
    = _root_.Proj.rowsBy (n := 16) (e := .f32) (refX m' c) (refG m' c) (rowsW (refW m' c)) (j 1) (j 0) := by
  pointwise [Cert.RefInRwkvBIdeal.Value.res_main_v40]
  have h1 : (j 0).val < 16 := (j 0).isLt
  split_ifs
  all_goals
    refine Eq.symm (_root_.Proj.rowsBy_eq _ _ _ (j 1) (j 0) _ _ rfl rfl _ fun k => _root_.Proj.gates_at _ _ _ _ _ (j 0) k _ ?_)
    dsimp only
    omega

end Ref

/-- The kernel's three results are the reference's. -/
theorem algebraic : Cert.algebraic_InRwkvBIdeal_RefInRwkvBIdeal (hInRwkvBIdeal := Cert.InRwkvBIdeal.Gen.facts) (hRefInRwkvBIdeal := Cert.RefInRwkvBIdeal.Gen.facts) := by
  pair_intro
  · run_from Cert.InRwkvBIdeal.Gen.run_main m g
    all_goals (simp only [hostOps0, hostOps0_1, hostOps0_2, List.flatten_cons, List.flatten_nil, List.append_nil, List.cons_append, List.nil_append]; after_results_simp)
  · run_from Cert.RefInRwkvBIdeal.Value.run m' g'
    · rw [final6, ← (hagree c).1, ← (hagree c).2.1, ← (hagree c).2.2]
      funext j
      pointwise
      have h1 : (j 1).val < 2304 := (j 1).isLt
      by_cases h2 : (j 1).val < 1696
      · refine (dif_pos h2).trans ?_
        exact Eq.symm (_root_.Proj.rowsBy_eq _ _ _ (j 0) (j 1) _ _ rfl rfl _ fun k => wide_lo _ _ (j 1) k ⟨(j 1).val, h2⟩ rfl)
      · refine (dif_neg h2).trans ?_
        by_cases h3 : (j 1).val - 1696 < 96
        · refine (dif_pos h3).trans ?_
          exact Eq.symm ((_root_.Proj.rowsBy_eq _ _ _ (j 0) (j 1) ⟨(j 0).val / 2048, by have h0 : (j 0).val < 8192 := (j 0).isLt; omega⟩ ⟨(j 0).val % 2048, by omega⟩ rfl rfl _ fun k => wide_gap _ _ (j 1) k (by omega) (by omega)).trans (_root_.Proj.cell_zero _ _ _ fun _ => rfl))
        · refine (dif_neg h3).trans ?_
          exact Eq.symm (_root_.Proj.rowsBy_eq _ _ _ (j 0) (j 1) _ _ rfl rfl _ fun k => wide_hi _ _ (j 1) k ⟨(j 1).val - 1696 - 96, by omega⟩ (by dsimp only; omega))
    · rw [final7, ← (hagree c).1, ← (hagree c).2.1, ← (hagree c).2.2]
      exact funext (ref_small m' c)
    · rw [final8, ← (hagree c).1, ← (hagree c).2.1, ← (hagree c).2.2]
      exact funext (ref_rows m' c)

end Cert.InRwkvBIdeal.Proj
-- ==== Proof.ProjOut.lean ====
/- One entry of the output projection: the residual plus four groups of 512 products, which together are one product over the
   2048 concatenated channels; and the RMS norm of a row of such entries. -/
module

public import proofs.«01_k».proof.Proof.ProjCell

@[expose] public section

noncomputable section

namespace Proj

open Idealize.ShloMosaic

/-- A sum over 2048 numbers as four sums over 512, in order. -/
theorem sum_quarters (f : Fin 2048 → EReal) : ∑ k, f k = ∑ k : Fin 512, f ⟨k.val, by omega⟩ + ∑ k : Fin 512, f ⟨512 + k.val, by omega⟩
    + ∑ k : Fin 512, f ⟨1024 + k.val, by omega⟩ + ∑ k : Fin 512, f ⟨1536 + k.val, by omega⟩ := by
  refine (Fin.sum_univ_add (a := 1536) (b := 512) f).trans (congrArg₂ (· + ·) ?_ rfl)
  refine (Fin.sum_univ_add (a := 1024) (b := 512) _).trans (congrArg₂ (· + ·) ?_ rfl)
  exact Fin.sum_univ_add (a := 512) (b := 512) _

/-- The residual entry and four groups of products with one column of weights. -/
def entry (x : EReal) (y0 y1 y2 y3 : Fin 512 → EReal) (w : Fin 2048 → EReal) : EReal :=
  x + ∑ k : Fin 512, y0 k * w ⟨k.val, by omega⟩ + ∑ k : Fin 512, y1 k * w ⟨512 + k.val, by omega⟩
    + ∑ k : Fin 512, y2 k * w ⟨1024 + k.val, by omega⟩ + ∑ k : Fin 512, y3 k * w ⟨1536 + k.val, by omega⟩

theorem entry_congr {x x' : EReal} {y0 y0' y1 y1' y2 y2' y3 y3' : Fin 512 → EReal} {w w' : Fin 2048 → EReal} (hx : x = x') (h0 : ∀ k, y0 k = y0' k) (h1 : ∀ k, y1 k = y1' k)
    (h2 : ∀ k, y2 k = y2' k) (h3 : ∀ k, y3 k = y3' k) (hw : ∀ k, w k = w' k) : entry x y0 y1 y2 y3 w = entry x' y0' y1' y2' y3' w' := by
  rw [hx, funext h0, funext h1, funext h2, funext h3, funext hw]

/-- The four groups are one product over the concatenated channels. -/
theorem entry_joined (x : EReal) (y0 y1 y2 y3 : Fin 512 → EReal) (y w : Fin 2048 → EReal) (h0 : ∀ k : Fin 512, y ⟨k.val, by omega⟩ = y0 k)
    (h1 : ∀ k : Fin 512, y ⟨512 + k.val, by omega⟩ = y1 k) (h2 : ∀ k : Fin 512, y ⟨1024 + k.val, by omega⟩ = y2 k) (h3 : ∀ k : Fin 512, y ⟨1536 + k.val, by omega⟩ = y3 k) :
    x + ∑ k, y k * w k = entry x y0 y1 y2 y3 w := by
  rw [sum_quarters]
  simp only [h0, h1, h2, h3, entry, add_assoc]

/-- A row divided by its root mean square and scaled by a gain. -/
def normed (r g : Fin 2048 → EReal) (q : Fin 2048) : EReal := r q * inv r * g q

theorem normed_congr {r r' g g' : Fin 2048 → EReal} (hr : ∀ q, r q = r' q) (hg : ∀ q, g q = g' q) (q : Fin 2048) : normed r g q = normed r' g' q := by
  rw [funext hr, funext hg]

/-- A load of a rectangle of a buffer after pieces that cover the buffer and agree with `G` reads `G` there. -/
theorem readCov_part {Val : EltTy → Type} [∀ e, Nonempty (Val e)] {sig : RefSig} {κ : Kind} {sp : Space} {s : Shape} {e : EltTy} (v : View sig κ sp s e)
    (L : List (View.Piece Val s e)) (r : Rect s) (G : s.Idx → Val e)
    (hG : ∀ p ∈ L, ∀ x : p.1.shape.Idx, p.2 x = G (p.1.emb x)) (hc : ∀ y, ∃ p ∈ L, y ∈ p.1.set) :
    v.readCov L r.toLoadRect = View.ld G r := by
  rw [View.readCov_eq_canon']
  funext y
  exact View.canon_apply_of_pieces G L hG _ (hc _)

/-- The output projection's array: a row of the residual and of the four mixers' outputs against a column of the weights. -/
def mixed (X : FVec Ideal ⟨3, ![4, 2048, 2048]⟩ .f32) (Y0 Y1 Y2 Y3 : FVec Ideal ⟨3, ![4, 2048, 512]⟩ .f32) (W : FVec Ideal ⟨2, ![2048, 2048]⟩ .f32)
    (a : Fin 4) (b q : Fin 2048) : EReal :=
  entry (X (ix3 a b q)) (fun k => Y0 (ix3 a b k)) (fun k => Y1 (ix3 a b k)) (fun k => Y2 (ix3 a b k)) (fun k => Y3 (ix3 a b k)) (fun k => W (ix2 k q))

/-- The array over the flattened rows. -/
def outArr (X : FVec Ideal ⟨3, ![4, 2048, 2048]⟩ .f32) (Y0 Y1 Y2 Y3 : FVec Ideal ⟨3, ![4, 2048, 512]⟩ .f32) (W : FVec Ideal ⟨2, ![2048, 2048]⟩ .f32) :
    FVec Ideal ⟨2, ![8192, 2048]⟩ .f32 := fun i =>
  mixed X Y0 Y1 Y2 Y3 W ⟨(i 0).val / 2048, by have : (i 0).val < 8192 := (i 0).isLt; omega⟩ ⟨(i 0).val % 2048, by omega⟩ (i 1)

theorem outArr_at (X : FVec Ideal ⟨3, ![4, 2048, 2048]⟩ .f32) (Y0 Y1 Y2 Y3 : FVec Ideal ⟨3, ![4, 2048, 512]⟩ .f32) (W : FVec Ideal ⟨2, ![2048, 2048]⟩ .f32)
    (i : (⟨2, ![8192, 2048]⟩ : Shape).Idx) (a : Fin 4) (b q : Fin 2048) (ha : a.val = (i 0).val / 2048) (hb : b.val = (i 0).val % 2048) (hq : q.val = (i 1).val) :
    outArr X Y0 Y1 Y2 Y3 W i = mixed X Y0 Y1 Y2 Y3 W a b q := by
  have ea : (⟨(i 0).val / 2048, by have : (i 0).val < 8192 := (i 0).isLt; omega⟩ : Fin 4) = a := Fin.ext ha.symm
  have eb : (⟨(i 0).val % 2048, by omega⟩ : Fin 2048) = b := Fin.ext hb.symm
  have eq : i 1 = q := Fin.ext hq.symm
  rw [← ea, ← eb, ← eq]; rfl

/-- The normalised array over the flattened rows. -/
def normArr (X : FVec Ideal ⟨3, ![4, 2048, 2048]⟩ .f32) (Y0 Y1 Y2 Y3 : FVec Ideal ⟨3, ![4, 2048, 512]⟩ .f32) (W : FVec Ideal ⟨2, ![2048, 2048]⟩ .f32)
    (g : FVec Ideal ⟨1, ![2048]⟩ .f32) : FVec Ideal ⟨2, ![8192, 2048]⟩ .f32 := fun i =>
  normed (fun q => mixed X Y0 Y1 Y2 Y3 W ⟨(i 0).val / 2048, by have : (i 0).val < 8192 := (i 0).isLt; omega⟩ ⟨(i 0).val % 2048, by omega⟩ q) (fun q => g (ix1 q)) (i 1)

theorem normArr_at (X : FVec Ideal ⟨3, ![4, 2048, 2048]⟩ .f32) (Y0 Y1 Y2 Y3 : FVec Ideal ⟨3, ![4, 2048, 512]⟩ .f32) (W : FVec Ideal ⟨2, ![2048, 2048]⟩ .f32)
    (g : FVec Ideal ⟨1, ![2048]⟩ .f32) (i : (⟨2, ![8192, 2048]⟩ : Shape).Idx) (a : Fin 4) (b q : Fin 2048) (ha : a.val = (i 0).val / 2048) (hb : b.val = (i 0).val % 2048)
    (hq : q.val = (i 1).val) : normArr X Y0 Y1 Y2 Y3 W g i = normed (fun q => mixed X Y0 Y1 Y2 Y3 W a b q) (fun q => g (ix1 q)) q := by
  have ea : (⟨(i 0).val / 2048, by have : (i 0).val < 8192 := (i 0).isLt; omega⟩ : Fin 4) = a := Fin.ext ha.symm
  have eb : (⟨(i 0).val % 2048, by omega⟩ : Fin 2048) = b := Fin.ext hb.symm
  have eq : i 1 = q := Fin.ext hq.symm
  rw [← ea, ← eb, ← eq]; rfl

/-- The model's output projection, with the four mixers' outputs joined along the channels, is that array. -/
theorem joined_eq (X : FVec Ideal ⟨3, ![4, 2048, 2048]⟩ .f32) (Y0 Y1 Y2 Y3 : FVec Ideal ⟨3, ![4, 2048, 512]⟩ .f32) (C : FVec Ideal ⟨3, ![4, 2048, 2048]⟩ .f32)
    (W : FVec Ideal ⟨2, ![2048, 2048]⟩ .f32) (a : Fin 4) (b q : Fin 2048) (h0 : ∀ k : Fin 512, C (ix3 a b ⟨k.val, by omega⟩) = Y0 (ix3 a b k))
    (h1 : ∀ k : Fin 512, C (ix3 a b ⟨512 + k.val, by omega⟩) = Y1 (ix3 a b k)) (h2 : ∀ k : Fin 512, C (ix3 a b ⟨1024 + k.val, by omega⟩) = Y2 (ix3 a b k))
    (h3 : ∀ k : Fin 512, C (ix3 a b ⟨1536 + k.val, by omega⟩) = Y3 (ix3 a b k)) :
    X (ix3 a b q) + ∑ k, C (ix3 a b k) * W (ix2 k q) = mixed X Y0 Y1 Y2 Y3 W a b q :=
  entry_joined _ _ _ _ _ (fun k => C (ix3 a b k)) (fun k => W (ix2 k q)) h0 h1 h2 h3

/-- A block of 512 rows of it. -/
def outTile (x : FVec Ideal ⟨2, ![512, 2048]⟩ .f32) (y0 y1 y2 y3 : FVec Ideal ⟨2, ![512, 512]⟩ .f32) (w : FVec Ideal ⟨2, ![2048, 2048]⟩ .bf16) (a : Fin 512) (q : Fin 2048) : EReal :=
  entry (x (ix2 a q)) (fun k => y0 (ix2 a k)) (fun k => y1 (ix2 a k)) (fun k => y2 (ix2 a k)) (fun k => y3 (ix2 a k)) (fun k => w (ix2 k q))

/-- Rows of the `[8192, 512]` view of a mixer's output. -/
theorem rows512_at (X : FVec Ideal ⟨3, ![4, 2048, 512]⟩ .f32) (h : (⟨3, ![4, 2048, 512]⟩ : Shape).ShapeCasts ⟨2, ![8192, 512]⟩) (p : Fin 8192) (k : Fin 512)
    (a : Fin 4) (b : Fin 2048) (ha : a.val = p.val / 2048) (hb : b.val = p.val % 2048) :
    shapeCast ⟨2, ![8192, 512]⟩ X h (ix2 p k) = X (ix3 a b k) := by
  have ea : (⟨p.val / 2048, by omega⟩ : Fin 4) = a := Fin.ext ha.symm
  have eb : (⟨p.val % 2048, by omega⟩ : Fin 2048) = b := Fin.ext hb.symm
  rw [← ea, ← eb]
  pointwise

/-- An index of a matrix is the pair of its coordinates. -/
theorem row_ext {a b : ℕ} (i : (⟨2, ![a, b]⟩ : Shape).Idx) (p : Fin a) (k : Fin b) (h0 : (i 0).val = p.val) (h1 : (i 1).val = k.val) : i = ix2 p k := by
  funext x
  apply Fin.ext
  match x with
  | 0 => exact h0
  | 1 => exact h1

end Proj
-- ==== Proof.OutAVal.lean ====
module

public import proofs.«01_k».proof.Proof.Gen.OutAIdeal.Frame
public import proofs.«01_k».proof.Proof.Gen.RefOutAIdeal.Run
public import proofs.«01_k».proof.Proof.ProjOut
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutAIdeal.Proj

open Cert.OutAIdeal Cert.OutAIdeal.Gen

variable (m : (ℓ : Loc nD τ sig) → Buf (Elt Ideal) ℓ) (ρ : Dev nD → PrngReg)

/-- One entry of the block that a grid step stores, from the loaded groups of weights. -/
theorem pay_at (x : Vec Ideal S512x2048 .f32) (y0 y1 y2 y3 : Vec Ideal S512x512 .f32) (w0 w1 w2 w3 : Vec Ideal S512x2048 .bf16) (j : S512x2048.Idx) :
    k0_pay3 (F := Ideal) x y0 w0 y1 w1 y2 w2 y3 w3 j = x (ix2 (j 0) (j 1)) + ∑ k : Fin 512, y0 (ix2 (j 0) k) * w0 (ix2 k (j 1)) + ∑ k : Fin 512, y1 (ix2 (j 0) k) * w1 (ix2 k (j 1))
      + ∑ k : Fin 512, y2 (ix2 (j 0) k) * w2 (ix2 k (j 1)) + ∑ k : Fin 512, y3 (ix2 (j 0) k) * w3 (ix2 k (j 1)) := by
  idx_vars j
  pointwise [k0_pay3]

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

/-- Rounding a block of weights is the identity on the reals. -/
theorem pay_wts (X : Vec Ideal S256x2048 .f32) : k0_pay4 (F := Ideal) X = X ∧ k0_pay5 (F := Ideal) X = X ∧ k0_pay6 (F := Ideal) X = X ∧ k0_pay7 (F := Ideal) X = X
    ∧ k0_pay8 (F := Ideal) X = X ∧ k0_pay9 (F := Ideal) X = X ∧ k0_pay1 (F := Ideal) X = X ∧ k0_pay2 (F := Ideal) X = X := by
  refine ⟨?_, ?_, ?_, ?_, ?_, ?_, ?_, ?_⟩ <;> funext j <;> pointwise [k0_pay1, k0_pay2, k0_pay4, k0_pay5, k0_pay6, k0_pay7, k0_pay8, k0_pay9]

/-- The weights' window is the whole matrix. -/
theorem blk5 (c : Dev nD) (t : Fin cfg0.N) : iblk m c 5 t = m ((c : Thread nD τ).loc main_arg5) := by
  funext y
  blk_point [iblk, V, idx t]

abbrev w0 (c : Dev nD) : Vec Ideal S2048x2048 .bf16 := m ((c : Thread nD τ).loc main_arg5)

/-- The block that a grid step stores, from the whole matrix of weights. -/
theorem block_eq (x : Vec Ideal S512x2048 .f32) (y0 y1 y2 y3 : Vec Ideal S512x512 .f32) (w : Vec Ideal S2048x2048 .bf16) :
    k0_pay3 (F := Ideal) x y0 (View.ld w (Rect.unit ![0, 0] ![512, 2048] inb_S2048x2048_S512x2048_0_0)) y1 (View.ld w (Rect.unit ![512, 0] ![512, 2048] inb_S2048x2048_S512x2048_512_0))
      y2 (View.ld w (Rect.unit ![1024, 0] ![512, 2048] inb_S2048x2048_S512x2048_1024_0)) y3 (View.ld w (Rect.unit ![1536, 0] ![512, 2048] inb_S2048x2048_S512x2048_1536_0))
      = fun j => _root_.Proj.outTile x y0 y1 y2 y3 w (j 0) (j 1) := by
  funext j
  rw [pay_at]
  unfold _root_.Proj.outTile _root_.Proj.entry
  have e0 (k : Fin 512) : View.ld w (Rect.unit ![0, 0] ![512, 2048] inb_S2048x2048_S512x2048_0_0) (ix2 k (j 1)) = w (ix2 ⟨k.val, by omega⟩ (j 1)) := by
    pointwise
  have e1 (k : Fin 512) : View.ld w (Rect.unit ![512, 0] ![512, 2048] inb_S2048x2048_S512x2048_512_0) (ix2 k (j 1)) = w (ix2 ⟨512 + k.val, by omega⟩ (j 1)) := by
    pointwise
  have e2 (k : Fin 512) : View.ld w (Rect.unit ![1024, 0] ![512, 2048] inb_S2048x2048_S512x2048_1024_0) (ix2 k (j 1)) = w (ix2 ⟨1024 + k.val, by omega⟩ (j 1)) := by
    pointwise
  have e3 (k : Fin 512) : View.ld w (Rect.unit ![1536, 0] ![512, 2048] inb_S2048x2048_S512x2048_1536_0) (ix2 k (j 1)) = w (ix2 ⟨1536 + k.val, by omega⟩ (j 1)) := by
    pointwise
  simp only [e0, e1, e2, e3]

theorem stepA (c : Dev nD) (t : Fin cfg0.N) (h0 : t.val % 16 = 0) :
    outsAt0 m c t.val t.isLt = ((fun j => _root_.Proj.outTile (iblk m c 0 t) (iblk m c 1 t) (iblk m c 2 t) (iblk m c 3 t) (iblk m c 4 t) (w0 m c) (j 0) (j 1)), w0 m c) := by
  rw [outsAt0_A m c t h0]
  frame_out
  rw [blk5]
  simp only [(pay_wts _).1, (pay_wts _).2.1, (pay_wts _).2.2.1, (pay_wts _).2.2.2.1, (pay_wts _).2.2.2.2.1, (pay_wts _).2.2.2.2.2.1, (pay_wts _).2.2.2.2.2.2.1, (pay_wts _).2.2.2.2.2.2.2]
  rw [_root_.Proj.canon_of_pieces (s := S2048x2048) _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    block_eq]
  all_goals (simp only [List.forall_mem_cons]; repeat' (first | refine ⟨fun x => rfl, ?_⟩ | exact fun p hp => absurd hp List.not_mem_nil))

theorem stepB (c : Dev nD) (t : Fin cfg0.N) (h0 : ¬t.val % 16 = 0) (hp : (outsAt0 m c (t.val - 1) (by have := t.isLt; omega)).2 = w0 m c) :
    outsAt0 m c t.val t.isLt = ((fun j => _root_.Proj.outTile (iblk m c 0 t) (iblk m c 1 t) (iblk m c 2 t) (iblk m c 3 t) (iblk m c 4 t) (w0 m c) (j 0) (j 1)), w0 m c) := by
  rw [outsAt0_B m c t h0]
  frame_out
  simp only [read_unread_whole, hp]
  rw [block_eq]
  rfl

/-- After every grid step: the block is the output projection's, the scratch the weights. -/
theorem steps (c : Dev nD) : ∀ (n : ℕ) (h : n < cfg0.N), outsAt0 m c n h = ((fun j => _root_.Proj.outTile (iblk m c 0 ⟨n, h⟩) (iblk m c 1 ⟨n, h⟩) (iblk m c 2 ⟨n, h⟩) (iblk m c 3 ⟨n, h⟩) (iblk m c 4 ⟨n, h⟩) (w0 m c) (j 0) (j 1)), w0 m c)
  | 0, h => stepA m c ⟨0, h⟩ rfl
  | n + 1, h => by
    by_cases h0 : (n + 1) % 16 = 0
    · exact stepA m c ⟨n + 1, h⟩ h0
    · refine stepB m c ⟨n + 1, h⟩ h0 ?_
      show (outsAt0 m c n _).2 = _
      rw [steps c n (by omega)]

theorem emb0 (t : Fin cfg0.N) (y : S512x2048.Idx) (a : Fin 2) :
    (((View.whole main_v4).slice (win0_0.rect t)).emb y a).val = win0_0.index t a * S512x2048.size a + 1 * (y a).val := rfl

theorem emb1 (t : Fin cfg0.N) (y : S512x512.Idx) (a : Fin 2) :
    (((View.whole main_v0).slice (win0_1.rect t)).emb y a).val = win0_1.index t a * S512x512.size a + 1 * (y a).val := rfl

theorem emb2 (t : Fin cfg0.N) (y : S512x512.Idx) (a : Fin 2) :
    (((View.whole main_v1).slice (win0_2.rect t)).emb y a).val = win0_2.index t a * S512x512.size a + 1 * (y a).val := rfl

theorem emb3 (t : Fin cfg0.N) (y : S512x512.Idx) (a : Fin 2) :
    (((View.whole main_v2).slice (win0_3.rect t)).emb y a).val = win0_3.index t a * S512x512.size a + 1 * (y a).val := rfl

theorem emb4 (t : Fin cfg0.N) (y : S512x512.Idx) (a : Fin 2) :
    (((View.whole main_v3).slice (win0_4.rect t)).emb y a).val = win0_4.index t a * S512x512.size a + 1 * (y a).val := rfl

theorem blk0 (c : Dev nD) (t : Fin cfg0.N) (p : Fin 512) (k : Fin 2048) (a : Fin 4) (b : Fin 2048)
    (ha : a.val = (t.val * 512 + p.val) / 2048) (hb : b.val = (t.val * 512 + p.val) % 2048) :
    iblk m c 0 t (ix2 p k) = m ((c : Thread nD τ).loc main_arg0) (ix3 a b k) := by
  have ht : t.val < 16 := t.isLt
  have e : ((View.whole main_v4).slice (win0_0.rect t)).emb (ix2 p k) = (ix2 ⟨t.val * 512 + p.val, by omega⟩ k : S8192x2048.Idx) :=
    _root_.Proj.row_ext _ _ _ (by rw [emb0, (idx t).1]; show t.val * 512 + 1 * p.val = t.val * 512 + p.val; omega) (by rw [emb0, (idx t).1]; show 0 * 2048 + 1 * k.val = k.val; omega)
  unfold iblk
  entry_read
  show shapeCast S8192x2048 (m ((c : Thread nD τ).loc main_arg0)) shapeCasts_S4x2048x2048_S8192x2048 (((View.whole main_v4).slice (win0_0.rect t)).emb (ix2 p k)) = _
  rw [e]
  exact _root_.Proj.rows_at _ _ _ _ _ _ ha hb

theorem blk1 (c : Dev nD) (t : Fin cfg0.N) (p : Fin 512) (k : Fin 512) (a : Fin 4) (b : Fin 2048)
    (ha : a.val = (t.val * 512 + p.val) / 2048) (hb : b.val = (t.val * 512 + p.val) % 2048) :
    iblk m c 1 t (ix2 p k) = m ((c : Thread nD τ).loc main_arg1) (ix3 a b k) := by
  have ht : t.val < 16 := t.isLt
  have e : ((View.whole main_v0).slice (win0_1.rect t)).emb (ix2 p k) = (ix2 ⟨t.val * 512 + p.val, by omega⟩ k : S8192x512.Idx) :=
    _root_.Proj.row_ext _ _ _ (by rw [emb1, (idx t).2.1]; show t.val * 512 + 1 * p.val = t.val * 512 + p.val; omega) (by rw [emb1, (idx t).2.1]; show 0 * 512 + 1 * k.val = k.val; omega)
  unfold iblk
  entry_read
  show shapeCast S8192x512 (m ((c : Thread nD τ).loc main_arg1)) shapeCasts_S4x2048x512_S8192x512 (((View.whole main_v0).slice (win0_1.rect t)).emb (ix2 p k)) = _
  rw [e]
  exact _root_.Proj.rows512_at _ _ _ _ _ _ ha hb

theorem blk2 (c : Dev nD) (t : Fin cfg0.N) (p : Fin 512) (k : Fin 512) (a : Fin 4) (b : Fin 2048)
    (ha : a.val = (t.val * 512 + p.val) / 2048) (hb : b.val = (t.val * 512 + p.val) % 2048) :
    iblk m c 2 t (ix2 p k) = m ((c : Thread nD τ).loc main_arg2) (ix3 a b k) := by
  have ht : t.val < 16 := t.isLt
  have e : ((View.whole main_v1).slice (win0_2.rect t)).emb (ix2 p k) = (ix2 ⟨t.val * 512 + p.val, by omega⟩ k : S8192x512.Idx) :=
    _root_.Proj.row_ext _ _ _ (by rw [emb2, (idx t).2.2.1]; show t.val * 512 + 1 * p.val = t.val * 512 + p.val; omega) (by rw [emb2, (idx t).2.2.1]; show 0 * 512 + 1 * k.val = k.val; omega)
  unfold iblk
  entry_read
  show shapeCast S8192x512 (m ((c : Thread nD τ).loc main_arg2)) shapeCasts_S4x2048x512_S8192x512 (((View.whole main_v1).slice (win0_2.rect t)).emb (ix2 p k)) = _
  rw [e]
  exact _root_.Proj.rows512_at _ _ _ _ _ _ ha hb

theorem blk3 (c : Dev nD) (t : Fin cfg0.N) (p : Fin 512) (k : Fin 512) (a : Fin 4) (b : Fin 2048)
    (ha : a.val = (t.val * 512 + p.val) / 2048) (hb : b.val = (t.val * 512 + p.val) % 2048) :
    iblk m c 3 t (ix2 p k) = m ((c : Thread nD τ).loc main_arg3) (ix3 a b k) := by
  have ht : t.val < 16 := t.isLt
  have e : ((View.whole main_v2).slice (win0_3.rect t)).emb (ix2 p k) = (ix2 ⟨t.val * 512 + p.val, by omega⟩ k : S8192x512.Idx) :=
    _root_.Proj.row_ext _ _ _ (by rw [emb3, (idx t).2.2.2.1]; show t.val * 512 + 1 * p.val = t.val * 512 + p.val; omega) (by rw [emb3, (idx t).2.2.2.1]; show 0 * 512 + 1 * k.val = k.val; omega)
  unfold iblk
  entry_read
  show shapeCast S8192x512 (m ((c : Thread nD τ).loc main_arg3)) shapeCasts_S4x2048x512_S8192x512 (((View.whole main_v2).slice (win0_3.rect t)).emb (ix2 p k)) = _
  rw [e]
  exact _root_.Proj.rows512_at _ _ _ _ _ _ ha hb

theorem blk4 (c : Dev nD) (t : Fin cfg0.N) (p : Fin 512) (k : Fin 512) (a : Fin 4) (b : Fin 2048)
    (ha : a.val = (t.val * 512 + p.val) / 2048) (hb : b.val = (t.val * 512 + p.val) % 2048) :
    iblk m c 4 t (ix2 p k) = m ((c : Thread nD τ).loc main_arg4) (ix3 a b k) := by
  have ht : t.val < 16 := t.isLt
  have e : ((View.whole main_v3).slice (win0_4.rect t)).emb (ix2 p k) = (ix2 ⟨t.val * 512 + p.val, by omega⟩ k : S8192x512.Idx) :=
    _root_.Proj.row_ext _ _ _ (by rw [emb4, (idx t).2.2.2.2.1]; show t.val * 512 + 1 * p.val = t.val * 512 + p.val; omega) (by rw [emb4, (idx t).2.2.2.2.1]; show 0 * 512 + 1 * k.val = k.val; omega)
  unfold iblk
  entry_read
  show shapeCast S8192x512 (m ((c : Thread nD τ).loc main_arg4)) shapeCasts_S4x2048x512_S8192x512 (((View.whole main_v3).slice (win0_4.rect t)).emb (ix2 p k)) = _
  rw [e]
  exact _root_.Proj.rows512_at _ _ _ _ _ _ ha hb

/-- One entry of a block of rows is the array's entry at that row. -/
theorem block_at (c : Dev nD) (t : Fin cfg0.N) (p : Fin 512) (q : Fin 2048) (a : Fin 4) (b : Fin 2048)
    (ha : a.val = (t.val * 512 + p.val) / 2048) (hb : b.val = (t.val * 512 + p.val) % 2048) :
    _root_.Proj.outTile (iblk m c 0 t) (iblk m c 1 t) (iblk m c 2 t) (iblk m c 3 t) (iblk m c 4 t) (w0 m c) p q =
    _root_.Proj.mixed (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) a b q := by
  unfold _root_.Proj.outTile _root_.Proj.mixed
  exact _root_.Proj.entry_congr (blk0 m c t p q a b ha hb) (fun k => blk1 m c t p k a b ha hb) (fun k => blk2 m c t p k a b ha hb) (fun k => blk3 m c t p k a b ha hb)
    (fun k => blk4 m c t p k a b ha hb) (fun k => rfl)

/-- The result array. -/
theorem final (c : Dev nD) : (dats m 0 c).arrAt 6 cfg0.N =
    _root_.Proj.outArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t hf y => ?_
  blk_simp
  rw [after0_6, steps]
  have e0 : ((win0_6.blk t).view.emb y 0).val = t.val * 512 + (y 0).val := by
    show win0_6.index t 0 * 512 + 1 * (y 0).val = _; rw [(idx t).2.2.2.2.2.2]; show t.val * 512 + 1 * (y 0).val = _; omega
  have e1 : ((win0_6.blk t).view.emb y 1).val = (y 1).val := by
    show win0_6.index t 1 * 2048 + 1 * (y 1).val = _; rw [(idx t).2.2.2.2.2.2]; show 0 * 2048 + 1 * (y 1).val = _; omega
  have ht : t.val < 16 := t.isLt
  have h0 : (y 0).val < 512 := (y 0).isLt
  rw [_root_.Proj.outArr_at _ _ _ _ _ _ _ ⟨(t.val * 512 + (y 0).val) / 2048, by omega⟩ ⟨(t.val * 512 + (y 0).val) % 2048, by omega⟩ (y 1)
    (by rw [e0]) (by rw [e0]) e1.symm]
  exact block_at m c t (y 0) (y 1) _ _ rfl rfl

section Reference
open Cert.RefOutAIdeal

/-- The four joined outputs, read in the first quarter. -/
theorem cat_at (Y0 Y1 Y2 Y3 : FVec Ideal S4x2048x512 .f32) (a : Fin 4) (b : Fin 2048) (k : Fin 512) (h)
    (C) (hC : C = concatenate S4x2048x2048 2 [⟨S4x2048x512, Y0⟩, ⟨S4x2048x512, Y1⟩, ⟨S4x2048x512, Y2⟩, ⟨S4x2048x512, Y3⟩] h) :
    C (ix3 a b ⟨k.val, by omega⟩) = Y0 (ix3 a b k) ∧ C (ix3 a b ⟨512 + k.val, by omega⟩) = Y1 (ix3 a b k)
    ∧ C (ix3 a b ⟨1024 + k.val, by omega⟩) = Y2 (ix3 a b k) ∧ C (ix3 a b ⟨1536 + k.val, by omega⟩) = Y3 (ix3 a b k) := by
  subst hC
  refine ⟨?_, ?_, ?_, ?_⟩ <;> pointwise
  · rw [dif_neg (by omega), dif_neg (by omega), dif_pos (by omega)]
    exact congrArg (fun q => Y2 (ix3 a b q)) (Fin.ext (by dsimp only; omega))
  · rw [dif_neg (by omega), dif_neg (by omega), dif_neg (by omega)]
    exact congrArg (fun q => Y3 (ix3 a b q)) (Fin.ext (by dsimp only; omega))

/-- One entry of the reference, the joined outputs as one array. -/
theorem ref_at (X C : FVec Ideal S4x2048x2048 .f32) (W : FVec Ideal S2048x2048 .f32) (j : S8192x2048.Idx) :
    shapeCast S8192x2048 (addf X (Host.dotGeneral dot_S4x2048x2048_S2048x2048_S4x2048x2048_2_0_01_1_n_n none C W)) shapeCasts_S4x2048x2048_S8192x2048 j
      = X (ix3 ⟨(j 0).val / 2048, by have : (j 0).val < 8192 := (j 0).isLt; omega⟩ ⟨(j 0).val % 2048, by omega⟩ (j 1))
        + ∑ k : Fin 2048, C (ix3 ⟨(j 0).val / 2048, by have : (j 0).val < 8192 := (j 0).isLt; omega⟩ ⟨(j 0).val % 2048, by omega⟩ k) * W (ix2 k (j 1)) := by
  pointwise

end Reference

/-- The kernel's array is the reference's. -/
theorem algebraic : Cert.algebraic_OutAIdeal_RefOutAIdeal (hOutAIdeal := Cert.OutAIdeal.Gen.facts) (hRefOutAIdeal := Cert.RefOutAIdeal.Gen.facts) := by
  pair_intro
  · run_from Cert.OutAIdeal.Gen.run_main m g
  · run_from Cert.RefOutAIdeal.Value.run m' g'
    rw [final]
    rw [← (hagree c).1, ← (hagree c).2.1, ← (hagree c).2.2.1, ← (hagree c).2.2.2.1, ← (hagree c).2.2.2.2.1, ← (hagree c).2.2.2.2.2]
    funext j
    refine (ref_at _ _ _ j).trans ?_
    refine Eq.trans (_root_.Proj.joined_eq _ _ _ _ _ _ _ _ _ _ (fun k => (cat_at _ _ _ _ _ _ k _ _ rfl).1) (fun k => (cat_at _ _ _ _ _ _ k _ _ rfl).2.1) (fun k => (cat_at _ _ _ _ _ _ k _ _ rfl).2.2.1)
      (fun k => (cat_at _ _ _ _ _ _ k _ _ rfl).2.2.2)) rfl

end Cert.OutAIdeal.Proj
-- ==== Proof.OutBVal.lean ====
module

public import proofs.«01_k».proof.Proof.Gen.OutBIdeal.Frame
public import proofs.«01_k».proof.Proof.Gen.RefOutBIdeal.Run
public import proofs.«01_k».proof.Proof.ProjOut
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutBIdeal.Proj

open Cert.OutBIdeal Cert.OutBIdeal.Gen

variable (m : (ℓ : Loc nD τ sig) → Buf (Elt Ideal) ℓ) (ρ : Dev nD → PrngReg)

/-- One entry of the block that a grid step stores, from the loaded groups of weights. -/
theorem pay_at (x : Vec Ideal S512x2048 .f32) (y0 y1 y2 y3 : Vec Ideal S512x512 .f32) (w0 w1 w2 w3 : Vec Ideal S512x2048 .bf16) (j : S512x2048.Idx) :
    k0_pay10 (F := Ideal) x y0 w0 y1 w1 y2 w2 y3 w3 j = x (ix2 (j 0) (j 1)) + ∑ k : Fin 512, y0 (ix2 (j 0) k) * w0 (ix2 k (j 1)) + ∑ k : Fin 512, y1 (ix2 (j 0) k) * w1 (ix2 k (j 1))
      + ∑ k : Fin 512, y2 (ix2 (j 0) k) * w2 (ix2 k (j 1)) + ∑ k : Fin 512, y3 (ix2 (j 0) k) * w3 (ix2 k (j 1)) := by
  idx_vars j
  pointwise [k0_pay10]

/-- A stored entry: the sums' row, normalised and gained. -/
theorem norm_at (x : Vec Ideal S512x2048 .f32) (y0 y1 y2 y3 : Vec Ideal S512x512 .f32) (w0 w1 w2 w3 : Vec Ideal S512x2048 .bf16) (g : Vec Ideal S1x2048 .f32) (j : S512x2048.Idx) :
    k0_pay1 (F := Ideal) (k0_pay10 (F := Ideal) x y0 w0 y1 w1 y2 w2 y3 w3) (k0_pay11 (F := Ideal) x y0 w0 y1 w1 y2 w2 y3 w3) (Scalar.ofBits .f32 0x45000000#32) g j
      = _root_.Proj.normed (fun q => k0_pay10 (F := Ideal) x y0 w0 y1 w1 y2 w2 y3 w3 (ix2 (j 0) q)) (fun q => g (ix2 0 q)) (j 1) := by
  unfold k0_pay11
  generalize k0_pay10 (F := Ideal) x y0 w0 y1 w1 y2 w2 y3 w3 = r
  idx_vars j
  pointwise [k0_pay1, _root_.Proj.normed, _root_.Proj.inv]

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![t.val, 0] :=
  (by decide +kernel : ∀ t : Fin grid0.N, _)

/-- Rounding a block of weights is the identity on the reals. -/
theorem pay_wts (X : Vec Ideal S256x2048 .f32) : k0_pay2 (F := Ideal) X = X ∧ k0_pay3 (F := Ideal) X = X ∧ k0_pay4 (F := Ideal) X = X ∧ k0_pay5 (F := Ideal) X = X
    ∧ k0_pay6 (F := Ideal) X = X ∧ k0_pay7 (F := Ideal) X = X ∧ k0_pay8 (F := Ideal) X = X ∧ k0_pay9 (F := Ideal) X = X := by
  refine ⟨?_, ?_, ?_, ?_, ?_, ?_, ?_, ?_⟩ <;> funext j <;> pointwise [k0_pay2, k0_pay3, k0_pay4, k0_pay5, k0_pay6, k0_pay7, k0_pay8, k0_pay9]

/-- The weights' window is the whole matrix. -/
theorem blk5 (c : Dev nD) (t : Fin cfg0.N) : iblk m c 5 t = m ((c : Thread nD τ).loc main_arg5) := by
  funext y
  blk_point [iblk, V, idx t]

abbrev w0 (c : Dev nD) : Vec Ideal S2048x2048 .bf16 := m ((c : Thread nD τ).loc main_arg5)

/-- The sums of a grid step, from the whole matrix of weights. -/
theorem acc_eq (x : Vec Ideal S512x2048 .f32) (y0 y1 y2 y3 : Vec Ideal S512x512 .f32) (w : Vec Ideal S2048x2048 .bf16) :
    k0_pay10 (F := Ideal) x y0 (View.ld w (Rect.unit ![0, 0] ![512, 2048] inb_S2048x2048_S512x2048_0_0)) y1 (View.ld w (Rect.unit ![512, 0] ![512, 2048] inb_S2048x2048_S512x2048_512_0))
      y2 (View.ld w (Rect.unit ![1024, 0] ![512, 2048] inb_S2048x2048_S512x2048_1024_0)) y3 (View.ld w (Rect.unit ![1536, 0] ![512, 2048] inb_S2048x2048_S512x2048_1536_0))
      = fun j => _root_.Proj.outTile x y0 y1 y2 y3 w (j 0) (j 1) := by
  funext j
  rw [pay_at]
  unfold _root_.Proj.outTile _root_.Proj.entry
  have e0 (k : Fin 512) : View.ld w (Rect.unit ![0, 0] ![512, 2048] inb_S2048x2048_S512x2048_0_0) (ix2 k (j 1)) = w (ix2 ⟨k.val, by omega⟩ (j 1)) := by
    pointwise
  have e1 (k : Fin 512) : View.ld w (Rect.unit ![512, 0] ![512, 2048] inb_S2048x2048_S512x2048_512_0) (ix2 k (j 1)) = w (ix2 ⟨512 + k.val, by omega⟩ (j 1)) := by
    pointwise
  have e2 (k : Fin 512) : View.ld w (Rect.unit ![1024, 0] ![512, 2048] inb_S2048x2048_S512x2048_1024_0) (ix2 k (j 1)) = w (ix2 ⟨1024 + k.val, by omega⟩ (j 1)) := by
    pointwise
  have e3 (k : Fin 512) : View.ld w (Rect.unit ![1536, 0] ![512, 2048] inb_S2048x2048_S512x2048_1536_0) (ix2 k (j 1)) = w (ix2 ⟨1536 + k.val, by omega⟩ (j 1)) := by
    pointwise
  simp only [e0, e1, e2, e3]

/-- The block that a grid step stores. -/
theorem block_eq (x : Vec Ideal S512x2048 .f32) (y0 y1 y2 y3 : Vec Ideal S512x512 .f32) (w : Vec Ideal S2048x2048 .bf16) (g : Vec Ideal S1x2048 .f32) :
    k0_pay1 (F := Ideal) (k0_pay10 (F := Ideal) x y0 (View.ld w (Rect.unit ![0, 0] ![512, 2048] inb_S2048x2048_S512x2048_0_0)) y1 (View.ld w (Rect.unit ![512, 0] ![512, 2048] inb_S2048x2048_S512x2048_512_0))
      y2 (View.ld w (Rect.unit ![1024, 0] ![512, 2048] inb_S2048x2048_S512x2048_1024_0)) y3 (View.ld w (Rect.unit ![1536, 0] ![512, 2048] inb_S2048x2048_S512x2048_1536_0)))
      (k0_pay11 (F := Ideal) x y0 (View.ld w (Rect.unit ![0, 0] ![512, 2048] inb_S2048x2048_S512x2048_0_0)) y1 (View.ld w (Rect.unit ![512, 0] ![512, 2048] inb_S2048x2048_S512x2048_512_0))
      y2 (View.ld w (Rect.unit ![1024, 0] ![512, 2048] inb_S2048x2048_S512x2048_1024_0)) y3 (View.ld w (Rect.unit ![1536, 0] ![512, 2048] inb_S2048x2048_S512x2048_1536_0))) (Scalar.ofBits .f32 0x45000000#32) g
      = fun j => _root_.Proj.normed (fun q => _root_.Proj.outTile x y0 y1 y2 y3 w (j 0) q) (fun q => g (ix2 0 q)) (j 1) := by
  funext j
  rw [norm_at, acc_eq]
  rfl

theorem stepA (c : Dev nD) (t : Fin cfg0.N) (h0 : t.val % 16 = 0) :
    outsAt0 m c t.val t.isLt = ((fun j => _root_.Proj.normed (fun q => _root_.Proj.outTile (iblk m c 0 t) (iblk m c 1 t) (iblk m c 2 t) (iblk m c 3 t) (iblk m c 4 t) (w0 m c) (j 0) q) (fun q => iblk m c 6 t (ix2 0 q)) (j 1)), w0 m c) := by
  rw [outsAt0_A m c t h0]
  frame_out
  rw [blk5]
  simp only [(pay_wts _).1, (pay_wts _).2.1, (pay_wts _).2.2.1, (pay_wts _).2.2.2.1, (pay_wts _).2.2.2.2.1, (pay_wts _).2.2.2.2.2.1, (pay_wts _).2.2.2.2.2.2.1, (pay_wts _).2.2.2.2.2.2.2]
  rw [_root_.Proj.canon_of_pieces (s := S2048x2048) _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    _root_.Proj.readCov_part (s := S2048x2048) (View.whole cc0_scratch0) _ _ (w0 m c) ?h (View.cover_of_tiledL _ S256x2048.size (by sl_kernel_rfl)),
    block_eq]
  all_goals (simp only [List.forall_mem_cons]; repeat' (first | refine ⟨fun x => rfl, ?_⟩ | exact fun p hp => absurd hp List.not_mem_nil))

theorem stepB (c : Dev nD) (t : Fin cfg0.N) (h0 : ¬t.val % 16 = 0) (hp : (outsAt0 m c (t.val - 1) (by have := t.isLt; omega)).2 = w0 m c) :
    outsAt0 m c t.val t.isLt = ((fun j => _root_.Proj.normed (fun q => _root_.Proj.outTile (iblk m c 0 t) (iblk m c 1 t) (iblk m c 2 t) (iblk m c 3 t) (iblk m c 4 t) (w0 m c) (j 0) q) (fun q => iblk m c 6 t (ix2 0 q)) (j 1)), w0 m c) := by
  rw [outsAt0_B m c t h0]
  frame_out
  simp only [read_unread_whole, hp]
  rw [block_eq]
  rfl

/-- After every grid step: the block is the normalised output projection's, the scratch the weights. -/
theorem steps (c : Dev nD) : ∀ (n : ℕ) (h : n < cfg0.N), outsAt0 m c n h = ((fun j => _root_.Proj.normed (fun q => _root_.Proj.outTile (iblk m c 0 ⟨n, h⟩) (iblk m c 1 ⟨n, h⟩) (iblk m c 2 ⟨n, h⟩) (iblk m c 3 ⟨n, h⟩) (iblk m c 4 ⟨n, h⟩) (w0 m c) (j 0) q) (fun q => iblk m c 6 ⟨n, h⟩ (ix2 0 q)) (j 1)), w0 m c)
  | 0, h => stepA m c ⟨0, h⟩ rfl
  | n + 1, h => by
    by_cases h0 : (n + 1) % 16 = 0
    · exact stepA m c ⟨n + 1, h⟩ h0
    · refine stepB m c ⟨n + 1, h⟩ h0 ?_
      show (outsAt0 m c n _).2 = _
      rw [steps c n (by omega)]

theorem emb0 (t : Fin cfg0.N) (y : S512x2048.Idx) (a : Fin 2) :
    (((View.whole main_v4).slice (win0_0.rect t)).emb y a).val = win0_0.index t a * S512x2048.size a + 1 * (y a).val := rfl

theorem emb1 (t : Fin cfg0.N) (y : S512x512.Idx) (a : Fin 2) :
    (((View.whole main_v0).slice (win0_1.rect t)).emb y a).val = win0_1.index t a * S512x512.size a + 1 * (y a).val := rfl

theorem emb2 (t : Fin cfg0.N) (y : S512x512.Idx) (a : Fin 2) :
    (((View.whole main_v1).slice (win0_2.rect t)).emb y a).val = win0_2.index t a * S512x512.size a + 1 * (y a).val := rfl

theorem emb3 (t : Fin cfg0.N) (y : S512x512.Idx) (a : Fin 2) :
    (((View.whole main_v2).slice (win0_3.rect t)).emb y a).val = win0_3.index t a * S512x512.size a + 1 * (y a).val := rfl

theorem emb4 (t : Fin cfg0.N) (y : S512x512.Idx) (a : Fin 2) :
    (((View.whole main_v3).slice (win0_4.rect t)).emb y a).val = win0_4.index t a * S512x512.size a + 1 * (y a).val := rfl

theorem blk0 (c : Dev nD) (t : Fin cfg0.N) (p : Fin 512) (k : Fin 2048) (a : Fin 4) (b : Fin 2048)
    (ha : a.val = (t.val * 512 + p.val) / 2048) (hb : b.val = (t.val * 512 + p.val) % 2048) :
    iblk m c 0 t (ix2 p k) = m ((c : Thread nD τ).loc main_arg0) (ix3 a b k) := by
  have ht : t.val < 16 := t.isLt
  have e : ((View.whole main_v4).slice (win0_0.rect t)).emb (ix2 p k) = (ix2 ⟨t.val * 512 + p.val, by omega⟩ k : S8192x2048.Idx) :=
    _root_.Proj.row_ext _ _ _ (by rw [emb0, (idx t).1]; show t.val * 512 + 1 * p.val = t.val * 512 + p.val; omega) (by rw [emb0, (idx t).1]; show 0 * 2048 + 1 * k.val = k.val; omega)
  unfold iblk
  entry_read
  show shapeCast S8192x2048 (m ((c : Thread nD τ).loc main_arg0)) shapeCasts_S4x2048x2048_S8192x2048 (((View.whole main_v4).slice (win0_0.rect t)).emb (ix2 p k)) = _
  rw [e]
  exact _root_.Proj.rows_at _ _ _ _ _ _ ha hb

theorem blk1 (c : Dev nD) (t : Fin cfg0.N) (p : Fin 512) (k : Fin 512) (a : Fin 4) (b : Fin 2048)
    (ha : a.val = (t.val * 512 + p.val) / 2048) (hb : b.val = (t.val * 512 + p.val) % 2048) :
    iblk m c 1 t (ix2 p k) = m ((c : Thread nD τ).loc main_arg1) (ix3 a b k) := by
  have ht : t.val < 16 := t.isLt
  have e : ((View.whole main_v0).slice (win0_1.rect t)).emb (ix2 p k) = (ix2 ⟨t.val * 512 + p.val, by omega⟩ k : S8192x512.Idx) :=
    _root_.Proj.row_ext _ _ _ (by rw [emb1, (idx t).2.1]; show t.val * 512 + 1 * p.val = t.val * 512 + p.val; omega) (by rw [emb1, (idx t).2.1]; show 0 * 512 + 1 * k.val = k.val; omega)
  unfold iblk
  entry_read
  show shapeCast S8192x512 (m ((c : Thread nD τ).loc main_arg1)) shapeCasts_S4x2048x512_S8192x512 (((View.whole main_v0).slice (win0_1.rect t)).emb (ix2 p k)) = _
  rw [e]
  exact _root_.Proj.rows512_at _ _ _ _ _ _ ha hb

theorem blk2 (c : Dev nD) (t : Fin cfg0.N) (p : Fin 512) (k : Fin 512) (a : Fin 4) (b : Fin 2048)
    (ha : a.val = (t.val * 512 + p.val) / 2048) (hb : b.val = (t.val * 512 + p.val) % 2048) :
    iblk m c 2 t (ix2 p k) = m ((c : Thread nD τ).loc main_arg2) (ix3 a b k) := by
  have ht : t.val < 16 := t.isLt
  have e : ((View.whole main_v1).slice (win0_2.rect t)).emb (ix2 p k) = (ix2 ⟨t.val * 512 + p.val, by omega⟩ k : S8192x512.Idx) :=
    _root_.Proj.row_ext _ _ _ (by rw [emb2, (idx t).2.2.1]; show t.val * 512 + 1 * p.val = t.val * 512 + p.val; omega) (by rw [emb2, (idx t).2.2.1]; show 0 * 512 + 1 * k.val = k.val; omega)
  unfold iblk
  entry_read
  show shapeCast S8192x512 (m ((c : Thread nD τ).loc main_arg2)) shapeCasts_S4x2048x512_S8192x512 (((View.whole main_v1).slice (win0_2.rect t)).emb (ix2 p k)) = _
  rw [e]
  exact _root_.Proj.rows512_at _ _ _ _ _ _ ha hb

theorem blk3 (c : Dev nD) (t : Fin cfg0.N) (p : Fin 512) (k : Fin 512) (a : Fin 4) (b : Fin 2048)
    (ha : a.val = (t.val * 512 + p.val) / 2048) (hb : b.val = (t.val * 512 + p.val) % 2048) :
    iblk m c 3 t (ix2 p k) = m ((c : Thread nD τ).loc main_arg3) (ix3 a b k) := by
  have ht : t.val < 16 := t.isLt
  have e : ((View.whole main_v2).slice (win0_3.rect t)).emb (ix2 p k) = (ix2 ⟨t.val * 512 + p.val, by omega⟩ k : S8192x512.Idx) :=
    _root_.Proj.row_ext _ _ _ (by rw [emb3, (idx t).2.2.2.1]; show t.val * 512 + 1 * p.val = t.val * 512 + p.val; omega) (by rw [emb3, (idx t).2.2.2.1]; show 0 * 512 + 1 * k.val = k.val; omega)
  unfold iblk
  entry_read
  show shapeCast S8192x512 (m ((c : Thread nD τ).loc main_arg3)) shapeCasts_S4x2048x512_S8192x512 (((View.whole main_v2).slice (win0_3.rect t)).emb (ix2 p k)) = _
  rw [e]
  exact _root_.Proj.rows512_at _ _ _ _ _ _ ha hb

theorem blk4 (c : Dev nD) (t : Fin cfg0.N) (p : Fin 512) (k : Fin 512) (a : Fin 4) (b : Fin 2048)
    (ha : a.val = (t.val * 512 + p.val) / 2048) (hb : b.val = (t.val * 512 + p.val) % 2048) :
    iblk m c 4 t (ix2 p k) = m ((c : Thread nD τ).loc main_arg4) (ix3 a b k) := by
  have ht : t.val < 16 := t.isLt
  have e : ((View.whole main_v3).slice (win0_4.rect t)).emb (ix2 p k) = (ix2 ⟨t.val * 512 + p.val, by omega⟩ k : S8192x512.Idx) :=
    _root_.Proj.row_ext _ _ _ (by rw [emb4, (idx t).2.2.2.2.1]; show t.val * 512 + 1 * p.val = t.val * 512 + p.val; omega) (by rw [emb4, (idx t).2.2.2.2.1]; show 0 * 512 + 1 * k.val = k.val; omega)
  unfold iblk
  entry_read
  show shapeCast S8192x512 (m ((c : Thread nD τ).loc main_arg4)) shapeCasts_S4x2048x512_S8192x512 (((View.whole main_v3).slice (win0_4.rect t)).emb (ix2 p k)) = _
  rw [e]
  exact _root_.Proj.rows512_at _ _ _ _ _ _ ha hb

theorem blkG (c : Dev nD) (t : Fin cfg0.N) (k : Fin 2048) : iblk m c 6 t (ix2 0 k) = m ((c : Thread nD τ).loc main_arg6) (ix1 k) := by
  unfold iblk
  entry_read
  have e : ((View.whole main_v5).slice (win0_6.rect t)).emb (ix2 0 k) = (ix2 0 k : S1x2048.Idx) :=
    _root_.Proj.row_ext _ _ _ (by show win0_6.index t 0 * 1 + 1 * 0 = 0; rw [(idx t).2.2.2.2.2.2.1]; simp) (by show win0_6.index t 1 * 2048 + 1 * k.val = k.val; rw [(idx t).2.2.2.2.2.2.1]; simp)
  show shapeCast S1x2048 (m ((c : Thread nD τ).loc main_arg6)) shapeCasts_S2048_S1x2048 (((View.whole main_v5).slice (win0_6.rect t)).emb (ix2 0 k)) = _
  rw [e]
  pointwise

/-- One entry of a block of rows is the array's entry at that row. -/
theorem block_at (c : Dev nD) (t : Fin cfg0.N) (p : Fin 512) (q : Fin 2048) (a : Fin 4) (b : Fin 2048)
    (ha : a.val = (t.val * 512 + p.val) / 2048) (hb : b.val = (t.val * 512 + p.val) % 2048) :
    _root_.Proj.outTile (iblk m c 0 t) (iblk m c 1 t) (iblk m c 2 t) (iblk m c 3 t) (iblk m c 4 t) (w0 m c) p q =
    _root_.Proj.mixed (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) a b q := by
  unfold _root_.Proj.outTile _root_.Proj.mixed
  exact _root_.Proj.entry_congr (blk0 m c t p q a b ha hb) (fun k => blk1 m c t p k a b ha hb) (fun k => blk2 m c t p k a b ha hb) (fun k => blk3 m c t p k a b ha hb)
    (fun k => blk4 m c t p k a b ha hb) (fun k => rfl)

/-- One entry of a block of normalised rows is the array's entry at that row. -/
theorem norm_block_at (c : Dev nD) (t : Fin cfg0.N) (p : Fin 512) (q : Fin 2048) (a : Fin 4) (b : Fin 2048)
    (ha : a.val = (t.val * 512 + p.val) / 2048) (hb : b.val = (t.val * 512 + p.val) % 2048) :
    _root_.Proj.normed (fun q => _root_.Proj.outTile (iblk m c 0 t) (iblk m c 1 t) (iblk m c 2 t) (iblk m c 3 t) (iblk m c 4 t) (w0 m c) p q) (fun q => iblk m c 6 t (ix2 0 q)) q =
    _root_.Proj.normed (fun q => _root_.Proj.mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) a b q)
      (fun q => m ((c : Thread nD τ).loc main_arg6) (ix1 q)) q :=
  _root_.Proj.normed_congr (fun q => block_at m c t p q a b ha hb) (fun q => blkG m c t q) q

/-- The result array. -/
theorem final (c : Dev nD) : (dats m 0 c).arrAt 7 cfg0.N =
    _root_.Proj.normArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, steps]
  have e0 : ((win0_7.blk t).view.emb y 0).val = t.val * 512 + (y 0).val := by
    show win0_7.index t 0 * 512 + 1 * (y 0).val = _; rw [(idx t).2.2.2.2.2.2.2]; show t.val * 512 + 1 * (y 0).val = _; omega
  have e1 : ((win0_7.blk t).view.emb y 1).val = (y 1).val := by
    show win0_7.index t 1 * 2048 + 1 * (y 1).val = _; rw [(idx t).2.2.2.2.2.2.2]; show 0 * 2048 + 1 * (y 1).val = _; omega
  have ht : t.val < 16 := t.isLt
  have h0 : (y 0).val < 512 := (y 0).isLt
  rw [_root_.Proj.normArr_at _ _ _ _ _ _ _ _ ⟨(t.val * 512 + (y 0).val) / 2048, by omega⟩ ⟨(t.val * 512 + (y 0).val) % 2048, by omega⟩ (y 1)
    (by rw [e0]) (by rw [e0]) e1.symm]
  exact norm_block_at m c t (y 0) (y 1) _ _ rfl rfl

section Reference
open Cert.RefOutBIdeal

/-- The four joined outputs, read in the first quarter. -/
theorem cat_at (Y0 Y1 Y2 Y3 : FVec Ideal S4x2048x512 .f32) (a : Fin 4) (b : Fin 2048) (k : Fin 512) (h)
    (C) (hC : C = concatenate S4x2048x2048 2 [⟨S4x2048x512, Y0⟩, ⟨S4x2048x512, Y1⟩, ⟨S4x2048x512, Y2⟩, ⟨S4x2048x512, Y3⟩] h) :
    C (ix3 a b ⟨k.val, by omega⟩) = Y0 (ix3 a b k) ∧ C (ix3 a b ⟨512 + k.val, by omega⟩) = Y1 (ix3 a b k)
    ∧ C (ix3 a b ⟨1024 + k.val, by omega⟩) = Y2 (ix3 a b k) ∧ C (ix3 a b ⟨1536 + k.val, by omega⟩) = Y3 (ix3 a b k) := by
  subst hC
  refine ⟨?_, ?_, ?_, ?_⟩ <;> pointwise
  · rw [dif_neg (by omega), dif_neg (by omega), dif_pos (by omega)]
    exact congrArg (fun q => Y2 (ix3 a b q)) (Fin.ext (by dsimp only; omega))
  · rw [dif_neg (by omega), dif_neg (by omega), dif_neg (by omega)]
    exact congrArg (fun q => Y3 (ix3 a b q)) (Fin.ext (by dsimp only; omega))

/-- The reference after its sums: each row normalised and gained. -/
theorem ref_at (D : FVec Ideal S4x2048x2048 .f32) (g : FVec Ideal S2048 .f32) (j : S8192x2048.Idx) (h1 : S4x2048x1.BroadcastsInDim S4x2048x2048 (![0, 1, 2] : Fin 3 → Fin S4x2048x2048.rank))
    (h2 : S4x2048.BroadcastsInDim S4x2048x1 (![0, 1] : Fin 2 → Fin S4x2048x1.rank)) (h3 : S4x2048x2048.ReducesTo [2] S4x2048) (h4 : 0 < S_.numel)
    (h5 : S_.BroadcastsInDim S4x2048x1 (![] : Fin 0 → Fin S4x2048x1.rank)) (h6 : S1x1x2048.BroadcastsInDim S4x2048x2048 (![0, 1, 2] : Fin 3 → Fin S4x2048x2048.rank))
    (h7 : S2048.BroadcastsInDim S1x1x2048 (![2] : Fin 1 → Fin S1x1x2048.rank)) :
    shapeCast S8192x2048 (mulf (mulf D (broadcastInDim S4x2048x2048 ![0, 1, 2] h1 (Host.rsqrt (addf (Host.divf (broadcastInDim S4x2048x1 ![0, 1] h2
      (Host.reduceAdd (mulf D D) (constant S_ .f32 0x00000000#32) h3 h4)) (broadcastInDim S4x2048x1 ![] h5 (constant S_ .f32 0x45000000#32)))
      (broadcastInDim S4x2048x1 ![] h5 (constant S_ .f32 0x358637BD#32))))))
      (broadcastInDim S4x2048x2048 ![0, 1, 2] h6 (broadcastInDim S1x1x2048 ![2] h7 g))) shapeCasts_S4x2048x2048_S8192x2048 j
      = _root_.Proj.normed (fun q => D (ix3 ⟨(j 0).val / 2048, by have : (j 0).val < 8192 := (j 0).isLt; omega⟩ ⟨(j 0).val % 2048, by omega⟩ q)) (fun q => g (ix1 q)) (j 1) := by
  pointwise [_root_.Proj.normed, _root_.Proj.inv]

/-- One entry of the reference's sums, the joined outputs as one array. -/
theorem sums_at (X C : FVec Ideal S4x2048x2048 .f32) (W : FVec Ideal S2048x2048 .f32) (a : Fin 4) (b q : Fin 2048) :
    addf X (Host.dotGeneral dot_S4x2048x2048_S2048x2048_S4x2048x2048_2_0_01_1_n_n none C W) (ix3 a b q) = X (ix3 a b q) + ∑ k : Fin 2048, C (ix3 a b k) * W (ix2 k q) := by
  pointwise

end Reference

/-- The kernel's array is the reference's. -/
theorem algebraic : Cert.algebraic_OutBIdeal_RefOutBIdeal (hOutBIdeal := Cert.OutBIdeal.Gen.facts) (hRefOutBIdeal := Cert.RefOutBIdeal.Gen.facts) := by
  pair_intro
  · run_from Cert.OutBIdeal.Gen.run_main m g
  · run_from Cert.RefOutBIdeal.Value.run m' g'
    rw [final]
    rw [← (hagree c).1, ← (hagree c).2.1, ← (hagree c).2.2.1, ← (hagree c).2.2.2.1, ← (hagree c).2.2.2.2.1, ← (hagree c).2.2.2.2.2.1, ← (hagree c).2.2.2.2.2.2]
    funext j
    refine (ref_at _ _ j _ _ _ _ _ _ _).trans ?_
    refine Eq.trans (_root_.Proj.normed_congr (fun q => (sums_at _ _ _ _ _ q).trans (_root_.Proj.joined_eq _ _ _ _ _ _ _ _ _ _ (fun k => (cat_at _ _ _ _ _ _ k _ _ rfl).1)
      (fun k => (cat_at _ _ _ _ _ _ k _ _ rfl).2.1) (fun k => (cat_at _ _ _ _ _ _ k _ _ rfl).2.2.1) (fun k => (cat_at _ _ _ _ _ _ k _ _ rfl).2.2.2))) (fun q => rfl) _) rfl

end Cert.OutBIdeal.Proj
-- ==== Proof.lean ====
/- Every claim of the certificate, put together: the frames of all programs, the ideal programs, and for each projection
   that the kernel's arrays and the reference's are the same over the extended reals. -/
module

public import proofs.«01_k».proof.Proof.MixFrame
public import proofs.«01_k».proof.Proof.Gen.Mixers
public import proofs.«01_k».proof.Proof.Gen.Mixers.Skeleton
public import proofs.«01_k».proof.Proof.Gen.Mixers.Frame
public import proofs.«01_k».proof.Proof.InGlaVal
public import proofs.«01_k».proof.Proof.Gen.InGla.Frame
public import proofs.«01_k».proof.Proof.Gen.InGlaIdeal.Frame
public import proofs.«01_k».proof.Proof.Gen.RefInGlaIdeal
public import proofs.«01_k».proof.Proof.Gen.RefInGlaIdeal.Run
public import proofs.«01_k».proof.Proof.InSsdVal
public import proofs.«01_k».proof.Proof.Gen.InSsd.Frame
public import proofs.«01_k».proof.Proof.Gen.InSsdIdeal.Frame
public import proofs.«01_k».proof.Proof.Gen.RefInSsdIdeal
public import proofs.«01_k».proof.Proof.Gen.RefInSsdIdeal.Run
public import proofs.«01_k».proof.Proof.InMlstmVal
public import proofs.«01_k».proof.Proof.Gen.InMlstm.Frame
public import proofs.«01_k».proof.Proof.Gen.InMlstmIdeal.Frame
public import proofs.«01_k».proof.Proof.Gen.RefInMlstmIdeal
public import proofs.«01_k».proof.Proof.Gen.RefInMlstmIdeal.Run
public import proofs.«01_k».proof.Proof.InRwkvAVal
public import proofs.«01_k».proof.Proof.Gen.InRwkvA.Frame
public import proofs.«01_k».proof.Proof.Gen.InRwkvAIdeal.Frame
public import proofs.«01_k».proof.Proof.Gen.RefInRwkvAIdeal
public import proofs.«01_k».proof.Proof.Gen.RefInRwkvAIdeal.Run
public import proofs.«01_k».proof.Proof.InRwkvBVal
public import proofs.«01_k».proof.Proof.Gen.InRwkvB.Frame
public import proofs.«01_k».proof.Proof.Gen.InRwkvBIdeal.Frame
public import proofs.«01_k».proof.Proof.Gen.RefInRwkvBIdeal
public import proofs.«01_k».proof.Proof.Gen.RefInRwkvBIdeal.Run
public import proofs.«01_k».proof.Proof.OutAVal
public import proofs.«01_k».proof.Proof.Gen.OutA.Frame
public import proofs.«01_k».proof.Proof.Gen.OutAIdeal.Frame
public import proofs.«01_k».proof.Proof.Gen.RefOutAIdeal
public import proofs.«01_k».proof.Proof.Gen.RefOutAIdeal.Run
public import proofs.«01_k».proof.Proof.OutBVal
public import proofs.«01_k».proof.Proof.Gen.OutB.Frame
public import proofs.«01_k».proof.Proof.Gen.OutBIdeal.Frame
public import proofs.«01_k».proof.Proof.Gen.RefOutBIdeal
public import proofs.«01_k».proof.Proof.Gen.RefOutBIdeal.Run
public import proofs.«01_k».proof.Defs
public import Idealize.ShloMosaic.Adequacy
public import Idealize.ShloMosaic.Init

@[expose] public section

noncomputable section

namespace Cert.Proof

open Idealize.ShloMosaic Idealize.SL.Sem

/-- All the claims: no program faults or changes an argument, and each projection computes what the reference's lines do. -/
theorem claim : Cert.Claim := ⟨Cert.Mixers.Gen.facts, Cert.InGla.Gen.facts, Cert.InGlaIdeal.Gen.facts, Cert.RefInGlaIdeal.Gen.facts, Cert.InSsd.Gen.facts, Cert.InSsdIdeal.Gen.facts, Cert.RefInSsdIdeal.Gen.facts, Cert.InMlstm.Gen.facts, Cert.InMlstmIdeal.Gen.facts, Cert.RefInMlstmIdeal.Gen.facts, Cert.InRwkvA.Gen.facts, Cert.InRwkvAIdeal.Gen.facts, Cert.RefInRwkvAIdeal.Gen.facts, Cert.InRwkvB.Gen.facts, Cert.InRwkvBIdeal.Gen.facts, Cert.RefInRwkvBIdeal.Gen.facts, Cert.OutA.Gen.facts, Cert.OutAIdeal.Gen.facts, Cert.RefOutAIdeal.Gen.facts, Cert.OutB.Gen.facts, Cert.OutBIdeal.Gen.facts, Cert.RefOutBIdeal.Gen.facts,
  fun m ρ _ => Cert.Mixers.Mix.frame_claim m ρ,
  fun m ρ _ => Cert.InGla.Gen.frame m ρ, fun m ρ _ => Cert.InGlaIdeal.Gen.frame m ρ,
  (fun m ρ _ => (θ_run Cert.RefInGlaIdeal.defs _ _).mono (fun r h => ⟨fun c => (h c).2, sem_eq_zero_of_no_sems (by decide) r.2⟩) (Cert.RefInGlaIdeal.Value.run (F := Ideal) m ρ)),
  fun m ρ _ => Cert.InSsd.Gen.frame m ρ, fun m ρ _ => Cert.InSsdIdeal.Gen.frame m ρ,
  (fun m ρ _ => (θ_run Cert.RefInSsdIdeal.defs _ _).mono (fun r h => ⟨fun c => (h c).2, sem_eq_zero_of_no_sems (by decide) r.2⟩) (Cert.RefInSsdIdeal.Value.run (F := Ideal) m ρ)),
  fun m ρ _ => Cert.InMlstm.Gen.frame m ρ, fun m ρ _ => Cert.InMlstmIdeal.Gen.frame m ρ,
  (fun m ρ _ => (θ_run Cert.RefInMlstmIdeal.defs _ _).mono (fun r h => ⟨fun c => (h c).2, sem_eq_zero_of_no_sems (by decide) r.2⟩) (Cert.RefInMlstmIdeal.Value.run (F := Ideal) m ρ)),
  fun m ρ _ => Cert.InRwkvA.Gen.frame m ρ, fun m ρ _ => Cert.InRwkvAIdeal.Gen.frame m ρ,
  (fun m ρ _ => (θ_run Cert.RefInRwkvAIdeal.defs _ _).mono (fun r h => ⟨fun c => (h c).2.2.2, sem_eq_zero_of_no_sems (by decide) r.2⟩) (Cert.RefInRwkvAIdeal.Value.run (F := Ideal) m ρ)),
  fun m ρ _ => Cert.InRwkvB.Gen.frame m ρ, fun m ρ _ => Cert.InRwkvBIdeal.Gen.frame m ρ,
  (fun m ρ _ => (θ_run Cert.RefInRwkvBIdeal.defs _ _).mono (fun r h => ⟨fun c => (h c).2.2.2, sem_eq_zero_of_no_sems (by decide) r.2⟩) (Cert.RefInRwkvBIdeal.Value.run (F := Ideal) m ρ)),
  fun m ρ _ => Cert.OutA.Gen.frame m ρ, fun m ρ _ => Cert.OutAIdeal.Gen.frame m ρ,
  (fun m ρ _ => (θ_run Cert.RefOutAIdeal.defs _ _).mono (fun r h => ⟨fun c => (h c).2, sem_eq_zero_of_no_sems (by decide) r.2⟩) (Cert.RefOutAIdeal.Value.run (F := Ideal) m ρ)),
  fun m ρ _ => Cert.OutB.Gen.frame m ρ, fun m ρ _ => Cert.OutBIdeal.Gen.frame m ρ,
  (fun m ρ _ => (θ_run Cert.RefOutBIdeal.defs _ _).mono (fun r h => ⟨fun c => (h c).2, sem_eq_zero_of_no_sems (by decide) r.2⟩) (Cert.RefOutBIdeal.Value.run (F := Ideal) m ρ)),
  trivial, Cert.InGlaIdeal.Proj.algebraic, trivial, Cert.InSsdIdeal.Proj.algebraic, trivial, Cert.InMlstmIdeal.Proj.algebraic, trivial, Cert.InRwkvAIdeal.Proj.algebraic, trivial, Cert.InRwkvBIdeal.Proj.algebraic, trivial, Cert.OutAIdeal.Proj.algebraic, trivial, Cert.OutBIdeal.Proj.algebraic⟩

end Cert.Proof

end
